-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v93) = v0 c
          ∧ r.2.mem ((c.tc : Thread Cert.Reference2Ideal.nD Cert.Reference2Ideal.τ).loc Cert.Reference2Ideal.main_v74) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)) (v1 : (c : Dev Cert.Kernel3Ideal.nD) → Buf (Elt Ideal) ((c.tc : Thread Cert.Kernel3Ideal.nD Cert.Kernel3Ideal.τ).loc Cert.Kernel3Ideal.main_v4)) (v2 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_v4) = v1 c
          ∧ r.2.mem ((c.tc : Thread Cert.Kernel3Ideal.nD Cert.Kernel3Ideal.τ).loc Cert.Kernel3Ideal.main_v8) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_v8) = v1 c
          ∧ r.2.mem ((c.tc : Thread Cert.Reference3Ideal.nD Cert.Reference3Ideal.τ).loc Cert.Reference3Ideal.main_v10) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)) (v1 : (c : Dev Cert.Kernel5Ideal.nD) → Buf (Elt Ideal) ((c.tc : Thread Cert.Kernel5Ideal.nD Cert.Kernel5Ideal.τ).loc Cert.Kernel5Ideal.main_v5)) (v2 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_v5) = v1 c
          ∧ r.2.mem ((c.tc : Thread Cert.Kernel5Ideal.nD Cert.Kernel5Ideal.τ).loc Cert.Kernel5Ideal.main_v9) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2)) (v1 : (c : Dev Cert.Kernel7Ideal.nD) → Buf (Elt Ideal) ((c.tc : Thread Cert.Kernel7Ideal.nD Cert.Kernel7Ideal.τ).loc Cert.Kernel7Ideal.main_v5)) (v2 : (c : Dev Cert.Kernel7Ideal.nD) → Buf (Elt Ideal) ((c.tc : Thread Cert.Kernel7Ideal.nD Cert.Kernel7Ideal.τ).loc Cert.Kernel7Ideal.main_v9)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_v5) = v1 c
          ∧ r.2.mem ((c.tc : Thread Cert.Kernel7Ideal.nD Cert.Kernel7Ideal.τ).loc Cert.Kernel7Ideal.main_v9) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_v13) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)) (v1 : (c : Dev Cert.Kernel10Ideal.nD) → Buf (Elt Ideal) ((c.tc : Thread Cert.Kernel10Ideal.nD Cert.Kernel10Ideal.τ).loc Cert.Kernel10Ideal.main_v5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_v5) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v98) = v0 c
          ∧ r.2.mem ((c.tc : Thread Cert.Reference8Ideal.nD Cert.Reference8Ideal.τ).loc Cert.Reference8Ideal.main_v99) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v38) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v38) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v19_0)) (v1 : (c : Dev Cert.Kernel12Ideal.nD) → Buf (Elt Ideal) ((c.tc : Thread Cert.Kernel12Ideal.nD Cert.Kernel12Ideal.τ).loc Cert.Kernel12Ideal.main_v19_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v19_0) = v0 c
          ∧ r.2.mem ((c.tc : Thread Cert.Kernel12Ideal.nD Cert.Kernel12Ideal.τ).loc Cert.Kernel12Ideal.main_v19_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v19) = v0 c
          ∧ r.2.mem ((c.tc : Thread Cert.Reference12Ideal.nD Cert.Reference12Ideal.τ).loc Cert.Reference12Ideal.main_v22) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v19_0)) (v1 : (c : Dev Cert.Kernel13Ideal.nD) → Buf (Elt Ideal) ((c.tc : Thread Cert.Kernel13Ideal.nD Cert.Kernel13Ideal.τ).loc Cert.Kernel13Ideal.main_v19_1)) (v2 : (c : Dev Cert.Kernel13Ideal.nD) → Buf (Elt Ideal) ((c.tc : Thread Cert.Kernel13Ideal.nD Cert.Kernel13Ideal.τ).loc Cert.Kernel13Ideal.main_v19_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v19_0) = v0 c
          ∧ r.2.mem ((c.tc : Thread Cert.Kernel13Ideal.nD Cert.Kernel13Ideal.τ).loc Cert.Kernel13Ideal.main_v19_1) = v1 c
          ∧ r.2.mem ((c.tc : Thread Cert.Kernel13Ideal.nD Cert.Kernel13Ideal.τ).loc Cert.Kernel13Ideal.main_v19_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v21) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v30) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel6 : Cert.Kernel6.Facts) (hKernel6Ideal : Cert.Kernel6Ideal.Facts) (hReference6Ideal : Cert.Reference6Ideal.Facts) (hKernel4 : Cert.Kernel4.Facts) (hKernel4Ideal : Cert.Kernel4Ideal.Facts) (hReference4Ideal : Cert.Reference4Ideal.Facts) (hKernel10 : Cert.Kernel10.Facts) (hKernel10Ideal : Cert.Kernel10Ideal.Facts) (hReference10Ideal : Cert.Reference10Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel6_Kernel6Ideal
    ∧ algebraic_Kernel6Ideal_Reference6Ideal (hKernel6Ideal := hKernel6Ideal) (hReference6Ideal := hReference6Ideal)
    ∧ preserves_Kernel4_Kernel4Ideal
    ∧ algebraic_Kernel4Ideal_Reference4Ideal (hKernel4Ideal := hKernel4Ideal) (hReference4Ideal := hReference4Ideal)
    ∧ preserves_Kernel10_Kernel10Ideal
    ∧ algebraic_Kernel10Ideal_Reference10Ideal (hKernel10Ideal := hKernel10Ideal) (hReference10Ideal := hReference10Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Kernel.lean ====
abbrev S8320x8192 : Shape := ⟨2, ![8320, 8192]⟩
abbrev S128x3x4096 : Shape := ⟨3, ![128, 3, 4096]⟩
abbrev S128x4096 : Shape := ⟨2, ![128, 4096]⟩
abbrev S4x4096 : Shape := ⟨2, ![4, 4096]⟩
abbrev S4096 : Shape := ⟨1, ![4096]⟩
abbrev S16x256x512 : Shape := ⟨3, ![16, 256, 512]⟩
abbrev S8192 : Shape := ⟨1, ![8192]⟩
abbrev S3x128x4096 : Shape := ⟨3, ![3, 128, 4096]⟩
abbrev S1x4096 : Shape := ⟨2, ![1, 4096]⟩
abbrev S1x8192 : Shape := ⟨2, ![1, 8192]⟩
abbrev S128x256 : Shape := ⟨2, ![128, 256]⟩
abbrev S3x128x256 : Shape := ⟨3, ![3, 128, 256]⟩
abbrev S4x256 : Shape := ⟨2, ![4, 256]⟩
abbrev S1x256 : Shape := ⟨2, ![1, 256]⟩
abbrev S1x256x512 : Shape := ⟨3, ![1, 256, 512]⟩
abbrev S1x128x256 : Shape := ⟨3, ![1, 128, 256]⟩
abbrev S256x512 : Shape := ⟨2, ![256, 512]⟩
abbrev S128x512 : Shape := ⟨2, ![128, 512]⟩

abbrev nBuf : Space → Nat
  | .hbm => 16
  | .vmem => 24
  | .smem => 0
  | _ => 0

abbrev bufTy : (tb : Table) → Fin (tcTables nBuf tb) → BufTy
  | .hbm, ⟨0, _⟩ => ⟨S8320x8192, .f32⟩
  | .hbm, ⟨1, _⟩ => ⟨S128x3x4096, .f32⟩
  | .hbm, ⟨2, _⟩ => ⟨S128x4096, .f32⟩
  | .hbm, ⟨3, _⟩ => ⟨S4x4096, .f32⟩
  | .hbm, ⟨4, _⟩ => ⟨S4096, .f32⟩
  | .hbm, ⟨5, _⟩ => ⟨S16x256x512, .f32⟩
  | .hbm, ⟨6, _⟩ => ⟨S8192, .f32⟩
  | .hbm, ⟨7, _⟩ => ⟨S4096, .f32⟩
  | .hbm, ⟨8, _⟩ => ⟨S3x128x4096, .f32⟩
  | .hbm, ⟨9, _⟩ => ⟨S16x256x512, .bf16⟩
  | .hbm, ⟨10, _⟩ => ⟨S1x4096, .f32⟩
  | .hbm, ⟨11, _⟩ => ⟨S1x8192, .f32⟩
  | .hbm, ⟨12, _⟩ => ⟨S1x8192, .f32⟩
  | .hbm, ⟨13, _⟩ => ⟨S1x4096, .f32⟩
  | .hbm, ⟨14, _⟩ => ⟨S128x4096, .bf16⟩
  | .hbm, ⟨15, _⟩ => ⟨S128x4096, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S3x128x256, .f32⟩
  | .local _ .vmem, ⟨5, _⟩ => ⟨S3x128x256, .f32⟩
  | .local _ .vmem, ⟨6, _⟩ => ⟨S128x256, .f32⟩
  | .local _ .vmem, ⟨7, _⟩ => ⟨S128x256, .f32⟩
  | .local _ .vmem, ⟨8, _⟩ => ⟨S4x256, .f32⟩
  | .local _ .vmem, ⟨9, _⟩ => ⟨S4x256, .f32⟩
  | .local _ .vmem, ⟨10, _⟩ => ⟨S1x256, .f32⟩
  | .local _ .vmem, ⟨11, _⟩ => ⟨S1x256, .f32⟩
  | .local _ .vmem, ⟨12, _⟩ => ⟨S1x256x512, .bf16⟩
  | .local _ .vmem, ⟨13, _⟩ => ⟨S1x256x512, .bf16⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S128x256, .bf16⟩
  | .local _ .vmem, ⟨21, _⟩ => ⟨S128x256, .bf16⟩
  | .local _ .vmem, ⟨22, _⟩ => ⟨S128x256, .f32⟩
  | .local _ .vmem, ⟨23, _⟩ => ⟨S128x256, .f32⟩
  | _, _ => ⟨S8320x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c64_i32 : BitVec 32 := 64#32
  let c0_i32 : BitVec 32 := 0#32
  ![c64_i32.toNat, arg0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c64_i32 : BitVec 32 := 64#32
  let c0_i32 : BitVec 32 := 0#32
  ![c64_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8320x8192 : Shape := ⟨2, ![8320, 8192]⟩
abbrev S128x3x4096 : Shape := ⟨3, ![128, 3, 4096]⟩
abbrev S128x4096 : Shape := ⟨2, ![128, 4096]⟩
abbrev S4x4096 : Shape := ⟨2, ![4, 4096]⟩
abbrev S4096 : Shape := ⟨1, ![4096]⟩
abbrev S16x256x512 : Shape := ⟨3, ![16, 256, 512]⟩
abbrev S8192 : Shape := ⟨1, ![8192]⟩
abbrev S_ : Shape := ⟨0, ![]⟩
abbrev S128x1x4096 : Shape := ⟨3, ![128, 1, 4096]⟩
abbrev S128x4x4096 : Shape := ⟨3, ![128, 4, 4096]⟩
abbrev S1x4096 : Shape := ⟨2, ![1, 4096]⟩
abbrev S128x16x256 : Shape := ⟨3, ![128, 16, 256]⟩
abbrev S16x512x128 : Shape := ⟨3, ![16, 512, 128]⟩
abbrev S128x16x512 : Shape := ⟨3, ![128, 16, 512]⟩

abbrev nBuf : Space → Nat
  | .hbm => 128
  | .vmem => 0
  | .smem => 0
  | _ => 0

abbrev bufTy : (tb : Table) → Fin (tcTables nBuf tb) → BufTy
  | .hbm, ⟨0, _⟩ => ⟨S8320x8192, .f32⟩
  | .hbm, ⟨1, _⟩ => ⟨S128x3x4096, .f32⟩
  | .hbm, ⟨2, _⟩ => ⟨S128x4096, .f32⟩
  | .hbm, ⟨3, _⟩ => ⟨S4x4096, .f32⟩
  | .hbm, ⟨4, _⟩ => ⟨S4096, .f32⟩
  | .hbm, ⟨5, _⟩ => ⟨S16x256x512, .f32⟩
  | .hbm, ⟨6, _⟩ => ⟨S8192, .f32⟩
  | .hbm, ⟨7, _⟩ => ⟨S4096, .f32⟩
  | .hbm, ⟨8, _⟩ => ⟨S128x4096, .f32⟩
  | .hbm, ⟨9, _⟩ => ⟨S128x4096, .f32⟩
  | .hbm, ⟨10, _⟩ => ⟨S128x4096, .f32⟩
  | .hbm, ⟨11, _⟩ => ⟨S128x4096, .f32⟩
  | .hbm, ⟨12, _⟩ => ⟨S_, .f32⟩
  | .hbm, ⟨13, _⟩ => ⟨S128x4096, .f32⟩
  | .hbm, ⟨14, _⟩ => ⟨S128x4096, .f32⟩
  | .hbm, ⟨15, _⟩ => ⟨S128x4096, .f32⟩
  | .hbm, ⟨16, _⟩ => ⟨S_, .f32⟩
  | .hbm, ⟨17, _⟩ => ⟨S128x4096, .f32⟩
  | .hbm, ⟨18, _⟩ => ⟨S128x4096, .f32⟩
  | .hbm, ⟨19, _⟩ => ⟨S128x4096, .f32⟩
  | .hbm, ⟨20, _⟩ => ⟨S_, .f32⟩
  | .hbm, ⟨21, _⟩ => ⟨S128x4096, .f32⟩
  | .hbm, ⟨22, _⟩ => ⟨S128x4096, .f32⟩
  | .hbm, ⟨23, _⟩ => ⟨S_, .f32⟩
  | .hbm, ⟨24, _⟩ => ⟨S128x4096, .f32⟩
  | .hbm, ⟨25, _⟩ => ⟨S128x4096, .f32⟩
  | .hbm, ⟨26, _⟩ => ⟨S128x4096, .f32⟩
  | .hbm, ⟨27, _⟩ => ⟨S128x1x4096, .f32⟩
  | .hbm, ⟨28, _⟩ => ⟨S128x4x4096, .f32⟩
  | .hbm, ⟨29, _⟩ => ⟨S128x1x4096, .f32⟩
  | .hbm, ⟨30, _⟩ => ⟨S128x4096, .f32⟩
  | .hbm, ⟨31, _⟩ => ⟨S1x4096, .f32⟩
  | .hbm, ⟨32, _⟩ => ⟨S4096, .f32⟩
  | .hbm, ⟨33, _⟩ => ⟨S1x4096, .f32⟩
  | .hbm, ⟨34, _⟩ => ⟨S128x4096, .f32⟩
  | .hbm, ⟨35, _⟩ => ⟨S128x4096, .f32⟩
  | .hbm, ⟨36, _⟩ => ⟨S128x1x4096, .f32⟩
  | .hbm, ⟨37, _⟩ => ⟨S128x4096, .f32⟩
  | .hbm, ⟨38, _⟩ => ⟨S1x4096, .f32⟩
  | .hbm, ⟨39, _⟩ => ⟨S4096, .f32⟩
  | .hbm, ⟨40, _⟩ => ⟨S1x4096, .f32⟩
  | .hbm, ⟨41, _⟩ => ⟨S128x4096, .f32⟩
  | .hbm, ⟨42, _⟩ => ⟨S128x4096, .f32⟩
  | .hbm, ⟨43, _⟩ => ⟨S128x4096, .f32⟩
  | .hbm, ⟨44, _⟩ => ⟨S128x1x4096, .f32⟩
  | .hbm, ⟨45, _⟩ => ⟨S128x4096, .f32⟩
  | .hbm, ⟨46, _⟩ => ⟨S1x4096, .f32⟩
  | .hbm, ⟨47, _⟩ => ⟨S4096, .f32⟩
  | .hbm, ⟨48, _⟩ => ⟨S1x4096, .f32⟩
  | .hbm, ⟨49, _⟩ => ⟨S128x4096, .f32⟩
  | .hbm, ⟨50, _⟩ => ⟨S128x4096, .f32⟩
  | .hbm, ⟨51, _⟩ => ⟨S128x4096, .f32⟩
  | .hbm, ⟨52, _⟩ => ⟨S128x1x4096, .f32⟩
  | .hbm, ⟨53, _⟩ => ⟨S128x4096, .f32⟩
  | .hbm, ⟨54, _⟩ => ⟨S1x4096, .f32⟩
  | .hbm, ⟨55, _⟩ => ⟨S4096, .f32⟩
  | .hbm, ⟨56, _⟩ => ⟨S1x4096, .f32⟩
  | .hbm, ⟨57, _⟩ => ⟨S128x4096, .f32⟩
  | .hbm, ⟨58, _⟩ => ⟨S128x4096, .f32⟩
  | .hbm, ⟨59, _⟩ => ⟨S128x4096, .f32⟩
  | .hbm, ⟨60, _⟩ => ⟨S1x4096, .f32⟩
  | .hbm, ⟨61, _⟩ => ⟨S128x4096, .f32⟩
  | .hbm, ⟨62, _⟩ => ⟨S128x4096, .f32⟩
  | .hbm, ⟨63, _⟩ => ⟨S128x16x256, .f32⟩
  | .hbm, ⟨64, _⟩ => ⟨S16x512x128, .f32⟩
  | .hbm, ⟨65, _⟩ => ⟨S128x16x512, .f32⟩
  | .hbm, ⟨66, _⟩ => ⟨S128x16x256, .f32⟩
  | .hbm, ⟨67, _⟩ => ⟨S128x4096, .f32⟩
  | .hbm, ⟨68, _⟩ => ⟨S4096, .f32⟩
  | .hbm, ⟨69, _⟩ => ⟨S1x4096, .f32⟩
  | .hbm, ⟨70, _⟩ => ⟨S128x4096, .f32⟩
  | .hbm, ⟨71, _⟩ => ⟨S128x4096, .f32⟩
  | .hbm, ⟨72, _⟩ => ⟨S128x4096, .f32⟩
  | .hbm, ⟨73, _⟩ => ⟨S128x4096, .f32⟩
  | .hbm, ⟨74, _⟩ => ⟨S_, .f32⟩
  | .hbm, ⟨75, _⟩ => ⟨S128x4096, .f32⟩
  | .hbm, ⟨76, _⟩ => ⟨S128x4096, .f32⟩
  | .hbm, ⟨77, _⟩ => ⟨S_, .f32⟩
  | .hbm, ⟨78, _⟩ => ⟨S128x4096, .f32⟩
  | .hbm, ⟨79, _⟩ => ⟨S128x4096, .f32⟩
  | .hbm, ⟨80, _⟩ => ⟨S128x16x256, .f32⟩
  | .hbm, ⟨81, _⟩ => ⟨S128x4096, .f32⟩
  | .hbm, ⟨82, _⟩ => ⟨S4096, .f32⟩
  | .hbm, ⟨83, _⟩ => ⟨S1x4096, .f32⟩
  | .hbm, ⟨84, _⟩ => ⟨S128x4096, .f32⟩
  | .hbm, ⟨85, _⟩ => ⟨S128x4096, .f32⟩
  | .hbm, ⟨86, _⟩ => ⟨S128x4096, .f32⟩
  | .hbm, ⟨87, _⟩ => ⟨S128x4096, .f32⟩
  | .hbm, ⟨88, _⟩ => ⟨S_, .f32⟩
  | .hbm, ⟨89, _⟩ => ⟨S128x4096, .f32⟩
  | .hbm, ⟨90, _⟩ => ⟨S128x4096, .f32⟩
  | .hbm, ⟨91, _⟩ => ⟨S_, .f32⟩
  | .hbm, ⟨92, _⟩ => ⟨S128x4096, .f32⟩
  | .hbm, ⟨93, _⟩ => ⟨S128x4096, .f32⟩
  | .hbm, ⟨94, _⟩ => ⟨S_, .f32⟩
  | .hbm, ⟨95, _⟩ => ⟨S128x4096, .f32⟩
  | .hbm, ⟨96, _⟩ => ⟨S128x4096, .f32⟩
  | .hbm, ⟨97, _⟩ => ⟨S4096, .f32⟩
  | .hbm, ⟨98, _⟩ => ⟨S_, .f32⟩
  | .hbm, ⟨99, _⟩ => ⟨S4096, .f32⟩
  | .hbm, ⟨100, _⟩ => ⟨S4096, .f32⟩
  | .hbm, ⟨101, _⟩ => ⟨S4096, .f32⟩
  | .hbm, ⟨102, _⟩ => ⟨S4096, .f32⟩
  | .hbm, ⟨103, _⟩ => ⟨S4096, .i1⟩
  | .hbm, ⟨104, _⟩ => ⟨S4096, .f32⟩
  | .hbm, ⟨105, _⟩ => ⟨S4096, .f32⟩
  | .hbm, ⟨106, _⟩ => ⟨S4096, .f32⟩
  | .hbm, ⟨107, _⟩ => ⟨S4096, .f32⟩
  | .hbm, ⟨108, _⟩ => ⟨S4096, .f32⟩
  | .hbm, ⟨109, _⟩ => ⟨S4096, .f32⟩
  | .hbm, ⟨110, _⟩ => ⟨S4096, .f32⟩
  | .hbm, ⟨111, _⟩ => ⟨S4096, .f32⟩
  | .hbm, ⟨112, _⟩ => ⟨S1x4096, .f32⟩
  | .hbm, ⟨113, _⟩ => ⟨S128x4096, .f32⟩
  | .hbm, ⟨114, _⟩ => ⟨S128x4096, .f32⟩
  | .hbm, ⟨115, _⟩ => ⟨S128x4096, .f32⟩
  | .hbm, ⟨116, _⟩ => ⟨S_, .f32⟩
  | .hbm, ⟨117, _⟩ => ⟨S128x4096, .f32⟩
  | .hbm, ⟨118, _⟩ => ⟨S128x4096, .f32⟩
  | .hbm, ⟨119, _⟩ => ⟨S128x4096, .f32⟩
  | .hbm, ⟨120, _⟩ => ⟨S128x4096, .f32⟩
  | .hbm, ⟨121, _⟩ => ⟨S128x4096, .f32⟩
  | .hbm, ⟨122, _⟩ => ⟨S128x4096, .f32⟩
  | .hbm, ⟨123, _⟩ => ⟨S128x4096, .f32⟩
  | .hbm, ⟨124, _⟩ => ⟨S128x4096, .f32⟩
  | .hbm, ⟨125, _⟩ => ⟨S128x4096, .f32⟩
  | .hbm, ⟨126, _⟩ => ⟨S128x4096, .f32⟩
  | .hbm, ⟨127, _⟩ => ⟨S128x4096, .bf16⟩
  | _, _ => ⟨S8320x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_3 : Ref sig .tc := ⟨.hbm, 74, rfl⟩
abbrev main_v62 : Ref sig .tc := ⟨.hbm, 75, rfl⟩
abbrev main_v63 : Ref sig .tc := ⟨.hbm, 76, rfl⟩
abbrev main_cst_4 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_5 : Ref sig .tc := ⟨.hbm, 88, rfl⟩
abbrev main_v74 : Ref sig .tc := ⟨.hbm, 89, rfl⟩
abbrev main_v75 : Ref sig .tc := ⟨.hbm, 90, rfl⟩
abbrev main_cst_6 : Ref sig .tc := ⟨.hbm, 91, rfl⟩
abbrev main_v76 : Ref sig .tc := ⟨.hbm, 92, rfl⟩
abbrev main_v77 : Ref sig .tc := ⟨.hbm, 93, rfl⟩
abbrev main_cst_7 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_call0_cst : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_v8 : Ref sig .tc := ⟨.hbm, 107, rfl⟩
abbrev main_call0_v9 : Ref sig .tc := ⟨.hbm, 108, rfl⟩
abbrev main_call0_v10 : Ref sig .tc := ⟨.hbm, 109, rfl⟩
abbrev main_call0_v11 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_8 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩

abbrev nD : Nat := 1
abbrev τ : Topo := Topo.v7x

variable {F : FTy → Type} [FloatOps F]
-- ==== Kernel2.lean ====
abbrev S8320x16384 : Shape := ⟨2, ![8320, 16384]⟩
abbrev S128x3x12288 : Shape := ⟨3, ![128, 3, 12288]⟩
abbrev S128x32 : Shape := ⟨2, ![128, 32]⟩
abbrev S4x12288 : Shape := ⟨2, ![4, 12288]⟩
abbrev S128 : Shape := ⟨1, ![128]⟩
abbrev S128x32x128x128 : Shape := ⟨4, ![128, 32, 128, 128]⟩
abbrev S128x32x1 : Shape := ⟨3, ![128, 32, 1]⟩
abbrev S128x32x128 : Shape := ⟨3, ![128, 32, 128]⟩
abbrev S128x4096 : Shape := ⟨2, ![128, 4096]⟩
abbrev S3x128x12288 : Shape := ⟨3, ![3, 128, 12288]⟩
abbrev S1x128 : Shape := ⟨2, ![1, 128]⟩
abbrev S64x128 : Shape := ⟨2, ![64, 128]⟩
abbrev S3x64x128 : Shape := ⟨3, ![3, 64, 128]⟩
abbrev S4x128 : Shape := ⟨2, ![4, 128]⟩
abbrev S64x1x128x128 : Shape := ⟨4, ![64, 1, 128, 128]⟩
abbrev S1x64x128 : Shape := ⟨3, ![1, 64, 128]⟩
abbrev S64 : Shape := ⟨1, ![64]⟩
abbrev S64x1 : Shape := ⟨2, ![64, 1]⟩
abbrev S128x128 : Shape := ⟨2, ![128, 128]⟩
abbrev S1x1x128x128 : Shape := ⟨4, ![1, 1, 128, 128]⟩
abbrev S1x1x128 : Shape := ⟨3, ![1, 1, 128]⟩

abbrev nBuf : Space → Nat
  | .hbm => 17
  | .vmem => 35
  | .smem => 0
  | _ => 0

abbrev bufTy : (tb : Table) → Fin (tcTables nBuf tb) → BufTy
  | .hbm, ⟨0, _⟩ => ⟨S8320x16384, .f32⟩
  | .hbm, ⟨1, _⟩ => ⟨S128x3x12288, .f32⟩
  | .hbm, ⟨2, _⟩ => ⟨S128x32, .f32⟩
  | .hbm, ⟨3, _⟩ => ⟨S128x32, .f32⟩
  | .hbm, ⟨4, _⟩ => ⟨S4x12288, .f32⟩
  | .hbm, ⟨5, _⟩ => ⟨S128, .f32⟩
  | .hbm, ⟨6, _⟩ => ⟨S128x32x128x128, .f32⟩
  | .hbm, ⟨7, _⟩ => ⟨S128x32x1, .f32⟩
  | .hbm, ⟨8, _⟩ => ⟨S128x32x128, .f32⟩
  | .hbm, ⟨9, _⟩ => ⟨S128x4096, .f32⟩
  | .hbm, ⟨10, _⟩ => ⟨S128x32x1, .f32⟩
  | .hbm, ⟨11, _⟩ => ⟨S128x32x128, .f32⟩
  | .hbm, ⟨12, _⟩ => ⟨S128x4096, .f32⟩
  | .hbm, ⟨13, _⟩ => ⟨S3x128x12288, .f32⟩
  | .hbm, ⟨14, _⟩ => ⟨S1x128, .f32⟩
  | .hbm, ⟨15, _⟩ => ⟨S128x4096, .bf16⟩
  | .hbm, ⟨16, _⟩ => ⟨S128x32x128x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S3x64x128, .f32⟩
  | .local _ .vmem, ⟨9, _⟩ => ⟨S3x64x128, .f32⟩
  | .local _ .vmem, ⟨10, _⟩ => ⟨S3x64x128, .f32⟩
  | .local _ .vmem, ⟨11, _⟩ => ⟨S3x64x128, .f32⟩
  | .local _ .vmem, ⟨12, _⟩ => ⟨S3x64x128, .f32⟩
  | .local _ .vmem, ⟨13, _⟩ => ⟨S3x64x128, .f32⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | .local _ .vmem, ⟨18, _⟩ => ⟨S4x128, .f32⟩
  | .local _ .vmem, ⟨19, _⟩ => ⟨S4x128, .f32⟩
  | .local _ .vmem, ⟨20, _⟩ => ⟨S4x128, .f32⟩
  | .local _ .vmem, ⟨21, _⟩ => ⟨S4x128, .f32⟩
  | .local _ .vmem, ⟨22, _⟩ => ⟨S4x128, .f32⟩
  | .local _ .vmem, ⟨23, _⟩ => ⟨S4x128, .f32⟩
  | .local _ .vmem, ⟨24, _⟩ => ⟨S1x128, .f32⟩
  | .local _ .vmem, ⟨25, _⟩ => ⟨S64x1x128x128, .f32⟩
  | .local _ .vmem, ⟨26, _⟩ => ⟨S64x1x128x128, .f32⟩
  | .local _ .vmem, ⟨27, _⟩ => ⟨S64x128, .bf16⟩
  | .local _ .vmem, ⟨28, _⟩ => ⟨S64x128, .bf16⟩
  | .local _ .vmem, ⟨29, _⟩ => ⟨S64x1x128x128, .f32⟩
  | .local _ .vmem, ⟨30, _⟩ => ⟨S64x1x128x128, .f32⟩
  | .local _ .vmem, ⟨31, _⟩ => ⟨S64x128, .f32⟩
  | .local _ .vmem, ⟨32, _⟩ => ⟨S64x128, .f32⟩
  | .local _ .vmem, ⟨33, _⟩ => ⟨S3x64x128, .f32⟩
  | .local _ .vmem, ⟨34, _⟩ => ⟨S64x128, .f32⟩
  | _, _ => ⟨S8320x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![32, 2], ![false, false]⟩

@[reducible] def k0_t1_loop : Scf.Loop 32 :=
  let c0_i32 : BitVec 32 := 0#32
  let c64_i32 : BitVec 32 := 64#32
  let v131 : BitVec 32 := Scalar.addi c0_i32 c64_i32
  let c1_i32 : BitVec 32 := 1#32
  ⟨c0_i32, v131, c1_i32⟩
def k0_off1 (k0_t1 : Fin k0_t1_loop.trips) : Fin 2 → Nat :=
  let c0_i32 : BitVec 32 := 0#32
  let c1_i32 : BitVec 32 := 1#32
  let arg22 : BitVec 32 := Scf.iv c0_i32 c1_i32 k0_t1
  let v159 : Index := Scalar.indexCast arg22
  let c0_81 : Index := 0#32
  ![v159.toNat, 0]
def k0_off2 (k0_t1 : Fin k0_t1_loop.trips) : Fin 4 → Nat :=
  let c0_i32 : BitVec 32 := 0#32
  let c1_i32 : BitVec 32 := 1#32
  let arg22 : BitVec 32 := Scf.iv c0_i32 c1_i32 k0_t1
  let v169 : Index := Scalar.indexCast arg22
  let c0_83 : Index := 0#32
  let c0_84 : Index := 0#32
  let c0_85 : Index := 0#32
  ![v169.toNat, 0, 0, 0]
def k0_off3 (k0_t1 : Fin k0_t1_loop.trips) : Fin 3 → Nat :=
  let c0_86 : Index := 0#32
  let c0_i32 : BitVec 32 := 0#32
  let c1_i32 : BitVec 32 := 1#32
  let arg22 : BitVec 32 := Scf.iv c0_i32 c1_i32 k0_t1
  let v172 : Index := Scalar.indexCast arg22
  let c0_87 : Index := 0#32
  ![0, v172.toNat, 0]
def k0_off4 (k0_t1 : Fin k0_t1_loop.trips) : Fin 3 → Nat :=
  let c1_89 : Index := 1#32
  let c0_i32 : BitVec 32 := 0#32
  let c1_i32 : BitVec 32 := 1#32
  let arg22 : BitVec 32 := Scf.iv c0_i32 c1_i32 k0_t1
  let v180 : Index := Scalar.indexCast arg22
  let c0_90 : Index := 0#32
  ![1, v180.toNat, 0]
def k0_off5 (k0_t1 : Fin k0_t1_loop.trips) : Fin 3 → Nat :=
  let c2_91 : Index := 2#32
  let c0_i32 : BitVec 32 := 0#32
  let c1_i32 : BitVec 32 := 1#32
  let arg22 : BitVec 32 := Scf.iv c0_i32 c1_i32 k0_t1
  let v183 : Index := Scalar.indexCast arg22
  let c0_92 : Index := 0#32
  ![2, v183.toNat, 0]
def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c32_i32 : BitVec 32 := 32#32
  let v1 : BitVec 32 := Scalar.addi c32_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c64_i32 : BitVec 32 := 64#32
  let v1 : BitVec 32 := Scalar.addi c64_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg1
  let c96_i32 : BitVec 32 := 96#32
  let v1 : BitVec 32 := Scalar.addi c96_i32 arg0
  let c0_i32 : BitVec 32 := 0#32
  ![v0.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, arg1.toNat, v0.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, arg1.toNat, v0.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S3x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x64x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S64x1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8320x16384 : Shape := ⟨2, ![8320, 16384]⟩
abbrev S128x3x12288 : Shape := ⟨3, ![128, 3, 12288]⟩
abbrev S128x32 : Shape := ⟨2, ![128, 32]⟩
abbrev S4x12288 : Shape := ⟨2, ![4, 12288]⟩
abbrev S128 : Shape := ⟨1, ![128]⟩
abbrev S128x32x128x128 : Shape := ⟨4, ![128, 32, 128, 128]⟩
abbrev S128x12288 : Shape := ⟨2, ![128, 12288]⟩
abbrev S128x4096 : Shape := ⟨2, ![128, 4096]⟩
abbrev S128x1x12288 : Shape := ⟨3, ![128, 1, 12288]⟩
abbrev S128x4x12288 : Shape := ⟨3, ![128, 4, 12288]⟩
abbrev S1x12288 : Shape := ⟨2, ![1, 12288]⟩
abbrev S12288 : Shape := ⟨1, ![12288]⟩
abbrev S_ : Shape := ⟨0, ![]⟩
abbrev S128x32x128 : Shape := ⟨3, ![128, 32, 128]⟩
abbrev S128x32x1 : Shape := ⟨3, ![128, 32, 1]⟩
abbrev S128x32x1x1 : Shape := ⟨4, ![128, 32, 1, 1]⟩
abbrev S128x32x128x1 : Shape := ⟨4, ![128, 32, 128, 1]⟩
abbrev S128x32x1x128 : Shape := ⟨4, ![128, 32, 1, 128]⟩
abbrev S1x1x128 : Shape := ⟨3, ![1, 1, 128]⟩

abbrev nBuf : Space → Nat
  | .hbm => 125
  | .vmem => 0
  | .smem => 0
  | _ => 0

abbrev bufTy : (tb : Table) → Fin (tcTables nBuf tb) → BufTy
  | .hbm, ⟨0, _⟩ => ⟨S8320x16384, .f32⟩
  | .hbm, ⟨1, _⟩ => ⟨S128x3x12288, .f32⟩
  | .hbm, ⟨2, _⟩ => ⟨S128x32, .f32⟩
  | .hbm, ⟨3, _⟩ => ⟨S128x32, .f32⟩
  | .hbm, ⟨4, _⟩ => ⟨S4x12288, .f32⟩
  | .hbm, ⟨5, _⟩ => ⟨S128, .f32⟩
  | .hbm, ⟨6, _⟩ => ⟨S128x32x128x128, .f32⟩
  | .hbm, ⟨7, _⟩ => ⟨S128x12288, .f32⟩
  | .hbm, ⟨8, _⟩ => ⟨S128x4096, .f32⟩
  | .hbm, ⟨9, _⟩ => ⟨S128x1x12288, .f32⟩
  | .hbm, ⟨10, _⟩ => ⟨S128x4x12288, .f32⟩
  | .hbm, ⟨11, _⟩ => ⟨S128x1x12288, .f32⟩
  | .hbm, ⟨12, _⟩ => ⟨S128x12288, .f32⟩
  | .hbm, ⟨13, _⟩ => ⟨S1x12288, .f32⟩
  | .hbm, ⟨14, _⟩ => ⟨S12288, .f32⟩
  | .hbm, ⟨15, _⟩ => ⟨S1x12288, .f32⟩
  | .hbm, ⟨16, _⟩ => ⟨S128x12288, .f32⟩
  | .hbm, ⟨17, _⟩ => ⟨S128x12288, .f32⟩
  | .hbm, ⟨18, _⟩ => ⟨S128x1x12288, .f32⟩
  | .hbm, ⟨19, _⟩ => ⟨S128x12288, .f32⟩
  | .hbm, ⟨20, _⟩ => ⟨S1x12288, .f32⟩
  | .hbm, ⟨21, _⟩ => ⟨S12288, .f32⟩
  | .hbm, ⟨22, _⟩ => ⟨S1x12288, .f32⟩
  | .hbm, ⟨23, _⟩ => ⟨S128x12288, .f32⟩
  | .hbm, ⟨24, _⟩ => ⟨S128x12288, .f32⟩
  | .hbm, ⟨25, _⟩ => ⟨S128x12288, .f32⟩
  | .hbm, ⟨26, _⟩ => ⟨S128x1x12288, .f32⟩
  | .hbm, ⟨27, _⟩ => ⟨S128x12288, .f32⟩
  | .hbm, ⟨28, _⟩ => ⟨S1x12288, .f32⟩
  | .hbm, ⟨29, _⟩ => ⟨S12288, .f32⟩
  | .hbm, ⟨30, _⟩ => ⟨S1x12288, .f32⟩
  | .hbm, ⟨31, _⟩ => ⟨S128x12288, .f32⟩
  | .hbm, ⟨32, _⟩ => ⟨S128x12288, .f32⟩
  | .hbm, ⟨33, _⟩ => ⟨S128x12288, .f32⟩
  | .hbm, ⟨34, _⟩ => ⟨S128x1x12288, .f32⟩
  | .hbm, ⟨35, _⟩ => ⟨S128x12288, .f32⟩
  | .hbm, ⟨36, _⟩ => ⟨S1x12288, .f32⟩
  | .hbm, ⟨37, _⟩ => ⟨S12288, .f32⟩
  | .hbm, ⟨38, _⟩ => ⟨S1x12288, .f32⟩
  | .hbm, ⟨39, _⟩ => ⟨S128x12288, .f32⟩
  | .hbm, ⟨40, _⟩ => ⟨S128x12288, .f32⟩
  | .hbm, ⟨41, _⟩ => ⟨S128x12288, .f32⟩
  | .hbm, ⟨42, _⟩ => ⟨S128x12288, .f32⟩
  | .hbm, ⟨43, _⟩ => ⟨S128x12288, .f32⟩
  | .hbm, ⟨44, _⟩ => ⟨S_, .f32⟩
  | .hbm, ⟨45, _⟩ => ⟨S128x12288, .f32⟩
  | .hbm, ⟨46, _⟩ => ⟨S128x12288, .f32⟩
  | .hbm, ⟨47, _⟩ => ⟨S_, .f32⟩
  | .hbm, ⟨48, _⟩ => ⟨S128x12288, .f32⟩
  | .hbm, ⟨49, _⟩ => ⟨S128x12288, .f32⟩
  | .hbm, ⟨50, _⟩ => ⟨S128x12288, .f32⟩
  | .hbm, ⟨51, _⟩ => ⟨S128x4096, .f32⟩
  | .hbm, ⟨52, _⟩ => ⟨S128x32x128, .f32⟩
  | .hbm, ⟨53, _⟩ => ⟨S128x4096, .f32⟩
  | .hbm, ⟨54, _⟩ => ⟨S128x32x128, .f32⟩
  | .hbm, ⟨55, _⟩ => ⟨S128x4096, .f32⟩
  | .hbm, ⟨56, _⟩ => ⟨S128x32x128, .f32⟩
  | .hbm, ⟨57, _⟩ => ⟨S128x32x128, .f32⟩
  | .hbm, ⟨58, _⟩ => ⟨S_, .f32⟩
  | .hbm, ⟨59, _⟩ => ⟨S128x32, .f32⟩
  | .hbm, ⟨60, _⟩ => ⟨S128x32x1, .f32⟩
  | .hbm, ⟨61, _⟩ => ⟨S_, .f32⟩
  | .hbm, ⟨62, _⟩ => ⟨S128x32x1, .f32⟩
  | .hbm, ⟨63, _⟩ => ⟨S128x32x1, .f32⟩
  | .hbm, ⟨64, _⟩ => ⟨S128x32x1, .f32⟩
  | .hbm, ⟨65, _⟩ => ⟨S128x32x128, .f32⟩
  | .hbm, ⟨66, _⟩ => ⟨S128x32x128, .f32⟩
  | .hbm, ⟨67, _⟩ => ⟨S_, .f32⟩
  | .hbm, ⟨68, _⟩ => ⟨S128x32x128, .f32⟩
  | .hbm, ⟨69, _⟩ => ⟨S128x32x128, .f32⟩
  | .hbm, ⟨70, _⟩ => ⟨S128x32x128, .f32⟩
  | .hbm, ⟨71, _⟩ => ⟨S_, .f32⟩
  | .hbm, ⟨72, _⟩ => ⟨S128x32, .f32⟩
  | .hbm, ⟨73, _⟩ => ⟨S128x32x1, .f32⟩
  | .hbm, ⟨74, _⟩ => ⟨S_, .f32⟩
  | .hbm, ⟨75, _⟩ => ⟨S128x32x1, .f32⟩
  | .hbm, ⟨76, _⟩ => ⟨S128x32x1, .f32⟩
  | .hbm, ⟨77, _⟩ => ⟨S128x32x1, .f32⟩
  | .hbm, ⟨78, _⟩ => ⟨S128x32x128, .f32⟩
  | .hbm, ⟨79, _⟩ => ⟨S128x32x128, .f32⟩
  | .hbm, ⟨80, _⟩ => ⟨S128x32, .f32⟩
  | .hbm, ⟨81, _⟩ => ⟨S128x32x1x1, .f32⟩
  | .hbm, ⟨82, _⟩ => ⟨S128x32x128x128, .f32⟩
  | .hbm, ⟨83, _⟩ => ⟨S128x32x128x128, .f32⟩
  | .hbm, ⟨84, _⟩ => ⟨S128x32x128, .f32⟩
  | .hbm, ⟨85, _⟩ => ⟨S128x32x128x1, .f32⟩
  | .hbm, ⟨86, _⟩ => ⟨S128x32x1, .f32⟩
  | .hbm, ⟨87, _⟩ => ⟨S128x32x128, .f32⟩
  | .hbm, ⟨88, _⟩ => ⟨S128x32x128, .f32⟩
  | .hbm, ⟨89, _⟩ => ⟨S128x32x128, .f32⟩
  | .hbm, ⟨90, _⟩ => ⟨S128x32x1x128, .f32⟩
  | .hbm, ⟨91, _⟩ => ⟨S128x32x128x128, .f32⟩
  | .hbm, ⟨92, _⟩ => ⟨S128x32x128x128, .f32⟩
  | .hbm, ⟨93, _⟩ => ⟨S128x32x128x128, .f32⟩
  | .hbm, ⟨94, _⟩ => ⟨S128x32x128x128, .f32⟩
  | .hbm, ⟨95, _⟩ => ⟨S128x32x128, .f32⟩
  | .hbm, ⟨96, _⟩ => ⟨S128x32x128, .f32⟩
  | .hbm, ⟨97, _⟩ => ⟨S_, .f32⟩
  | .hbm, ⟨98, _⟩ => ⟨S128x32, .f32⟩
  | .hbm, ⟨99, _⟩ => ⟨S128x32x1, .f32⟩
  | .hbm, ⟨100, _⟩ => ⟨S_, .f32⟩
  | .hbm, ⟨101, _⟩ => ⟨S128x32x1, .f32⟩
  | .hbm, ⟨102, _⟩ => ⟨S128x32x1, .f32⟩
  | .hbm, ⟨103, _⟩ => ⟨S_, .f32⟩
  | .hbm, ⟨104, _⟩ => ⟨S128x32x1, .f32⟩
  | .hbm, ⟨105, _⟩ => ⟨S128x32x1, .f32⟩
  | .hbm, ⟨106, _⟩ => ⟨S128x32x1, .f32⟩
  | .hbm, ⟨107, _⟩ => ⟨S128x32x128, .f32⟩
  | .hbm, ⟨108, _⟩ => ⟨S128x32x128, .f32⟩
  | .hbm, ⟨109, _⟩ => ⟨S1x1x128, .f32⟩
  | .hbm, ⟨110, _⟩ => ⟨S128x32x128, .f32⟩
  | .hbm, ⟨111, _⟩ => ⟨S128x32x128, .f32⟩
  | .hbm, ⟨112, _⟩ => ⟨S128x32x128, .f32⟩
  | .hbm, ⟨113, _⟩ => ⟨S128x32x128, .f32⟩
  | .hbm, ⟨114, _⟩ => ⟨S128x32x128, .f32⟩
  | .hbm, ⟨115, _⟩ => ⟨S_, .f32⟩
  | .hbm, ⟨116, _⟩ => ⟨S128x32x128, .f32⟩
  | .hbm, ⟨117, _⟩ => ⟨S128x32x128, .f32⟩
  | .hbm, ⟨118, _⟩ => ⟨S_, .f32⟩
  | .hbm, ⟨119, _⟩ => ⟨S128x32x128, .f32⟩
  | .hbm, ⟨120, _⟩ => ⟨S128x32x128, .f32⟩
  | .hbm, ⟨121, _⟩ => ⟨S128x32x128, .f32⟩
  | .hbm, ⟨122, _⟩ => ⟨S128x32x128, .f32⟩
  | .hbm, ⟨123, _⟩ => ⟨S128x4096, .f32⟩
  | .hbm, ⟨124, _⟩ => ⟨S128x4096, .bf16⟩
  | _, _ => ⟨S8320x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst : Ref sig .tc := ⟨.hbm, 58, rfl⟩
abbrev main_v43 : Ref sig .tc := ⟨.hbm, 59, rfl⟩
abbrev main_v44 : Ref sig .tc := ⟨.hbm, 60, rfl⟩
abbrev main_cst_0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_1 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_2 : Ref sig .tc := ⟨.hbm, 71, rfl⟩
abbrev main_v53 : Ref sig .tc := ⟨.hbm, 72, rfl⟩
abbrev main_v54 : Ref sig .tc := ⟨.hbm, 73, rfl⟩
abbrev main_cst_3 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_4 : Ref sig .tc := ⟨.hbm, 97, rfl⟩
abbrev main_v77 : Ref sig .tc := ⟨.hbm, 98, rfl⟩
abbrev main_v78 : Ref sig .tc := ⟨.hbm, 99, rfl⟩
abbrev main_cst_5 : Ref sig .tc := ⟨.hbm, 100, rfl⟩
abbrev main_v79 : Ref sig .tc := ⟨.hbm, 101, rfl⟩
abbrev main_v80 : Ref sig .tc := ⟨.hbm, 102, rfl⟩
abbrev main_cst_6 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]
-- ==== Kernel3.lean ====
abbrev S8320x4096 : Shape := ⟨2, ![8320, 4096]⟩
abbrev S4096x22016 : Shape := ⟨2, ![4096, 22016]⟩
abbrev S128x2x11008 : Shape := ⟨3, ![128, 2, 11008]⟩
abbrev S8320x22016 : Shape := ⟨2, ![8320, 22016]⟩
abbrev S832x4096 : Shape := ⟨2, ![832, 4096]⟩
abbrev S4096x512 : Shape := ⟨2, ![4096, 512]⟩
abbrev S832x512 : Shape := ⟨2, ![832, 512]⟩
abbrev S8192x11008 : Shape := ⟨2, ![8192, 11008]⟩
abbrev S4x2048x11008 : Shape := ⟨3, ![4, 2048, 11008]⟩
abbrev S4x2x11008 : Shape := ⟨3, ![4, 2, 11008]⟩
abbrev S128x11008 : Shape := ⟨2, ![128, 11008]⟩
abbrev S128x1x11008 : Shape := ⟨3, ![128, 1, 11008]⟩

abbrev nBuf : Space → Nat
  | .hbm => 12
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x22016, .f32⟩
  | .hbm, ⟨2, _⟩ => ⟨S128x2x11008, .f32⟩
  | .hbm, ⟨3, _⟩ => ⟨S4096x22016, .bf16⟩
  | .hbm, ⟨4, _⟩ => ⟨S8320x22016, .f32⟩
  | .hbm, ⟨5, _⟩ => ⟨S8192x11008, .f32⟩
  | .hbm, ⟨6, _⟩ => ⟨S4x2048x11008, .f32⟩
  | .hbm, ⟨7, _⟩ => ⟨S4x2x11008, .f32⟩
  | .hbm, ⟨8, _⟩ => ⟨S128x11008, .f32⟩
  | .hbm, ⟨9, _⟩ => ⟨S128x1x11008, .f32⟩
  | .hbm, ⟨10, _⟩ => ⟨S128x1x11008, .f32⟩
  | .hbm, ⟨11, _⟩ => ⟨S128x2x11008, .f32⟩
  | .local _ .vmem, ⟨0, _⟩ => ⟨S832x4096, .bf16⟩
  | .local _ .vmem, ⟨1, _⟩ => ⟨S832x4096, .bf16⟩
  | .local _ .vmem, ⟨2, _⟩ => ⟨S4096x512, .bf16⟩
  | .local _ .vmem, ⟨3, _⟩ => ⟨S4096x512, .bf16⟩
  | .local _ .vmem, ⟨4, _⟩ => ⟨S832x512, .f32⟩
  | .local _ .vmem, ⟨5, _⟩ => ⟨S832x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![43, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S832x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S832x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8320x4096 : Shape := ⟨2, ![8320, 4096]⟩
abbrev S4096x22016 : Shape := ⟨2, ![4096, 22016]⟩
abbrev S128x2x11008 : Shape := ⟨3, ![128, 2, 11008]⟩
abbrev S8320x22016 : Shape := ⟨2, ![8320, 22016]⟩
abbrev S8192x11008 : Shape := ⟨2, ![8192, 11008]⟩
abbrev S4x2048x11008 : Shape := ⟨3, ![4, 2048, 11008]⟩
abbrev S128x11008 : Shape := ⟨2, ![128, 11008]⟩
abbrev S128x1x11008 : Shape := ⟨3, ![128, 1, 11008]⟩
abbrev S_ : Shape := ⟨0, ![]⟩
abbrev S4x2x11008 : Shape := ⟨3, ![4, 2, 11008]⟩
abbrev S4x2050x11008 : Shape := ⟨3, ![4, 2050, 11008]⟩
abbrev S128x3x11008 : Shape := ⟨3, ![128, 3, 11008]⟩

abbrev nBuf : Space → Nat
  | .hbm => 15
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x22016, .f32⟩
  | .hbm, ⟨2, _⟩ => ⟨S128x2x11008, .f32⟩
  | .hbm, ⟨3, _⟩ => ⟨S8320x4096, .f32⟩
  | .hbm, ⟨4, _⟩ => ⟨S8320x22016, .f32⟩
  | .hbm, ⟨5, _⟩ => ⟨S8192x11008, .f32⟩
  | .hbm, ⟨6, _⟩ => ⟨S4x2048x11008, .f32⟩
  | .hbm, ⟨7, _⟩ => ⟨S128x11008, .f32⟩
  | .hbm, ⟨8, _⟩ => ⟨S128x1x11008, .f32⟩
  | .hbm, ⟨9, _⟩ => ⟨S_, .f32⟩
  | .hbm, ⟨10, _⟩ => ⟨S4x2x11008, .f32⟩
  | .hbm, ⟨11, _⟩ => ⟨S4x2050x11008, .f32⟩
  | .hbm, ⟨12, _⟩ => ⟨S4x2x11008, .f32⟩
  | .hbm, ⟨13, _⟩ => ⟨S128x3x11008, .f32⟩
  | .hbm, ⟨14, _⟩ => ⟨S128x2x11008, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S8320x4096 : Shape := ⟨2, ![8320, 4096]⟩
abbrev S4096x16448 : Shape := ⟨2, ![4096, 16448]⟩
abbrev S128x3x12288 : Shape := ⟨3, ![128, 3, 12288]⟩
abbrev S4096x16384 : Shape := ⟨2, ![4096, 16384]⟩
abbrev S8320x16384 : Shape := ⟨2, ![8320, 16384]⟩
abbrev S832x4096 : Shape := ⟨2, ![832, 4096]⟩
abbrev S4096x1024 : Shape := ⟨2, ![4096, 1024]⟩
abbrev S832x1024 : Shape := ⟨2, ![832, 1024]⟩
abbrev S8192x12288 : Shape := ⟨2, ![8192, 12288]⟩
abbrev S4x2048x12288 : Shape := ⟨3, ![4, 2048, 12288]⟩
abbrev S4x3x12288 : Shape := ⟨3, ![4, 3, 12288]⟩
abbrev S128x12288 : Shape := ⟨2, ![128, 12288]⟩
abbrev S128x2x12288 : Shape := ⟨3, ![128, 2, 12288]⟩
abbrev S128x1x12288 : Shape := ⟨3, ![128, 1, 12288]⟩

abbrev nBuf : Space → Nat
  | .hbm => 13
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x16448, .f32⟩
  | .hbm, ⟨2, _⟩ => ⟨S128x3x12288, .f32⟩
  | .hbm, ⟨3, _⟩ => ⟨S4096x16384, .f32⟩
  | .hbm, ⟨4, _⟩ => ⟨S4096x16384, .bf16⟩
  | .hbm, ⟨5, _⟩ => ⟨S8320x16384, .f32⟩
  | .hbm, ⟨6, _⟩ => ⟨S8192x12288, .f32⟩
  | .hbm, ⟨7, _⟩ => ⟨S4x2048x12288, .f32⟩
  | .hbm, ⟨8, _⟩ => ⟨S4x3x12288, .f32⟩
  | .hbm, ⟨9, _⟩ => ⟨S128x12288, .f32⟩
  | .hbm, ⟨10, _⟩ => ⟨S128x2x12288, .f32⟩
  | .hbm, ⟨11, _⟩ => ⟨S128x1x12288, .f32⟩
  | .hbm, ⟨12, _⟩ => ⟨S128x3x12288, .f32⟩
  | .local _ .vmem, ⟨0, _⟩ => ⟨S832x4096, .bf16⟩
  | .local _ .vmem, ⟨1, _⟩ => ⟨S832x4096, .bf16⟩
  | .local _ .vmem, ⟨2, _⟩ => ⟨S4096x1024, .bf16⟩
  | .local _ .vmem, ⟨3, _⟩ => ⟨S4096x1024, .bf16⟩
  | .local _ .vmem, ⟨4, _⟩ => ⟨S832x1024, .f32⟩
  | .local _ .vmem, ⟨5, _⟩ => ⟨S832x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S832x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8320x4096 : Shape := ⟨2, ![8320, 4096]⟩
abbrev S4096x16448 : Shape := ⟨2, ![4096, 16448]⟩
abbrev S128x3x12288 : Shape := ⟨3, ![128, 3, 12288]⟩
abbrev S8320x16448 : Shape := ⟨2, ![8320, 16448]⟩
abbrev S8320x16384 : Shape := ⟨2, ![8320, 16384]⟩
abbrev S8192x12288 : Shape := ⟨2, ![8192, 12288]⟩
abbrev S4x2048x12288 : Shape := ⟨3, ![4, 2048, 12288]⟩
abbrev S128x12288 : Shape := ⟨2, ![128, 12288]⟩
abbrev S128x1x12288 : Shape := ⟨3, ![128, 1, 12288]⟩
abbrev S_ : Shape := ⟨0, ![]⟩
abbrev S4x3x12288 : Shape := ⟨3, ![4, 3, 12288]⟩
abbrev S4x2051x12288 : Shape := ⟨3, ![4, 2051, 12288]⟩
abbrev S128x4x12288 : Shape := ⟨3, ![128, 4, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x16448, .f32⟩
  | .hbm, ⟨2, _⟩ => ⟨S128x3x12288, .f32⟩
  | .hbm, ⟨3, _⟩ => ⟨S8320x4096, .f32⟩
  | .hbm, ⟨4, _⟩ => ⟨S8320x16448, .f32⟩
  | .hbm, ⟨5, _⟩ => ⟨S8320x16384, .f32⟩
  | .hbm, ⟨6, _⟩ => ⟨S8192x12288, .f32⟩
  | .hbm, ⟨7, _⟩ => ⟨S4x2048x12288, .f32⟩
  | .hbm, ⟨8, _⟩ => ⟨S128x12288, .f32⟩
  | .hbm, ⟨9, _⟩ => ⟨S128x1x12288, .f32⟩
  | .hbm, ⟨10, _⟩ => ⟨S_, .f32⟩
  | .hbm, ⟨11, _⟩ => ⟨S4x3x12288, .f32⟩
  | .hbm, ⟨12, _⟩ => ⟨S4x2051x12288, .f32⟩
  | .hbm, ⟨13, _⟩ => ⟨S4x3x12288, .f32⟩
  | .hbm, ⟨14, _⟩ => ⟨S128x4x12288, .f32⟩
  | .hbm, ⟨15, _⟩ => ⟨S128x3x12288, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel7.lean ====
abbrev S8320x4096 : Shape := ⟨2, ![8320, 4096]⟩
abbrev S4096x8192 : Shape := ⟨2, ![4096, 8192]⟩
abbrev S8192 : Shape := ⟨1, ![8192]⟩
abbrev S128x3x4096 : Shape := ⟨3, ![128, 3, 4096]⟩
abbrev S1x8192 : Shape := ⟨2, ![1, 8192]⟩
abbrev S8320x8192 : Shape := ⟨2, ![8320, 8192]⟩
abbrev S832x4096 : Shape := ⟨2, ![832, 4096]⟩
abbrev S4096x1024 : Shape := ⟨2, ![4096, 1024]⟩
abbrev S1x1024 : Shape := ⟨2, ![1, 1024]⟩
abbrev S832x1024 : Shape := ⟨2, ![832, 1024]⟩
abbrev S8192x4096 : Shape := ⟨2, ![8192, 4096]⟩
abbrev S4x2048x4096 : Shape := ⟨3, ![4, 2048, 4096]⟩
abbrev S4x3x4096 : Shape := ⟨3, ![4, 3, 4096]⟩
abbrev S128x4096 : Shape := ⟨2, ![128, 4096]⟩
abbrev S128x2x4096 : Shape := ⟨3, ![128, 2, 4096]⟩
abbrev S128x1x4096 : Shape := ⟨3, ![128, 1, 4096]⟩

abbrev nBuf : Space → Nat
  | .hbm => 14
  | .vmem => 8
  | .smem => 0
  | _ => 0

abbrev bufTy : (tb : Table) → Fin (tcTables nBuf tb) → BufTy
  | .hbm, ⟨0, _⟩ => ⟨S8320x4096, .bf16⟩
  | .hbm, ⟨1, _⟩ => ⟨S4096x8192, .f32⟩
  | .hbm, ⟨2, _⟩ => ⟨S8192, .f32⟩
  | .hbm, ⟨3, _⟩ => ⟨S128x3x4096, .f32⟩
  | .hbm, ⟨4, _⟩ => ⟨S4096x8192, .bf16⟩
  | .hbm, ⟨5, _⟩ => ⟨S1x8192, .f32⟩
  | .hbm, ⟨6, _⟩ => ⟨S8320x8192, .f32⟩
  | .hbm, ⟨7, _⟩ => ⟨S8192x4096, .f32⟩
  | .hbm, ⟨8, _⟩ => ⟨S4x2048x4096, .f32⟩
  | .hbm, ⟨9, _⟩ => ⟨S4x3x4096, .f32⟩
  | .hbm, ⟨10, _⟩ => ⟨S128x4096, .f32⟩
  | .hbm, ⟨11, _⟩ => ⟨S128x2x4096, .f32⟩
  | .hbm, ⟨12, _⟩ => ⟨S128x1x4096, .f32⟩
  | .hbm, ⟨13, _⟩ => ⟨S128x3x4096, .f32⟩
  | .local _ .vmem, ⟨0, _⟩ => ⟨S832x4096, .bf16⟩
  | .local _ .vmem, ⟨1, _⟩ => ⟨S832x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S832x1024, .f32⟩
  | .local _ .vmem, ⟨7, _⟩ => ⟨S832x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S832x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8320x4096 : Shape := ⟨2, ![8320, 4096]⟩
abbrev S4096x8192 : Shape := ⟨2, ![4096, 8192]⟩
abbrev S8192 : Shape := ⟨1, ![8192]⟩
abbrev S128x3x4096 : Shape := ⟨3, ![128, 3, 4096]⟩
abbrev S8320x8192 : Shape := ⟨2, ![8320, 8192]⟩
abbrev S1x8192 : Shape := ⟨2, ![1, 8192]⟩
abbrev S8192x4096 : Shape := ⟨2, ![8192, 4096]⟩
abbrev S4x2048x4096 : Shape := ⟨3, ![4, 2048, 4096]⟩
abbrev S128x4096 : Shape := ⟨2, ![128, 4096]⟩
abbrev S128x1x4096 : Shape := ⟨3, ![128, 1, 4096]⟩
abbrev S_ : Shape := ⟨0, ![]⟩
abbrev S4x3x4096 : Shape := ⟨3, ![4, 3, 4096]⟩
abbrev S4x2051x4096 : Shape := ⟨3, ![4, 2051, 4096]⟩
abbrev S128x4x4096 : Shape := ⟨3, ![128, 4, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x8192, .f32⟩
  | .hbm, ⟨2, _⟩ => ⟨S8192, .f32⟩
  | .hbm, ⟨3, _⟩ => ⟨S128x3x4096, .f32⟩
  | .hbm, ⟨4, _⟩ => ⟨S8320x4096, .f32⟩
  | .hbm, ⟨5, _⟩ => ⟨S8320x8192, .f32⟩
  | .hbm, ⟨6, _⟩ => ⟨S1x8192, .f32⟩
  | .hbm, ⟨7, _⟩ => ⟨S8320x8192, .f32⟩
  | .hbm, ⟨8, _⟩ => ⟨S8320x8192, .f32⟩
  | .hbm, ⟨9, _⟩ => ⟨S8192x4096, .f32⟩
  | .hbm, ⟨10, _⟩ => ⟨S4x2048x4096, .f32⟩
  | .hbm, ⟨11, _⟩ => ⟨S128x4096, .f32⟩
  | .hbm, ⟨12, _⟩ => ⟨S128x1x4096, .f32⟩
  | .hbm, ⟨13, _⟩ => ⟨S_, .f32⟩
  | .hbm, ⟨14, _⟩ => ⟨S4x3x4096, .f32⟩
  | .hbm, ⟨15, _⟩ => ⟨S4x2051x4096, .f32⟩
  | .hbm, ⟨16, _⟩ => ⟨S4x3x4096, .f32⟩
  | .hbm, ⟨17, _⟩ => ⟨S128x4x4096, .f32⟩
  | .hbm, ⟨18, _⟩ => ⟨S128x3x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S8320x4096 : Shape := ⟨2, ![8320, 4096]⟩
abbrev S4096x4096 : Shape := ⟨2, ![4096, 4096]⟩
abbrev S832x4096 : Shape := ⟨2, ![832, 4096]⟩
abbrev S4096x1024 : Shape := ⟨2, ![4096, 1024]⟩
abbrev S832x1024 : Shape := ⟨2, ![832, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S8320x4096, .f32⟩
  | .hbm, ⟨3, _⟩ => ⟨S4096x4096, .bf16⟩
  | .hbm, ⟨4, _⟩ => ⟨S8320x4096, .f32⟩
  | .local _ .vmem, ⟨0, _⟩ => ⟨S832x4096, .bf16⟩
  | .local _ .vmem, ⟨1, _⟩ => ⟨S832x4096, .bf16⟩
  | .local _ .vmem, ⟨2, _⟩ => ⟨S4096x1024, .bf16⟩
  | .local _ .vmem, ⟨3, _⟩ => ⟨S4096x1024, .bf16⟩
  | .local _ .vmem, ⟨4, _⟩ => ⟨S832x1024, .f32⟩
  | .local _ .vmem, ⟨5, _⟩ => ⟨S832x1024, .f32⟩
  | .local _ .vmem, ⟨6, _⟩ => ⟨S832x1024, .f32⟩
  | .local _ .vmem, ⟨7, _⟩ => ⟨S832x1024, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S832x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S832x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S832x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8320x4096 : Shape := ⟨2, ![8320, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .f32⟩
  | .hbm, ⟨2, _⟩ => ⟨S8320x4096, .f32⟩
  | .hbm, ⟨3, _⟩ => ⟨S8320x4096, .f32⟩
  | .hbm, ⟨4, _⟩ => ⟨S8320x4096, .f32⟩
  | .hbm, ⟨5, _⟩ => ⟨S8320x4096, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8320x11008 : Shape := ⟨2, ![8320, 11008]⟩
abbrev S11008x4096 : Shape := ⟨2, ![11008, 4096]⟩
abbrev S8320x4096 : Shape := ⟨2, ![8320, 4096]⟩
abbrev S832x5504 : Shape := ⟨2, ![832, 5504]⟩
abbrev S5504x512 : Shape := ⟨2, ![5504, 512]⟩
abbrev S832x512 : Shape := ⟨2, ![832, 512]⟩

abbrev nBuf : Space → Nat
  | .hbm => 5
  | .vmem => 9
  | .smem => 0
  | _ => 0

abbrev bufTy : (tb : Table) → Fin (tcTables nBuf tb) → BufTy
  | .hbm, ⟨0, _⟩ => ⟨S8320x11008, .bf16⟩
  | .hbm, ⟨1, _⟩ => ⟨S11008x4096, .f32⟩
  | .hbm, ⟨2, _⟩ => ⟨S8320x4096, .f32⟩
  | .hbm, ⟨3, _⟩ => ⟨S11008x4096, .bf16⟩
  | .hbm, ⟨4, _⟩ => ⟨S8320x4096, .f32⟩
  | .local _ .vmem, ⟨0, _⟩ => ⟨S832x5504, .bf16⟩
  | .local _ .vmem, ⟨1, _⟩ => ⟨S832x5504, .bf16⟩
  | .local _ .vmem, ⟨2, _⟩ => ⟨S5504x512, .bf16⟩
  | .local _ .vmem, ⟨3, _⟩ => ⟨S5504x512, .bf16⟩
  | .local _ .vmem, ⟨4, _⟩ => ⟨S832x512, .f32⟩
  | .local _ .vmem, ⟨5, _⟩ => ⟨S832x512, .f32⟩
  | .local _ .vmem, ⟨6, _⟩ => ⟨S832x512, .f32⟩
  | .local _ .vmem, ⟨7, _⟩ => ⟨S832x512, .f32⟩
  | .local _ .vmem, ⟨8, _⟩ => ⟨S832x512, .f32⟩
  | _, _ => ⟨S8320x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 10, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S832x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S832x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S832x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8320x11008 : Shape := ⟨2, ![8320, 11008]⟩
abbrev S11008x4096 : Shape := ⟨2, ![11008, 4096]⟩
abbrev S8320x4096 : Shape := ⟨2, ![8320, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8320x11008, .bf16⟩
  | .hbm, ⟨1, _⟩ => ⟨S11008x4096, .f32⟩
  | .hbm, ⟨2, _⟩ => ⟨S8320x4096, .f32⟩
  | .hbm, ⟨3, _⟩ => ⟨S8320x11008, .f32⟩
  | .hbm, ⟨4, _⟩ => ⟨S8320x4096, .f32⟩
  | .hbm, ⟨5, _⟩ => ⟨S8320x4096, .f32⟩
  | _, _ => ⟨S8320x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8320x4096 : Shape := ⟨2, ![8320, 4096]⟩
abbrev S4096 : Shape := ⟨1, ![4096]⟩
abbrev S1x4096 : Shape := ⟨2, ![1, 4096]⟩
abbrev S416x4096 : Shape := ⟨2, ![416, 4096]⟩
abbrev S416 : Shape := ⟨1, ![416]⟩
abbrev S416x1 : Shape := ⟨2, ![416, 1]⟩
abbrev S8192x4096 : Shape := ⟨2, ![8192, 4096]⟩
abbrev S4x2048x4096 : Shape := ⟨3, ![4, 2048, 4096]⟩
abbrev S128x4096 : Shape := ⟨2, ![128, 4096]⟩
abbrev S128x1x4096 : Shape := ⟨3, ![128, 1, 4096]⟩

abbrev nBuf : Space → Nat
  | .hbm => 8
  | .vmem => 5
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S1x4096, .f32⟩
  | .hbm, ⟨3, _⟩ => ⟨S8320x4096, .f32⟩
  | .hbm, ⟨4, _⟩ => ⟨S8192x4096, .f32⟩
  | .hbm, ⟨5, _⟩ => ⟨S4x2048x4096, .f32⟩
  | .hbm, ⟨6, _⟩ => ⟨S128x4096, .f32⟩
  | .hbm, ⟨7, _⟩ => ⟨S128x1x4096, .f32⟩
  | .local _ .vmem, ⟨0, _⟩ => ⟨S416x4096, .f32⟩
  | .local _ .vmem, ⟨1, _⟩ => ⟨S416x4096, .f32⟩
  | .local _ .vmem, ⟨2, _⟩ => ⟨S1x4096, .f32⟩
  | .local _ .vmem, ⟨3, _⟩ => ⟨S416x4096, .f32⟩
  | .local _ .vmem, ⟨4, _⟩ => ⟨S416x4096, .f32⟩
  | _, _ => ⟨S8320x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S416x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8320x4096 : Shape := ⟨2, ![8320, 4096]⟩
abbrev S4096 : Shape := ⟨1, ![4096]⟩
abbrev S_ : Shape := ⟨0, ![]⟩
abbrev S8320 : Shape := ⟨1, ![8320]⟩
abbrev S8320x1 : Shape := ⟨2, ![8320, 1]⟩
abbrev S1x4096 : Shape := ⟨2, ![1, 4096]⟩
abbrev S8192x4096 : Shape := ⟨2, ![8192, 4096]⟩
abbrev S4x2048x4096 : Shape := ⟨3, ![4, 2048, 4096]⟩
abbrev S128x4096 : Shape := ⟨2, ![128, 4096]⟩
abbrev S128x1x4096 : Shape := ⟨3, ![128, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8320x4096, .f32⟩
  | .hbm, ⟨1, _⟩ => ⟨S4096, .f32⟩
  | .hbm, ⟨2, _⟩ => ⟨S8320x4096, .f32⟩
  | .hbm, ⟨3, _⟩ => ⟨S_, .f32⟩
  | .hbm, ⟨4, _⟩ => ⟨S8320, .f32⟩
  | .hbm, ⟨5, _⟩ => ⟨S8320x1, .f32⟩
  | .hbm, ⟨6, _⟩ => ⟨S_, .f32⟩
  | .hbm, ⟨7, _⟩ => ⟨S8320x1, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S8320x1, .f32⟩
  | .hbm, ⟨13, _⟩ => ⟨S8320x4096, .f32⟩
  | .hbm, ⟨14, _⟩ => ⟨S8320x4096, .f32⟩
  | .hbm, ⟨15, _⟩ => ⟨S1x4096, .f32⟩
  | .hbm, ⟨16, _⟩ => ⟨S8320x4096, .f32⟩
  | .hbm, ⟨17, _⟩ => ⟨S8320x4096, .f32⟩
  | .hbm, ⟨18, _⟩ => ⟨S8192x4096, .f32⟩
  | .hbm, ⟨19, _⟩ => ⟨S4x2048x4096, .f32⟩
  | .hbm, ⟨20, _⟩ => ⟨S128x4096, .f32⟩
  | .hbm, ⟨21, _⟩ => ⟨S128x1x4096, .f32⟩
  | _, _ => ⟨S8320x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel8.lean ====
abbrev S8320x8192 : Shape := ⟨2, ![8320, 8192]⟩
abbrev S4x4096 : Shape := ⟨2, ![4, 4096]⟩
abbrev S4096 : Shape := ⟨1, ![4096]⟩
abbrev S16x256x512 : Shape := ⟨3, ![16, 256, 512]⟩
abbrev S8192 : Shape := ⟨1, ![8192]⟩
abbrev S1x4096 : Shape := ⟨2, ![1, 4096]⟩
abbrev S1x8192 : Shape := ⟨2, ![1, 8192]⟩
abbrev S8192x4096 : Shape := ⟨2, ![8192, 4096]⟩
abbrev S4x1x4096 : Shape := ⟨3, ![4, 1, 4096]⟩
abbrev S512x256 : Shape := ⟨2, ![512, 256]⟩
abbrev S4x256 : Shape := ⟨2, ![4, 256]⟩
abbrev S1x256 : Shape := ⟨2, ![1, 256]⟩
abbrev S1x256x512 : Shape := ⟨3, ![1, 256, 512]⟩
abbrev S1x1x256 : Shape := ⟨3, ![1, 1, 256]⟩
abbrev S8x256 : Shape := ⟨2, ![8, 256]⟩
abbrev S520x256 : Shape := ⟨2, ![520, 256]⟩
abbrev S256x512 : Shape := ⟨2, ![256, 512]⟩
abbrev S512x512 : Shape := ⟨2, ![512, 512]⟩

abbrev nBuf : Space → Nat
  | .hbm => 13
  | .vmem => 24
  | .smem => 0
  | _ => 0

abbrev bufTy : (tb : Table) → Fin (tcTables nBuf tb) → BufTy
  | .hbm, ⟨0, _⟩ => ⟨S8320x8192, .f32⟩
  | .hbm, ⟨1, _⟩ => ⟨S4x4096, .f32⟩
  | .hbm, ⟨2, _⟩ => ⟨S4096, .f32⟩
  | .hbm, ⟨3, _⟩ => ⟨S16x256x512, .f32⟩
  | .hbm, ⟨4, _⟩ => ⟨S8192, .f32⟩
  | .hbm, ⟨5, _⟩ => ⟨S4096, .f32⟩
  | .hbm, ⟨6, _⟩ => ⟨S16x256x512, .bf16⟩
  | .hbm, ⟨7, _⟩ => ⟨S1x4096, .f32⟩
  | .hbm, ⟨8, _⟩ => ⟨S1x8192, .f32⟩
  | .hbm, ⟨9, _⟩ => ⟨S1x8192, .f32⟩
  | .hbm, ⟨10, _⟩ => ⟨S1x4096, .f32⟩
  | .hbm, ⟨11, _⟩ => ⟨S8192x4096, .bf16⟩
  | .hbm, ⟨12, _⟩ => ⟨S4x1x4096, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S4x256, .f32⟩
  | .local _ .vmem, ⟨5, _⟩ => ⟨S4x256, .f32⟩
  | .local _ .vmem, ⟨6, _⟩ => ⟨S1x256, .f32⟩
  | .local _ .vmem, ⟨7, _⟩ => ⟨S1x256, .f32⟩
  | .local _ .vmem, ⟨8, _⟩ => ⟨S1x256x512, .bf16⟩
  | .local _ .vmem, ⟨9, _⟩ => ⟨S1x256x512, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S512x256, .bf16⟩
  | .local _ .vmem, ⟨17, _⟩ => ⟨S512x256, .bf16⟩
  | .local _ .vmem, ⟨18, _⟩ => ⟨S1x1x256, .f32⟩
  | .local _ .vmem, ⟨19, _⟩ => ⟨S1x1x256, .f32⟩
  | .local _ .vmem, ⟨20, _⟩ => ⟨S8x256, .f32⟩
  | .local _ .vmem, ⟨21, _⟩ => ⟨S8x256, .f32⟩
  | .local _ .vmem, ⟨22, _⟩ => ⟨S512x256, .f32⟩
  | .local _ .vmem, ⟨23, _⟩ => ⟨S512x256, .f32⟩
  | _, _ => ⟨S8320x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 16, 4], ![false, false, false]⟩

@[reducible] def k0_t1_loop : Scf.Loop 32 :=
  let c0_i32_37 : BitVec 32 := 0#32
  let c64_i32 : BitVec 32 := 64#32
  let v96 : BitVec 32 := Scalar.addi c0_i32_37 c64_i32
  let c1_i32 : BitVec 32 := 1#32
  ⟨c0_i32_37, v96, c1_i32⟩
def k0_mult1 (k0_t1 : Fin k0_t1_loop.trips) : BitVec 32 :=
  let c0_i32_37 : BitVec 32 := 0#32
  let c1_i32 : BitVec 32 := 1#32
  let arg17 : BitVec 32 := Scf.iv c0_i32_37 c1_i32 k0_t1
  let c8_i32 : BitVec 32 := 8#32
  let v123 : BitVec 32 := Scalar.muli arg17 c8_i32
  v123
def k0_off1 (k0_t1 : Fin k0_t1_loop.trips) : Fin 2 → Nat :=
  let c0_i32_37 : BitVec 32 := 0#32
  let c1_i32 : BitVec 32 := 1#32
  let arg17 : BitVec 32 := Scf.iv c0_i32_37 c1_i32 k0_t1
  let c8_i32 : BitVec 32 := 8#32
  let v123 : BitVec 32 := Scalar.muli arg17 c8_i32
  let v124 : BitVec 32 := v123
  let v125 : Index := Scalar.indexCast v124
  let c0_54 : Index := 0#32
  ![v125.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== Reference8Ideal.lean ====
abbrev S8320x8192 : Shape := ⟨2, ![8320, 8192]⟩
abbrev S4x4096 : Shape := ⟨2, ![4, 4096]⟩
abbrev S4096 : Shape := ⟨1, ![4096]⟩
abbrev S16x256x512 : Shape := ⟨3, ![16, 256, 512]⟩
abbrev S8192 : Shape := ⟨1, ![8192]⟩
abbrev S8192x4096 : Shape := ⟨2, ![8192, 4096]⟩
abbrev S4x2048x4096 : Shape := ⟨3, ![4, 2048, 4096]⟩
abbrev S_ : Shape := ⟨0, ![]⟩
abbrev S4x3x4096 : Shape := ⟨3, ![4, 3, 4096]⟩
abbrev S4x2051x4096 : Shape := ⟨3, ![4, 2051, 4096]⟩
abbrev S1x4096 : Shape := ⟨2, ![1, 4096]⟩
abbrev S1x1x4096 : Shape := ⟨3, ![1, 1, 4096]⟩
abbrev S4x2048x16x256 : Shape := ⟨4, ![4, 2048, 16, 256]⟩
abbrev S16x512x4x2048 : Shape := ⟨4, ![16, 512, 4, 2048]⟩
abbrev S4x2048x16x512 : Shape := ⟨4, ![4, 2048, 16, 512]⟩
abbrev S2048x4x4096 : Shape := ⟨3, ![2048, 4, 4096]⟩
abbrev S1x4x4096 : Shape := ⟨3, ![1, 4, 4096]⟩
abbrev S4x1x4096 : Shape := ⟨3, ![4, 1, 4096]⟩

abbrev nBuf : Space → Nat
  | .hbm => 155
  | .vmem => 0
  | .smem => 0
  | _ => 0

abbrev hbmTy0_0 (i : Nat) : BufTy := match i % 128 with
  | 0 => ⟨S8320x8192, .f32⟩
  | 1 => ⟨S4x4096, .f32⟩
  | 2 => ⟨S4096, .f32⟩
  | 3 => ⟨S16x256x512, .f32⟩
  | 4 => ⟨S8192, .f32⟩
  | 5 => ⟨S4096, .f32⟩
  | 6 => ⟨S8192x4096, .f32⟩
  | 7 => ⟨S4x2048x4096, .f32⟩
  | 8 => ⟨S_, .f32⟩
  | 9 => ⟨S4x3x4096, .f32⟩
  | 10 => ⟨S4x2051x4096, .f32⟩
  | 11 => ⟨S4x2048x4096, .f32⟩
  | 12 => ⟨S1x4096, .f32⟩
  | 13 => ⟨S4096, .f32⟩
  | 14 => ⟨S1x1x4096, .f32⟩
  | 15 => ⟨S4x2048x4096, .f32⟩
  | 16 => ⟨S4x2048x4096, .f32⟩
  | 17 => ⟨S4x2048x4096, .f32⟩
  | 18 => ⟨S1x4096, .f32⟩
  | 19 => ⟨S4096, .f32⟩
  | 20 => ⟨S1x1x4096, .f32⟩
  | 21 => ⟨S4x2048x4096, .f32⟩
  | 22 => ⟨S4x2048x4096, .f32⟩
  | 23 => ⟨S4x2048x4096, .f32⟩
  | 24 => ⟨S4x2048x4096, .f32⟩
  | 25 => ⟨S1x4096, .f32⟩
  | 26 => ⟨S4096, .f32⟩
  | 27 => ⟨S1x1x4096, .f32⟩
  | 28 => ⟨S4x2048x4096, .f32⟩
  | 29 => ⟨S4x2048x4096, .f32⟩
  | 30 => ⟨S4x2048x4096, .f32⟩
  | 31 => ⟨S4x2048x4096, .f32⟩
  | 32 => ⟨S1x4096, .f32⟩
  | 33 => ⟨S4096, .f32⟩
  | 34 => ⟨S1x1x4096, .f32⟩
  | 35 => ⟨S4x2048x4096, .f32⟩
  | 36 => ⟨S4x2048x4096, .f32⟩
  | 37 => ⟨S4x2048x4096, .f32⟩
  | 38 => ⟨S1x1x4096, .f32⟩
  | 39 => ⟨S4x2048x4096, .f32⟩
  | 40 => ⟨S4x2048x4096, .f32⟩
  | 41 => ⟨S4x2048x16x256, .f32⟩
  | 42 => ⟨S16x512x4x2048, .f32⟩
  | 43 => ⟨S4x2048x16x512, .f32⟩
  | 44 => ⟨S4x2048x16x256, .f32⟩
  | 45 => ⟨S4x2048x4096, .f32⟩
  | 46 => ⟨S4096, .f32⟩
  | 47 => ⟨S1x1x4096, .f32⟩
  | 48 => ⟨S4x2048x4096, .f32⟩
  | 49 => ⟨S4x2048x4096, .f32⟩
  | 50 => ⟨S4x2048x4096, .f32⟩
  | 51 => ⟨S4x2048x4096, .f32⟩
  | 52 => ⟨S_, .f32⟩
  | 53 => ⟨S4x2048x4096, .f32⟩
  | 54 => ⟨S4x2048x4096, .f32⟩
  | 55 => ⟨S_, .f32⟩
  | 56 => ⟨S4x2048x4096, .f32⟩
  | 57 => ⟨S4x2048x4096, .f32⟩
  | 58 => ⟨S4x2048x16x256, .f32⟩
  | 59 => ⟨S4x2048x4096, .f32⟩
  | 60 => ⟨S4096, .f32⟩
  | 61 => ⟨S1x1x4096, .f32⟩
  | 62 => ⟨S4x2048x4096, .f32⟩
  | 63 => ⟨S4x2048x4096, .f32⟩
  | 64 => ⟨S4x2048x4096, .f32⟩
  | 65 => ⟨S4x2048x4096, .f32⟩
  | 66 => ⟨S_, .f32⟩
  | 67 => ⟨S4x2048x4096, .f32⟩
  | 68 => ⟨S4x2048x4096, .f32⟩
  | 69 => ⟨S_, .f32⟩
  | 70 => ⟨S4x2048x4096, .f32⟩
  | 71 => ⟨S4x2048x4096, .f32⟩
  | 72 => ⟨S_, .f32⟩
  | 73 => ⟨S4x2048x4096, .f32⟩
  | 74 => ⟨S4x2048x4096, .f32⟩
  | 75 => ⟨S4096, .f32⟩
  | 76 => ⟨S_, .f32⟩
  | 77 => ⟨S4096, .f32⟩
  | 78 => ⟨S4096, .f32⟩
  | 79 => ⟨S4096, .f32⟩
  | 80 => ⟨S4096, .f32⟩
  | 81 => ⟨S4096, .i1⟩
  | 82 => ⟨S4096, .f32⟩
  | 83 => ⟨S4096, .f32⟩
  | 84 => ⟨S4096, .f32⟩
  | 85 => ⟨S4096, .f32⟩
  | 86 => ⟨S4096, .f32⟩
  | 87 => ⟨S4096, .f32⟩
  | 88 => ⟨S4096, .f32⟩
  | 89 => ⟨S4096, .f32⟩
  | 90 => ⟨S1x1x4096, .f32⟩
  | 91 => ⟨S4x2048x4096, .f32⟩
  | 92 => ⟨S4x2048x4096, .f32⟩
  | 93 => ⟨S4x2048x4096, .f32⟩
  | 94 => ⟨S_, .f32⟩
  | 95 => ⟨S4x2048x4096, .f32⟩
  | 96 => ⟨S4x2048x4096, .f32⟩
  | 97 => ⟨S4x2048x4096, .f32⟩
  | 98 => ⟨S4x2048x4096, .f32⟩
  | 99 => ⟨S4x2048x4096, .f32⟩
  | 100 => ⟨S4x2048x4096, .f32⟩
  | 101 => ⟨S4x2048x4096, .f32⟩
  | 102 => ⟨S_, .f32⟩
  | 103 => ⟨S4x4096, .f32⟩
  | 104 => ⟨S2048x4x4096, .f32⟩
  | 105 => ⟨S2048x4x4096, .f32⟩
  | 106 => ⟨S_, .f32⟩
  | 107 => ⟨S2048x4x4096, .f32⟩
  | 108 => ⟨S_, .i32⟩
  | 109 => ⟨S2048x4x4096, .f32⟩
  | 110 => ⟨S2048x4x4096, .f32⟩
  | 111 => ⟨S_, .i32⟩
  | 112 => ⟨S4x4096, .f32⟩
  | 113 => ⟨S2048x4x4096, .f32⟩
  | 114 => ⟨S_, .i32⟩
  | 115 => ⟨S_, .i1⟩
  | 116 => ⟨S_, .i32⟩
  | 117 => ⟨S_, .i32⟩
  | 118 => ⟨S1x4x4096, .f32⟩
  | 119 => ⟨S4x4096, .f32⟩
  | 120 => ⟨S_, .i32⟩
  | 121 => ⟨S_, .i32⟩
  | 122 => ⟨S1x4x4096, .f32⟩
  | 123 => ⟨S4x4096, .f32⟩
  | 124 => ⟨S4x4096, .f32⟩
  | 125 => ⟨S4x4096, .f32⟩
  | 126 => ⟨S1x4x4096, .f32⟩
  | 127 => ⟨S_, .i32⟩
  | _ => ⟨S8320x8192, .f32⟩

abbrev hbmTy0_1 (i : Nat) : BufTy := match i % 128 with
  | 0 => ⟨S_, .i32⟩
  | 1 => ⟨S2048x4x4096, .f32⟩
  | 2 => ⟨S_, .i32⟩
  | 3 => ⟨S_, .i32⟩
  | 4 => ⟨S8192x4096, .f32⟩
  | 5 => ⟨S8192x4096, .f32⟩
  | 6 => ⟨S8192x4096, .f32⟩
  | 7 => ⟨S_, .f32⟩
  | 8 => ⟨S8192x4096, .f32⟩
  | 9 => ⟨S8192x4096, .f32⟩
  | 10 => ⟨S8192x4096, .f32⟩
  | 11 => ⟨S_, .f32⟩
  | 12 => ⟨S8192x4096, .f32⟩
  | 13 => ⟨S8192x4096, .f32⟩
  | 14 => ⟨S8192x4096, .f32⟩
  | 15 => ⟨S_, .f32⟩
  | 16 => ⟨S8192x4096, .f32⟩
  | 17 => ⟨S8192x4096, .f32⟩
  | 18 => ⟨S_, .f32⟩
  | 19 => ⟨S8192x4096, .f32⟩
  | 20 => ⟨S8192x4096, .f32⟩
  | 21 => ⟨S8192x4096, .f32⟩
  | 22 => ⟨S4x2048x4096, .f32⟩
  | 23 => ⟨S8192x4096, .f32⟩
  | 24 => ⟨S8192x4096, .f32⟩
  | 25 => ⟨S8192x4096, .bf16⟩
  | 26 => ⟨S4x1x4096, .f32⟩
  | _ => ⟨S8320x8192, .f32⟩

abbrev hbmTy (i : Nat) : BufTy := match i / 128 with
  | 0 => hbmTy0_0 i
  | 1 => hbmTy0_1 i
  | _ => ⟨S8320x8192, .f32⟩

abbrev bufTy : (tb : Table) → Fin (tcTables nBuf tb) → BufTy
  | .hbm, ⟨i, _⟩ => hbmTy i
  | _, _ => ⟨S8320x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_cst_0 : Ref sig .tc := ⟨.hbm, 52, rfl⟩
abbrev main_v45 : Ref sig .tc := ⟨.hbm, 53, rfl⟩
abbrev main_v46 : Ref sig .tc := ⟨.hbm, 54, rfl⟩
abbrev main_cst_1 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_2 : Ref sig .tc := ⟨.hbm, 66, rfl⟩
abbrev main_v57 : Ref sig .tc := ⟨.hbm, 67, rfl⟩
abbrev main_v58 : Ref sig .tc := ⟨.hbm, 68, rfl⟩
abbrev main_cst_3 : Ref sig .tc := ⟨.hbm, 69, rfl⟩
abbrev main_v59 : Ref sig .tc := ⟨.hbm, 70, rfl⟩
abbrev main_v60 : Ref sig .tc := ⟨.hbm, 71, rfl⟩
abbrev main_cst_4 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_5 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_6 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_7 : Ref sig .tc := ⟨.hbm, 106, rfl⟩
abbrev main_v79 : Ref sig .tc := ⟨.hbm, 107, rfl⟩
abbrev main_c : Ref sig .tc := ⟨.hbm, 108, rfl⟩
abbrev main_v80_0 : Ref sig .tc := ⟨.hbm, 109, rfl⟩
abbrev main_v80_1 : Ref sig .tc := ⟨.hbm, 110, rfl⟩
abbrev main_v80_2 : Ref sig .tc := ⟨.hbm, 111, rfl⟩
abbrev main_v80_3 : Ref sig .tc := ⟨.hbm, 112, rfl⟩
abbrev main_v80_4 : Ref sig .tc := ⟨.hbm, 113, rfl⟩
abbrev main_while0c_c_16 : Ref sig .tc := ⟨.hbm, 114, rfl⟩
abbrev main_while0c_v100 : Ref sig .tc := ⟨.hbm, 115, rfl⟩
abbrev main_while0b_call1_c : Ref sig .tc := ⟨.hbm, 116, rfl⟩
abbrev main_while0b_call1_c_0 : Ref sig .tc := ⟨.hbm, 117, rfl⟩
abbrev main_while0b_call1_v0 : Ref sig .tc := ⟨.hbm, 118, rfl⟩
abbrev main_while0b_v100 : Ref sig .tc := ⟨.hbm, 119, rfl⟩
abbrev main_while0b_call2_c : Ref sig .tc := ⟨.hbm, 120, rfl⟩
abbrev main_while0b_call2_c_0 : Ref sig .tc := ⟨.hbm, 121, rfl⟩
abbrev main_while0b_call2_v0 : Ref sig .tc := ⟨.hbm, 122, rfl⟩
abbrev main_while0b_v101 : Ref sig .tc := ⟨.hbm, 123, rfl⟩
abbrev main_while0b_v102 : Ref sig .tc := ⟨.hbm, 124, rfl⟩
abbrev main_while0b_v103 : Ref sig .tc := ⟨.hbm, 125, rfl⟩
abbrev main_while0b_call3_v0 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_v104 : Ref sig .tc := ⟨.hbm, 129, rfl⟩
abbrev main_while0b_c_16 : Ref sig .tc := ⟨.hbm, 130, rfl⟩
abbrev main_while0b_v105 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_8 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_cst_9 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_cst_10 : Ref sig .tc := ⟨.hbm, 143, rfl⟩
abbrev main_v90 : Ref sig .tc := ⟨.hbm, 144, rfl⟩
abbrev main_v91 : Ref sig .tc := ⟨.hbm, 145, rfl⟩
abbrev main_cst_11 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩

abbrev nD : Nat := 1
abbrev τ : Topo := Topo.v7x

variable {F : FTy → Type} [FloatOps F]

abbrev main_while0_count : Scf.Loop 32 := ⟨0#32, 2048#32, 1#32⟩
-- ==== Kernel9.lean ====
abbrev S8320x22016 : Shape := ⟨2, ![8320, 22016]⟩
abbrev S128x2x11008 : Shape := ⟨3, ![128, 2, 11008]⟩
abbrev S3x11008 : Shape := ⟨2, ![3, 11008]⟩
abbrev S11008 : Shape := ⟨1, ![11008]⟩
abbrev S2x128x11008 : Shape := ⟨3, ![2, 128, 11008]⟩
abbrev S1x11008 : Shape := ⟨2, ![1, 11008]⟩
abbrev S128x11008 : Shape := ⟨2, ![128, 11008]⟩
abbrev S128x5504 : Shape := ⟨2, ![128, 5504]⟩
abbrev S2x128x5504 : Shape := ⟨3, ![2, 128, 5504]⟩
abbrev S3x5504 : Shape := ⟨2, ![3, 5504]⟩
abbrev S1x5504 : Shape := ⟨2, ![1, 5504]⟩
abbrev S1x128x5504 : Shape := ⟨3, ![1, 128, 5504]⟩

abbrev nBuf : Space → Nat
  | .hbm => 7
  | .vmem => 12
  | .smem => 0
  | _ => 0

abbrev bufTy : (tb : Table) → Fin (tcTables nBuf tb) → BufTy
  | .hbm, ⟨0, _⟩ => ⟨S8320x22016, .f32⟩
  | .hbm, ⟨1, _⟩ => ⟨S128x2x11008, .f32⟩
  | .hbm, ⟨2, _⟩ => ⟨S3x11008, .f32⟩
  | .hbm, ⟨3, _⟩ => ⟨S11008, .f32⟩
  | .hbm, ⟨4, _⟩ => ⟨S2x128x11008, .f32⟩
  | .hbm, ⟨5, _⟩ => ⟨S1x11008, .f32⟩
  | .hbm, ⟨6, _⟩ => ⟨S128x11008, .bf16⟩
  | .local _ .vmem, ⟨0, _⟩ => ⟨S128x5504, .f32⟩
  | .local _ .vmem, ⟨1, _⟩ => ⟨S128x5504, .f32⟩
  | .local _ .vmem, ⟨2, _⟩ => ⟨S128x5504, .f32⟩
  | .local _ .vmem, ⟨3, _⟩ => ⟨S128x5504, .f32⟩
  | .local _ .vmem, ⟨4, _⟩ => ⟨S2x128x5504, .f32⟩
  | .local _ .vmem, ⟨5, _⟩ => ⟨S2x128x5504, .f32⟩
  | .local _ .vmem, ⟨6, _⟩ => ⟨S3x5504, .f32⟩
  | .local _ .vmem, ⟨7, _⟩ => ⟨S3x5504, .f32⟩
  | .local _ .vmem, ⟨8, _⟩ => ⟨S1x5504, .f32⟩
  | .local _ .vmem, ⟨9, _⟩ => ⟨S1x5504, .f32⟩
  | .local _ .vmem, ⟨10, _⟩ => ⟨S128x5504, .bf16⟩
  | .local _ .vmem, ⟨11, _⟩ => ⟨S128x5504, .bf16⟩
  | _, _ => ⟨S8320x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c64_i32 : BitVec 32 := 64#32
  let c0_i32 : BitVec 32 := 0#32
  ![c64_i32.toNat, arg0.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c64_i32 : BitVec 32 := 64#32
  let c0_i32 : BitVec 32 := 0#32
  ![c64_i32.toNat, v0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x5504 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5504 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x5504 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x5504 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8320x22016 : Shape := ⟨2, ![8320, 22016]⟩
abbrev S128x2x11008 : Shape := ⟨3, ![128, 2, 11008]⟩
abbrev S3x11008 : Shape := ⟨2, ![3, 11008]⟩
abbrev S11008 : Shape := ⟨1, ![11008]⟩
abbrev S128x11008 : Shape := ⟨2, ![128, 11008]⟩
abbrev S128x1x11008 : Shape := ⟨3, ![128, 1, 11008]⟩
abbrev S128x3x11008 : Shape := ⟨3, ![128, 3, 11008]⟩
abbrev S1x11008 : Shape := ⟨2, ![1, 11008]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8320x22016, .f32⟩
  | .hbm, ⟨1, _⟩ => ⟨S128x2x11008, .f32⟩
  | .hbm, ⟨2, _⟩ => ⟨S3x11008, .f32⟩
  | .hbm, ⟨3, _⟩ => ⟨S11008, .f32⟩
  | .hbm, ⟨4, _⟩ => ⟨S128x11008, .f32⟩
  | .hbm, ⟨5, _⟩ => ⟨S128x11008, .f32⟩
  | .hbm, ⟨6, _⟩ => ⟨S128x1x11008, .f32⟩
  | .hbm, ⟨7, _⟩ => ⟨S128x3x11008, .f32⟩
  | .hbm, ⟨8, _⟩ => ⟨S128x1x11008, .f32⟩
  | .hbm, ⟨9, _⟩ => ⟨S128x11008, .f32⟩
  | .hbm, ⟨10, _⟩ => ⟨S1x11008, .f32⟩
  | .hbm, ⟨11, _⟩ => ⟨S11008, .f32⟩
  | .hbm, ⟨12, _⟩ => ⟨S1x11008, .f32⟩
  | .hbm, ⟨13, _⟩ => ⟨S128x11008, .f32⟩
  | .hbm, ⟨14, _⟩ => ⟨S128x11008, .f32⟩
  | .hbm, ⟨15, _⟩ => ⟨S128x1x11008, .f32⟩
  | .hbm, ⟨16, _⟩ => ⟨S128x11008, .f32⟩
  | .hbm, ⟨17, _⟩ => ⟨S1x11008, .f32⟩
  | .hbm, ⟨18, _⟩ => ⟨S11008, .f32⟩
  | .hbm, ⟨19, _⟩ => ⟨S1x11008, .f32⟩
  | .hbm, ⟨20, _⟩ => ⟨S128x11008, .f32⟩
  | .hbm, ⟨21, _⟩ => ⟨S128x11008, .f32⟩
  | .hbm, ⟨22, _⟩ => ⟨S128x11008, .f32⟩
  | .hbm, ⟨23, _⟩ => ⟨S128x1x11008, .f32⟩
  | .hbm, ⟨24, _⟩ => ⟨S128x11008, .f32⟩
  | .hbm, ⟨25, _⟩ => ⟨S1x11008, .f32⟩
  | .hbm, ⟨26, _⟩ => ⟨S11008, .f32⟩
  | .hbm, ⟨27, _⟩ => ⟨S1x11008, .f32⟩
  | .hbm, ⟨28, _⟩ => ⟨S128x11008, .f32⟩
  | .hbm, ⟨29, _⟩ => ⟨S128x11008, .f32⟩
  | .hbm, ⟨30, _⟩ => ⟨S128x11008, .f32⟩
  | .hbm, ⟨31, _⟩ => ⟨S1x11008, .f32⟩
  | .hbm, ⟨32, _⟩ => ⟨S128x11008, .f32⟩
  | .hbm, ⟨33, _⟩ => ⟨S128x11008, .f32⟩
  | .hbm, ⟨34, _⟩ => ⟨S_, .f32⟩
  | .hbm, ⟨35, _⟩ => ⟨S128x11008, .f32⟩
  | .hbm, ⟨36, _⟩ => ⟨S128x11008, .f32⟩
  | .hbm, ⟨37, _⟩ => ⟨S128x11008, .f32⟩
  | .hbm, ⟨38, _⟩ => ⟨S_, .f32⟩
  | .hbm, ⟨39, _⟩ => ⟨S128x11008, .f32⟩
  | .hbm, ⟨40, _⟩ => ⟨S128x11008, .f32⟩
  | .hbm, ⟨41, _⟩ => ⟨S128x11008, .f32⟩
  | .hbm, ⟨42, _⟩ => ⟨S128x11008, .f32⟩
  | .hbm, ⟨43, _⟩ => ⟨S128x11008, .f32⟩
  | .hbm, ⟨44, _⟩ => ⟨S128x11008, .bf16⟩
  | _, _ => ⟨S8320x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Kernel11.lean ====
abbrev S8320x22016 : Shape := ⟨2, ![8320, 22016]⟩
abbrev S3x11008 : Shape := ⟨2, ![3, 11008]⟩
abbrev S11008 : Shape := ⟨1, ![11008]⟩
abbrev S1x11008 : Shape := ⟨2, ![1, 11008]⟩
abbrev S8192x11008 : Shape := ⟨2, ![8192, 11008]⟩
abbrev S256x5504 : Shape := ⟨2, ![256, 5504]⟩
abbrev S3x5504 : Shape := ⟨2, ![3, 5504]⟩
abbrev S1x5504 : Shape := ⟨2, ![1, 5504]⟩
abbrev S8x5504 : Shape := ⟨2, ![8, 5504]⟩
abbrev S264x5504 : Shape := ⟨2, ![264, 5504]⟩

abbrev nBuf : Space → Nat
  | .hbm => 5
  | .vmem => 11
  | .smem => 0
  | _ => 0

abbrev bufTy : (tb : Table) → Fin (tcTables nBuf tb) → BufTy
  | .hbm, ⟨0, _⟩ => ⟨S8320x22016, .f32⟩
  | .hbm, ⟨1, _⟩ => ⟨S3x11008, .f32⟩
  | .hbm, ⟨2, _⟩ => ⟨S11008, .f32⟩
  | .hbm, ⟨3, _⟩ => ⟨S1x11008, .f32⟩
  | .hbm, ⟨4, _⟩ => ⟨S8192x11008, .bf16⟩
  | .local _ .vmem, ⟨0, _⟩ => ⟨S256x5504, .f32⟩
  | .local _ .vmem, ⟨1, _⟩ => ⟨S256x5504, .f32⟩
  | .local _ .vmem, ⟨2, _⟩ => ⟨S256x5504, .f32⟩
  | .local _ .vmem, ⟨3, _⟩ => ⟨S256x5504, .f32⟩
  | .local _ .vmem, ⟨4, _⟩ => ⟨S3x5504, .f32⟩
  | .local _ .vmem, ⟨5, _⟩ => ⟨S3x5504, .f32⟩
  | .local _ .vmem, ⟨6, _⟩ => ⟨S1x5504, .f32⟩
  | .local _ .vmem, ⟨7, _⟩ => ⟨S1x5504, .f32⟩
  | .local _ .vmem, ⟨8, _⟩ => ⟨S256x5504, .bf16⟩
  | .local _ .vmem, ⟨9, _⟩ => ⟨S256x5504, .bf16⟩
  | .local _ .vmem, ⟨10, _⟩ => ⟨S8x5504, .f32⟩
  | _, _ => ⟨S8320x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x5504 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x5504 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S3x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x5504 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference11Ideal.lean ====
abbrev S8320x22016 : Shape := ⟨2, ![8320, 22016]⟩
abbrev S3x11008 : Shape := ⟨2, ![3, 11008]⟩
abbrev S11008 : Shape := ⟨1, ![11008]⟩
abbrev S8192x11008 : Shape := ⟨2, ![8192, 11008]⟩
abbrev S4x2048x11008 : Shape := ⟨3, ![4, 2048, 11008]⟩
abbrev S_ : Shape := ⟨0, ![]⟩
abbrev S4x2x11008 : Shape := ⟨3, ![4, 2, 11008]⟩
abbrev S4x2050x11008 : Shape := ⟨3, ![4, 2050, 11008]⟩
abbrev S1x11008 : Shape := ⟨2, ![1, 11008]⟩
abbrev S1x1x11008 : Shape := ⟨3, ![1, 1, 11008]⟩

abbrev nBuf : Space → Nat
  | .hbm => 45
  | .vmem => 0
  | .smem => 0
  | _ => 0

abbrev bufTy : (tb : Table) → Fin (tcTables nBuf tb) → BufTy
  | .hbm, ⟨0, _⟩ => ⟨S8320x22016, .f32⟩
  | .hbm, ⟨1, _⟩ => ⟨S3x11008, .f32⟩
  | .hbm, ⟨2, _⟩ => ⟨S11008, .f32⟩
  | .hbm, ⟨3, _⟩ => ⟨S8192x11008, .f32⟩
  | .hbm, ⟨4, _⟩ => ⟨S4x2048x11008, .f32⟩
  | .hbm, ⟨5, _⟩ => ⟨S8192x11008, .f32⟩
  | .hbm, ⟨6, _⟩ => ⟨S4x2048x11008, .f32⟩
  | .hbm, ⟨7, _⟩ => ⟨S_, .f32⟩
  | .hbm, ⟨8, _⟩ => ⟨S4x2x11008, .f32⟩
  | .hbm, ⟨9, _⟩ => ⟨S4x2050x11008, .f32⟩
  | .hbm, ⟨10, _⟩ => ⟨S4x2048x11008, .f32⟩
  | .hbm, ⟨11, _⟩ => ⟨S1x11008, .f32⟩
  | .hbm, ⟨12, _⟩ => ⟨S11008, .f32⟩
  | .hbm, ⟨13, _⟩ => ⟨S1x1x11008, .f32⟩
  | .hbm, ⟨14, _⟩ => ⟨S4x2048x11008, .f32⟩
  | .hbm, ⟨15, _⟩ => ⟨S4x2048x11008, .f32⟩
  | .hbm, ⟨16, _⟩ => ⟨S4x2048x11008, .f32⟩
  | .hbm, ⟨17, _⟩ => ⟨S1x11008, .f32⟩
  | .hbm, ⟨18, _⟩ => ⟨S11008, .f32⟩
  | .hbm, ⟨19, _⟩ => ⟨S1x1x11008, .f32⟩
  | .hbm, ⟨20, _⟩ => ⟨S4x2048x11008, .f32⟩
  | .hbm, ⟨21, _⟩ => ⟨S4x2048x11008, .f32⟩
  | .hbm, ⟨22, _⟩ => ⟨S4x2048x11008, .f32⟩
  | .hbm, ⟨23, _⟩ => ⟨S4x2048x11008, .f32⟩
  | .hbm, ⟨24, _⟩ => ⟨S1x11008, .f32⟩
  | .hbm, ⟨25, _⟩ => ⟨S11008, .f32⟩
  | .hbm, ⟨26, _⟩ => ⟨S1x1x11008, .f32⟩
  | .hbm, ⟨27, _⟩ => ⟨S4x2048x11008, .f32⟩
  | .hbm, ⟨28, _⟩ => ⟨S4x2048x11008, .f32⟩
  | .hbm, ⟨29, _⟩ => ⟨S4x2048x11008, .f32⟩
  | .hbm, ⟨30, _⟩ => ⟨S1x1x11008, .f32⟩
  | .hbm, ⟨31, _⟩ => ⟨S4x2048x11008, .f32⟩
  | .hbm, ⟨32, _⟩ => ⟨S4x2048x11008, .f32⟩
  | .hbm, ⟨33, _⟩ => ⟨S_, .f32⟩
  | .hbm, ⟨34, _⟩ => ⟨S4x2048x11008, .f32⟩
  | .hbm, ⟨35, _⟩ => ⟨S4x2048x11008, .f32⟩
  | .hbm, ⟨36, _⟩ => ⟨S4x2048x11008, .f32⟩
  | .hbm, ⟨37, _⟩ => ⟨S_, .f32⟩
  | .hbm, ⟨38, _⟩ => ⟨S4x2048x11008, .f32⟩
  | .hbm, ⟨39, _⟩ => ⟨S4x2048x11008, .f32⟩
  | .hbm, ⟨40, _⟩ => ⟨S4x2048x11008, .f32⟩
  | .hbm, ⟨41, _⟩ => ⟨S4x2048x11008, .f32⟩
  | .hbm, ⟨42, _⟩ => ⟨S4x2048x11008, .f32⟩
  | .hbm, ⟨43, _⟩ => ⟨S8192x11008, .f32⟩
  | .hbm, ⟨44, _⟩ => ⟨S8192x11008, .bf16⟩
  | _, _ => ⟨S8320x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Kernel12.lean ====
abbrev S8320x256 : Shape := ⟨2, ![8320, 256]⟩
abbrev S32 : Shape := ⟨1, ![32]⟩
abbrev S128 : Shape := ⟨1, ![128]⟩
abbrev S128x1 : Shape := ⟨2, ![128, 1]⟩
abbrev S4096 : Shape := ⟨1, ![4096]⟩
abbrev S_ : Shape := ⟨0, ![]⟩
abbrev S1x4096 : Shape := ⟨2, ![1, 4096]⟩
abbrev S128x4096 : Shape := ⟨2, ![128, 4096]⟩
abbrev S1x128 : Shape := ⟨2, ![1, 128]⟩
abbrev S1 : Shape := ⟨1, ![1]⟩
abbrev S2 : Shape := ⟨1, ![2]⟩
abbrev S128x128 : Shape := ⟨2, ![128, 128]⟩
abbrev S128x1024 : Shape := ⟨2, ![128, 1024]⟩

abbrev nBuf : Space → Nat
  | .hbm => 47
  | .vmem => 10
  | .smem => 0
  | _ => 0

abbrev bufTy : (tb : Table) → Fin (tcTables nBuf tb) → BufTy
  | .hbm, ⟨0, _⟩ => ⟨S8320x256, .f32⟩
  | .hbm, ⟨1, _⟩ => ⟨S32, .f32⟩
  | .hbm, ⟨2, _⟩ => ⟨S32, .f32⟩
  | .hbm, ⟨3, _⟩ => ⟨S128, .i32⟩
  | .hbm, ⟨4, _⟩ => ⟨S128x1, .i32⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S1x4096, .i32⟩
  | .hbm, ⟨25, _⟩ => ⟨S128x4096, .i32⟩
  | .hbm, ⟨26, _⟩ => ⟨S128x4096, .i32⟩
  | .hbm, ⟨27, _⟩ => ⟨S128x4096, .i1⟩
  | .hbm, ⟨28, _⟩ => ⟨S128x4096, .f32⟩
  | .hbm, ⟨29, _⟩ => ⟨S_, .f32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S1x128, .f32⟩
  | .hbm, ⟨45, _⟩ => ⟨S128x4096, .f32⟩
  | .hbm, ⟨46, _⟩ => ⟨S128x4096, .f32⟩
  | .local _ .vmem, ⟨0, _⟩ => ⟨S128x128, .f32⟩
  | .local _ .vmem, ⟨1, _⟩ => ⟨S128x128, .f32⟩
  | .local _ .vmem, ⟨2, _⟩ => ⟨S1x128, .f32⟩
  | .local _ .vmem, ⟨3, _⟩ => ⟨S1x128, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | _, _ => ⟨S8320x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19_0 : Ref sig .tc := ⟨.hbm, 45, rfl⟩
abbrev main_v19_1 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference12Ideal.lean ====
abbrev S8320x256 : Shape := ⟨2, ![8320, 256]⟩
abbrev S32 : Shape := ⟨1, ![32]⟩
abbrev S128x32 : Shape := ⟨2, ![128, 32]⟩
abbrev S1x32 : Shape := ⟨2, ![1, 32]⟩
abbrev S_ : Shape := ⟨0, ![]⟩
abbrev S128x32x1 : Shape := ⟨3, ![128, 32, 1]⟩
abbrev S128x32x128 : Shape := ⟨3, ![128, 32, 128]⟩
abbrev S128x4096 : Shape := ⟨2, ![128, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8320x256, .f32⟩
  | .hbm, ⟨1, _⟩ => ⟨S32, .f32⟩
  | .hbm, ⟨2, _⟩ => ⟨S32, .f32⟩
  | .hbm, ⟨3, _⟩ => ⟨S128x32, .f32⟩
  | .hbm, ⟨4, _⟩ => ⟨S128x32, .f32⟩
  | .hbm, ⟨5, _⟩ => ⟨S32, .f32⟩
  | .hbm, ⟨6, _⟩ => ⟨S32, .f32⟩
  | .hbm, ⟨7, _⟩ => ⟨S1x32, .f32⟩
  | .hbm, ⟨8, _⟩ => ⟨S128x32, .f32⟩
  | .hbm, ⟨9, _⟩ => ⟨S128x32, .f32⟩
  | .hbm, ⟨10, _⟩ => ⟨S_, .f32⟩
  | .hbm, ⟨11, _⟩ => ⟨S128x32, .f32⟩
  | .hbm, ⟨12, _⟩ => ⟨S128x32, .f32⟩
  | .hbm, ⟨13, _⟩ => ⟨S128x32, .f32⟩
  | .hbm, ⟨14, _⟩ => ⟨S128x32, .f32⟩
  | .hbm, ⟨15, _⟩ => ⟨S128x32, .i1⟩
  | .hbm, ⟨16, _⟩ => ⟨S128x32, .f32⟩
  | .hbm, ⟨17, _⟩ => ⟨S128x32, .f32⟩
  | .hbm, ⟨18, _⟩ => ⟨S128x32, .f32⟩
  | .hbm, ⟨19, _⟩ => ⟨S128x32, .f32⟩
  | .hbm, ⟨20, _⟩ => ⟨S128x32, .f32⟩
  | .hbm, ⟨21, _⟩ => ⟨S128x32, .f32⟩
  | .hbm, ⟨22, _⟩ => ⟨S128x32, .f32⟩
  | .hbm, ⟨23, _⟩ => ⟨S128x32, .f32⟩
  | .hbm, ⟨24, _⟩ => ⟨S1x32, .f32⟩
  | .hbm, ⟨25, _⟩ => ⟨S128x32, .f32⟩
  | .hbm, ⟨26, _⟩ => ⟨S128x32, .f32⟩
  | .hbm, ⟨27, _⟩ => ⟨S128x32, .f32⟩
  | .hbm, ⟨28, _⟩ => ⟨S128x32, .f32⟩
  | .hbm, ⟨29, _⟩ => ⟨S_, .f32⟩
  | .hbm, ⟨30, _⟩ => ⟨S128x32, .f32⟩
  | .hbm, ⟨31, _⟩ => ⟨S128x32, .f32⟩
  | .hbm, ⟨32, _⟩ => ⟨S_, .f32⟩
  | .hbm, ⟨33, _⟩ => ⟨S128x32, .f32⟩
  | .hbm, ⟨34, _⟩ => ⟨S128x32, .f32⟩
  | .hbm, ⟨35, _⟩ => ⟨S128x32x1, .f32⟩
  | .hbm, ⟨36, _⟩ => ⟨S128x32x128, .f32⟩
  | .hbm, ⟨37, _⟩ => ⟨S128x4096, .f32⟩
  | .hbm, ⟨38, _⟩ => ⟨S128x32x1, .f32⟩
  | .hbm, ⟨39, _⟩ => ⟨S128x32x128, .f32⟩
  | .hbm, ⟨40, _⟩ => ⟨S128x4096, .f32⟩
  | _, _ => ⟨S8320x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩

abbrev nD : Nat := 1
abbrev τ : Topo := Topo.v7x

variable {F : FTy → Type} [FloatOps F]
-- ==== Kernel13.lean ====
abbrev S8320x256 : Shape := ⟨2, ![8320, 256]⟩
abbrev S32 : Shape := ⟨1, ![32]⟩
abbrev S128 : Shape := ⟨1, ![128]⟩
abbrev S128x1 : Shape := ⟨2, ![128, 1]⟩
abbrev S4096 : Shape := ⟨1, ![4096]⟩
abbrev S_ : Shape := ⟨0, ![]⟩
abbrev S1x4096 : Shape := ⟨2, ![1, 4096]⟩
abbrev S128x4096 : Shape := ⟨2, ![128, 4096]⟩
abbrev S1x128 : Shape := ⟨2, ![1, 128]⟩
abbrev S1 : Shape := ⟨1, ![1]⟩
abbrev S2 : Shape := ⟨1, ![2]⟩
abbrev S8192x4096 : Shape := ⟨2, ![8192, 4096]⟩
abbrev S256x128 : Shape := ⟨2, ![256, 128]⟩
abbrev S128x1024 : Shape := ⟨2, ![128, 1024]⟩
abbrev S256x1024 : Shape := ⟨2, ![256, 1024]⟩
abbrev S64x64 : Shape := ⟨2, ![64, 64]⟩
abbrev S64x128 : Shape := ⟨2, ![64, 128]⟩

abbrev nBuf : Space → Nat
  | .hbm => 48
  | .vmem => 14
  | .smem => 0
  | _ => 0

abbrev bufTy : (tb : Table) → Fin (tcTables nBuf tb) → BufTy
  | .hbm, ⟨0, _⟩ => ⟨S8320x256, .f32⟩
  | .hbm, ⟨1, _⟩ => ⟨S32, .f32⟩
  | .hbm, ⟨2, _⟩ => ⟨S32, .f32⟩
  | .hbm, ⟨3, _⟩ => ⟨S128, .i32⟩
  | .hbm, ⟨4, _⟩ => ⟨S128x1, .i32⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S1x4096, .i32⟩
  | .hbm, ⟨25, _⟩ => ⟨S128x4096, .i32⟩
  | .hbm, ⟨26, _⟩ => ⟨S128x4096, .i32⟩
  | .hbm, ⟨27, _⟩ => ⟨S128x4096, .i1⟩
  | .hbm, ⟨28, _⟩ => ⟨S128x4096, .f32⟩
  | .hbm, ⟨29, _⟩ => ⟨S_, .f32⟩
  | .hbm, ⟨30, _⟩ => ⟨S1x128, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S1x128, .f32⟩
  | .hbm, ⟨37, _⟩ => ⟨S_, .f32⟩
  | .hbm, ⟨38, _⟩ => ⟨S1x128, .f32⟩
  | .hbm, ⟨39, _⟩ => ⟨S_, .i32⟩
  | .hbm, ⟨40, _⟩ => ⟨S1, .i32⟩
  | .hbm, ⟨41, _⟩ => ⟨S_, .i32⟩
  | .hbm, ⟨42, _⟩ => ⟨S1, .i32⟩
  | .hbm, ⟨43, _⟩ => ⟨S2, .i32⟩
  | .hbm, ⟨44, _⟩ => ⟨S1x128, .f32⟩
  | .hbm, ⟨45, _⟩ => ⟨S8192x4096, .f32⟩
  | .hbm, ⟨46, _⟩ => ⟨S8192x4096, .f32⟩
  | .hbm, ⟨47, _⟩ => ⟨S8192x4096, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S1x128, .f32⟩
  | .local _ .vmem, ⟨6, _⟩ => ⟨S128x1024, .f32⟩
  | .local _ .vmem, ⟨7, _⟩ => ⟨S128x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S8320x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_c_0 : Ref sig .tc := ⟨.hbm, 31, rfl⟩
abbrev main_v10 : Ref sig .tc := ⟨.hbm, 32, rfl⟩
abbrev main_c_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19_0 : Ref sig .tc := ⟨.hbm, 45, rfl⟩
abbrev main_v19_1 : Ref sig .tc := ⟨.hbm, 46, rfl⟩
abbrev main_v19_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference13Ideal.lean ====
abbrev S8320x256 : Shape := ⟨2, ![8320, 256]⟩
abbrev S32 : Shape := ⟨1, ![32]⟩
abbrev S8192x32 : Shape := ⟨2, ![8192, 32]⟩
abbrev S1x32 : Shape := ⟨2, ![1, 32]⟩
abbrev S_ : Shape := ⟨0, ![]⟩
abbrev S128x64x32 : Shape := ⟨3, ![128, 64, 32]⟩
abbrev S128x64x32x1 : Shape := ⟨4, ![128, 64, 32, 1]⟩
abbrev S128x64x32x128 : Shape := ⟨4, ![128, 64, 32, 128]⟩
abbrev S8192x4096 : Shape := ⟨2, ![8192, 4096]⟩
abbrev S128x1x32 : Shape := ⟨3, ![128, 1, 32]⟩

abbrev nBuf : Space → Nat
  | .hbm => 51
  | .vmem => 0
  | .smem => 0
  | _ => 0

abbrev bufTy : (tb : Table) → Fin (tcTables nBuf tb) → BufTy
  | .hbm, ⟨0, _⟩ => ⟨S8320x256, .f32⟩
  | .hbm, ⟨1, _⟩ => ⟨S32, .f32⟩
  | .hbm, ⟨2, _⟩ => ⟨S32, .f32⟩
  | .hbm, ⟨3, _⟩ => ⟨S8192x32, .f32⟩
  | .hbm, ⟨4, _⟩ => ⟨S8192x32, .f32⟩
  | .hbm, ⟨5, _⟩ => ⟨S32, .f32⟩
  | .hbm, ⟨6, _⟩ => ⟨S32, .f32⟩
  | .hbm, ⟨7, _⟩ => ⟨S1x32, .f32⟩
  | .hbm, ⟨8, _⟩ => ⟨S8192x32, .f32⟩
  | .hbm, ⟨9, _⟩ => ⟨S8192x32, .f32⟩
  | .hbm, ⟨10, _⟩ => ⟨S_, .f32⟩
  | .hbm, ⟨11, _⟩ => ⟨S8192x32, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x32, .i1⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S1x32, .f32⟩
  | .hbm, ⟨25, _⟩ => ⟨S8192x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S_, .f32⟩
  | .hbm, ⟨30, _⟩ => ⟨S8192x32, .f32⟩
  | .hbm, ⟨31, _⟩ => ⟨S8192x32, .f32⟩
  | .hbm, ⟨32, _⟩ => ⟨S_, .f32⟩
  | .hbm, ⟨33, _⟩ => ⟨S8192x32, .f32⟩
  | .hbm, ⟨34, _⟩ => ⟨S8192x32, .f32⟩
  | .hbm, ⟨35, _⟩ => ⟨S128x64x32, .f32⟩
  | .hbm, ⟨36, _⟩ => ⟨S_, .f32⟩
  | .hbm, ⟨37, _⟩ => ⟨S_, .f32⟩
  | .hbm, ⟨38, _⟩ => ⟨S128x64x32, .f32⟩
  | .hbm, ⟨39, _⟩ => ⟨S128x64x32x1, .f32⟩
  | .hbm, ⟨40, _⟩ => ⟨S128x64x32x128, .f32⟩
  | .hbm, ⟨41, _⟩ => ⟨S8192x4096, .f32⟩
  | .hbm, ⟨42, _⟩ => ⟨S128x1x32, .f32⟩
  | .hbm, ⟨43, _⟩ => ⟨S128x64x32, .f32⟩
  | .hbm, ⟨44, _⟩ => ⟨S128x64x32x1, .f32⟩
  | .hbm, ⟨45, _⟩ => ⟨S128x64x32x128, .f32⟩
  | .hbm, ⟨46, _⟩ => ⟨S8192x4096, .f32⟩
  | .hbm, ⟨47, _⟩ => ⟨S128x64x32, .f32⟩
  | .hbm, ⟨48, _⟩ => ⟨S128x64x32x1, .f32⟩
  | .hbm, ⟨49, _⟩ => ⟨S128x64x32x128, .f32⟩
  | .hbm, ⟨50, _⟩ => ⟨S8192x4096, .f32⟩
  | _, _ => ⟨S8320x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_call0_cst : Ref sig .tc := ⟨.hbm, 36, rfl⟩
abbrev main_call1_call0_v0 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩

abbrev nD : Nat := 1
abbrev τ : Topo := Topo.v7x

variable {F : FTy → Type} [FloatOps F]
-- ==== Proof.Scalars.lean ====
module

public import Idealize.ShloMosaic.Lib.Pointwise
public import Idealize.ShloMosaic.PureOps.Ideal

@[expose] public section

noncomputable section

open Idealize.ShloMosaic
open scoped NNReal

/-! # The layers' elementwise functions, and the two ways of writing them -/

namespace Cert.Scalars

theorem zero_bits : Ideal.ofBits .f32 0x00000000#32 = 0 := by simp [Ideal.ofBits, Ideal.ieee]
theorem one_bits : Ideal.ofBits .f32 0x3F800000#32 = 1 := by
  simp [Ideal.ofBits, Ideal.ieee, -EReal.coe_mul]; norm_num
theorem two_bits : Ideal.ofBits .f32 0x40000000#32 = 2 := by
  simp [Ideal.ofBits, Ideal.ieee, -EReal.coe_mul]; norm_num; rfl

theorem neg_bits : Ideal.ofBits .f32 0xC1000000#32 = ((-8 : ℝ) : EReal) := by
  simp [Ideal.ofBits, Ideal.ieee, -EReal.coe_mul]; norm_num

/-- `1 / (1 + e^(-x))`. -/
def sigm (x : EReal) : EReal := Ideal.div 1 (1 + Ideal.exp (-x))

/-- `log (1 + e^x)`, by its stable form. -/
def softplus (x : EReal) : EReal := max x 0 + Ideal.log1p (Ideal.exp (-(max x (-x))))

/-- The tanh form of the Gaussian gate. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- The recurrence's log decay, from the gate's preactivation and the channel's parameter. -/
def logDecay (p l : EReal) : EReal := Ideal.ofBits .f32 0xC1000000#32 * sigm p * softplus (-l)

/-- One step of the recurrence from state `h`: `e^l h + sqrt (1 - e^(2l)) i x`. -/
def step (l i x h : EReal) : EReal := Ideal.exp l * h + Ideal.sqrt (-(Ideal.expm1 (2 * l))) * (i * x)

/-- `-tanh l (e^l e^l + 1)` is `-(e^(2l) - 1)`. -/
theorem neg_tanh_mul (l : EReal) : (-Ideal.tanh l) * (Ideal.exp l * Ideal.exp l + 1) = -(Ideal.expm1 (2 * l)) := by
  induction l with
  | bot =>
    rw [show (2 : EReal) * ⊥ = ⊥ from EReal.coe_mul_bot_of_pos (x := 2) (by norm_num)]
    show (-(-1 : EReal)) * (0 * 0 + 1) = -((0 : EReal) - 1)
    simp
  | top =>
    rw [show (2 : EReal) * ⊤ = ⊤ from EReal.coe_mul_top_of_pos (x := 2) (by norm_num)]
    show (-(1 : EReal)) * (⊤ * ⊤ + 1) = -((⊤ : EReal) - 1)
    rw [EReal.top_mul_top, show (⊤ : EReal) + 1 = ⊤ from rfl, show (⊤ : EReal) - 1 = ⊤ from rfl, neg_mul, one_mul]
  | coe r =>
    rw [show (2 : EReal) * (r : EReal) = ((2 * r : ℝ) : EReal) from rfl]
    have h : -Real.tanh r * (Real.exp r * Real.exp r + 1) = -(Real.exp (2 * r) - 1) := by
      have h2 : Real.exp (2 * r) = Real.exp r * Real.exp r := by rw [← Real.exp_add]; ring_nf
      have hp := Real.exp_pos r
      rw [h2, Real.tanh_eq_sinh_div_cosh, Real.sinh_eq, Real.cosh_eq, Real.exp_neg]
      field_simp
    show (-((Real.tanh r : ℝ) : EReal)) * (((Real.exp r : ℝ) : EReal) * ((Real.exp r : ℝ) : EReal) + 1) = -(((Real.exp (2 * r) : ℝ) : EReal) - 1)
    exact_mod_cast congrArg (fun x : ℝ => (x : EReal)) h

/-- The kernel's order of the Gaussian gate's product. -/
theorem gelu_half (x : EReal) : Ideal.ofBits .f32 0x3F000000#32 * x
    * (1 + Ideal.tanh (Ideal.ofBits .f32 0x3F4C422A#32 * (x + Ideal.ofBits .f32 0x3D372713#32 * (x * x * x)))) = gelu x := by
  unfold gelu
  rw [mul_comm (Ideal.ofBits .f32 0x3F000000#32) x, mul_assoc]

/-! The log decay is never positive, so its exponential is a nonnegative finite factor. -/

theorem exp_nonneg (x : EReal) : 0 ≤ Ideal.exp x := by
  induction x with
  | bot => exact le_refl (0 : EReal)
  | top => exact (le_top : (0 : EReal) ≤ ⊤)
  | coe r => exact EReal.coe_nonneg.2 (Real.exp_pos r).le

theorem one_add_pos (x : EReal) (h : 0 ≤ x) : 0 < 1 + x :=
  lt_of_lt_of_le zero_lt_one (le_add_of_nonneg_right h)

theorem sigm_nonneg (x : EReal) : 0 ≤ sigm x := by
  unfold sigm Ideal.div
  rw [if_neg (one_add_pos _ (exp_nonneg _)).ne', one_mul]
  exact EReal.inv_nonneg_of_nonneg (one_add_pos _ (exp_nonneg _)).le

theorem log1p_nonneg (x : EReal) (h : 0 ≤ x) : 0 ≤ Ideal.log1p x := by
  unfold Ideal.log1p
  induction x with
  | bot => exact absurd h (by simp)
  | top => exact (le_top : (0 : EReal) ≤ ⊤)
  | coe r =>
    have hr : 0 ≤ r := EReal.coe_nonneg.1 h
    rw [show (1 : EReal) + (r : EReal) = ((1 + r : ℝ) : EReal) from rfl]
    show (0 : EReal) ≤ if 1 + r ≤ 0 then ⊥ else ((Real.log (1 + r) : ℝ) : EReal)
    rw [if_neg (by linarith)]
    exact EReal.coe_nonneg.2 (Real.log_nonneg (by linarith))

theorem softplus_nonneg (x : EReal) : 0 ≤ softplus x :=
  add_nonneg (le_max_right _ _) (log1p_nonneg _ (exp_nonneg _))

theorem logDecay_nonpos (p l : EReal) : logDecay p l ≤ 0 := by
  unfold logDecay
  rw [neg_bits]
  refine EReal.mul_nonpos_iff.2 (Or.inr ⟨EReal.mul_nonpos_iff.2 (Or.inr ⟨?_, sigm_nonneg _⟩), softplus_nonneg _⟩)
  exact_mod_cast (by norm_num : (-8 : ℝ) ≤ 0)

theorem exp_factor (p l : EReal) : ∃ a : ℝ≥0, Ideal.exp (logDecay p l) = ((a : ℝ) : EReal) := by
  have h := logDecay_nonpos p l
  revert h
  generalize logDecay p l = x
  intro h
  induction x with
  | bot => exact ⟨0, rfl⟩
  | top => exact absurd h (by simp)
  | coe r => exact ⟨⟨Real.exp r, (Real.exp_pos r).le⟩, rfl⟩
end Cert.Scalars

end
-- ==== Proof.LruStep.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Scalars
public import Idealize.ShloMosaic.Lib.Pipeline.ValueKit
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

/-! # One decode step of the gated linear recurrence

The kernel computes 256 channels a grid point: convolution, both gates, the state's step and the output gate. -/

namespace Cert.LruStep

open Cert.KernelIdeal Cert.KernelIdeal.Gen Cert.Scalars

/-! ## The step, channel by channel -/

section Spec

variable (x : S8320x8192.Idx → EReal) (cs : S128x3x4096.Idx → EReal) (h0 : S128x4096.Idx → EReal) (cw : S4x4096.Idx → EReal)
  (cb : S4096.Idx → EReal) (wg : S16x256x512.Idx → EReal) (bg : S8192.Idx → EReal) (lam : S4096.Idx → EReal)

/-- The convolved input: the three kept rows and the new one, each under its tap, and the bias. -/
def conv (b : Fin 128) (n : Fin 4096) : EReal :=
  cs (ix3 b 0 n) * cw (ix2 0 n) + cs (ix3 b 1 n) * cw (ix2 1 n) + cs (ix3 b 2 n) * cw (ix2 2 n)
    + x (ix2 ⟨8192 + b.val, by omega⟩ ⟨n.val, by omega⟩) * cw (ix2 3 n) + cb (ix1 n)

/-- Column `o` of gate block `q`. -/
def gate (b : Fin 128) (q : Fin 16) (o : Fin 512) : EReal :=
  ∑ k : Fin 256, conv x cs cw cb b ⟨q.val * 256 + k.val, by omega⟩ * wg (ix3 q k o)

/-- Channel `l` of block `q`: its log decay, -/
def decay (b : Fin 128) (q : Fin 16) (l : Fin 256) : EReal :=
  logDecay (gate x cs cw cb wg b q ⟨l.val, by omega⟩ + bg (ix1 ⟨q.val * 256 + l.val, by omega⟩)) (lam (ix1 ⟨q.val * 256 + l.val, by omega⟩))

/-- its input gate, -/
def inGate (b : Fin 128) (q : Fin 16) (l : Fin 256) : EReal :=
  sigm (gate x cs cw cb wg b q ⟨256 + l.val, by omega⟩ + bg (ix1 ⟨4096 + (q.val * 256 + l.val), by omega⟩))

/-- and its new state. -/
def state (b : Fin 128) (q : Fin 16) (l : Fin 256) : EReal :=
  step (decay x cs cw cb wg bg lam b q l) (inGate x cs cw cb wg bg b q l) (conv x cs cw cb b ⟨q.val * 256 + l.val, by omega⟩)
    (h0 (ix2 b ⟨q.val * 256 + l.val, by omega⟩))

/-- The states, -/
def states : S128x4096.Idx → EReal := fun i =>
  state x cs h0 cw cb wg bg lam (i 0) ⟨(i 1).val / 256, by idx_bounds i; omega⟩ ⟨(i 1).val % 256, by omega⟩

/-- and the gated outputs. -/
def outs : S128x4096.Idx → EReal := fun i =>
  states x cs h0 cw cb wg bg lam i * gelu (x (ix2 ⟨8192 + (i 0).val, by idx_bounds i; omega⟩ ⟨4096 + (i 1).val, by idx_bounds i; omega⟩))

end Spec

/-! ## The kernel's values at an index -/

theorem pay7_at (p : Vec Ideal S128x256 .f32) (l : Vec Ideal S1x256 .f32) (y : S128x256.Idx) :
    k0_pay7 (F := Ideal) p (k0_pay6 (F := Ideal)) l y = logDecay (p y) (l (ix2 0 (y 1))) := by
  pointwise [k0_pay7, k0_pay6]
  simp only [zero_bits, one_bits, zero_sub, logDecay, sigm, softplus]
  rfl

theorem pay9_at (x : Vec Ideal S128x256 .f32) (g : Vec Ideal S128x512 .f32) (p : Vec Ideal S128x256 .f32)
    (bi l : Vec Ideal S1x256 .f32) (y : S128x256.Idx) :
    k0_pay9 (F := Ideal) x g p (k0_pay6 (F := Ideal)) bi l y
      = Ideal.sqrt (-(Ideal.expm1 (2 * logDecay (p y) (l (ix2 0 (y 1))))))
        * (sigm (g (ix2 (y 0) ⟨256 + (y 1).val, by idx_bounds y; omega⟩) + bi (ix2 0 (y 1))) * x y) := by
  pointwise [k0_pay9, k0_pay8, pay7_at]
  simp only [zero_sub, neg_tanh_mul, sigm]

theorem pay2_at (a b h0 yb : Vec Ideal S128x256 .f32) (y : S128x256.Idx) :
    k0_pay2 (F := Ideal) a b h0 yb y = (a y * h0 y + b y) * gelu (yb y) := by
  pointwise [k0_pay2, k0_pay1]
  rw [gelu_half]

theorem pay4_at (v0 : Vec Ideal S128x256 .f32) (v1 : Vec Ideal S4x256 .f32) (v2 v7 v13 : Vec Ideal S1x128x256 .f32)
    (v23 : Vec Ideal S1x256 .f32) (v28 : Vec Ideal S1x256x512 .bf16) (y : S128x512.Idx) :
    k0_pay4 (F := Ideal) v0 v1 v2 v7 v13 v23 v28 y
      = ∑ k : Fin 256, k0_pay3 (F := Ideal) v0 v1 v2 v7 v13 v23 (ix2 (y 0) k) * v28 (ix3 0 k (y 1)) := by
  pointwise [k0_pay4]

theorem pay5_at (v0 : Vec Ideal S128x256 .f32) (v1 : Vec Ideal S4x256 .f32) (v2 v7 v13 : Vec Ideal S1x128x256 .f32)
    (v23 : Vec Ideal S1x256 .f32) (v28 : Vec Ideal S1x256x512 .bf16) (v32 : Vec Ideal S1x256 .f32) (y : S128x256.Idx) :
    k0_pay5 (F := Ideal) v0 v1 v2 v7 v13 v23 v28 v32 y
      = k0_pay4 (F := Ideal) v0 v1 v2 v7 v13 v23 v28 (ix2 (y 0) ⟨(y 1).val, by idx_bounds y; omega⟩) + v32 (ix2 0 (y 1)) := by
  pointwise [k0_pay5]

/-! ## The run -/

variable (m : (ℓ : Loc nD τ sig) → Buf (Elt Ideal) ℓ)

/-- The block indices of the windows at every grid point. -/
theorem idx : ∀ t : Fin cfg0.N,
    win0_0.index t = ![64, t.val] ∧ win0_1.index t = ![64, 16 + t.val] ∧ win0_2.index t = ![0, 0, t.val] ∧ win0_3.index t = ![0, t.val]
      ∧ win0_4.index t = ![0, t.val] ∧ win0_5.index t = ![0, t.val] ∧ win0_6.index t = ![t.val, 0, 0] ∧ win0_7.index t = ![0, t.val]
      ∧ win0_8.index t = ![0, 16 + t.val] ∧ win0_9.index t = ![0, t.val] ∧ win0_10.index t = ![0, t.val] ∧ win0_11.index t = ![0, t.val] := by
  show ∀ t : Fin grid0.N, _
  decide +kernel

/-- The buffers the host fills before the region, read. -/
theorem entry_cs (c : Dev nD) (i : S3x128x4096.Idx) : V m c main_v0 i = m ((c : Thread nD τ).loc main_arg1) (ix3 (i 1) (i 0) (i 2)) := by
  show StableHlo.after (List.flatten [hostOps0]) (fun b => m (c, b)) (Proc.devRef .tc main_v0) i = _
  simp only [List.flatten_cons, List.flatten_nil, List.append_nil]
  after_results
  pointwise

theorem entry_wg (c : Dev nD) (i : S16x256x512.Idx) : V m c main_v1 i = m ((c : Thread nD τ).loc main_arg5) i := by
  show StableHlo.after (List.flatten [hostOps0]) (fun b => m (c, b)) (Proc.devRef .tc main_v1) i = _
  simp only [List.flatten_cons, List.flatten_nil, List.append_nil]
  after_results
  pointwise

theorem entry_cb (c : Dev nD) (i : S1x4096.Idx) : V m c main_v2 i = m ((c : Thread nD τ).loc main_arg4) (ix1 (i 1)) := by
  show StableHlo.after (List.flatten [hostOps0]) (fun b => m (c, b)) (Proc.devRef .tc main_v2) i = _
  simp only [List.flatten_cons, List.flatten_nil, List.append_nil]
  after_results
  pointwise

theorem entry_br (c : Dev nD) (i : S1x8192.Idx) : V m c main_v3 i = m ((c : Thread nD τ).loc main_arg6) (ix1 (i 1)) := by
  show StableHlo.after (List.flatten [hostOps0]) (fun b => m (c, b)) (Proc.devRef .tc main_v3) i = _
  simp only [List.flatten_cons, List.flatten_nil, List.append_nil]
  after_results
  pointwise

theorem entry_bi (c : Dev nD) (i : S1x8192.Idx) : V m c main_v4 i = m ((c : Thread nD τ).loc main_arg6) (ix1 (i 1)) := by
  show StableHlo.after (List.flatten [hostOps0]) (fun b => m (c, b)) (Proc.devRef .tc main_v4) i = _
  simp only [List.flatten_cons, List.flatten_nil, List.append_nil]
  after_results
  pointwise

theorem entry_lam (c : Dev nD) (i : S1x4096.Idx) : V m c main_v5 i = m ((c : Thread nD τ).loc main_arg7) (ix1 (i 1)) := by
  show StableHlo.after (List.flatten [hostOps0]) (fun b => m (c, b)) (Proc.devRef .tc main_v5) i = _
  simp only [List.flatten_cons, List.flatten_nil, List.append_nil]
  after_results
  pointwise

section Blocks

variable (c : Dev nD) (t : Fin cfg0.N)

theorem lt16 (t : Fin cfg0.N) : t.val < 16 := lt_of_lt_of_eq t.isLt N_0

theorem blk_x (y : S128x256.Idx) : iblk m c 0 t y = m ((c : Thread nD τ).loc main_arg0)
    (ix2 ⟨8192 + (y 0).val, by idx_bounds y; omega⟩ ⟨t.val * 256 + (y 1).val, by have := lt16 t; idx_bounds y; omega⟩) := by
  blk_ext [iblk, idx t]

theorem blk_y (y : S128x256.Idx) : iblk m c 1 t y = m ((c : Thread nD τ).loc main_arg0)
    (ix2 ⟨8192 + (y 0).val, by idx_bounds y; omega⟩ ⟨4096 + (t.val * 256 + (y 1).val), by have := lt16 t; idx_bounds y; omega⟩) := by
  blk_ext [iblk, idx t]

theorem blk_cs (y : S3x128x256.Idx) : iblk m c 2 t y = m ((c : Thread nD τ).loc main_arg1)
    (ix3 (y 1) (y 0) ⟨t.val * 256 + (y 2).val, by have := lt16 t; idx_bounds y; omega⟩) := by
  refine (entry_cs m c _).trans ?_
  blk_ext [idx t]

theorem blk_h (y : S128x256.Idx) : iblk m c 3 t y = m ((c : Thread nD τ).loc main_arg2)
    (ix2 (y 0) ⟨t.val * 256 + (y 1).val, by have := lt16 t; idx_bounds y; omega⟩) := by
  blk_ext [iblk, idx t]

theorem blk_cw (y : S4x256.Idx) : iblk m c 4 t y = m ((c : Thread nD τ).loc main_arg3)
    (ix2 (y 0) ⟨t.val * 256 + (y 1).val, by have := lt16 t; idx_bounds y; omega⟩) := by
  blk_ext [iblk, idx t]

theorem blk_cb (y : S1x256.Idx) : iblk m c 5 t y = m ((c : Thread nD τ).loc main_arg4)
    (ix1 ⟨t.val * 256 + (y 1).val, by have := lt16 t; idx_bounds y; omega⟩) := by
  refine (entry_cb m c _).trans ?_
  blk_ext [idx t]

theorem blk_wg (y : S1x256x512.Idx) : iblk m c 6 t y = m ((c : Thread nD τ).loc main_arg5) (ix3 ⟨t.val, lt16 t⟩ (y 1) (y 2)) := by
  refine (entry_wg m c _).trans ?_
  blk_ext [idx t]

theorem blk_br (y : S1x256.Idx) : iblk m c 7 t y = m ((c : Thread nD τ).loc main_arg6)
    (ix1 ⟨t.val * 256 + (y 1).val, by have := lt16 t; idx_bounds y; omega⟩) := by
  refine (entry_br m c _).trans ?_
  blk_ext [idx t]

theorem blk_bi (y : S1x256.Idx) : iblk m c 8 t y = m ((c : Thread nD τ).loc main_arg6)
    (ix1 ⟨4096 + (t.val * 256 + (y 1).val), by have := lt16 t; idx_bounds y; omega⟩) := by
  refine (entry_bi m c _).trans ?_
  blk_ext [idx t]

theorem blk_lam (y : S1x256.Idx) : iblk m c 9 t y = m ((c : Thread nD τ).loc main_arg7)
    (ix1 ⟨t.val * 256 + (y 1).val, by have := lt16 t; idx_bounds y; omega⟩) := by
  refine (entry_lam m c _).trans ?_
  blk_ext [idx t]

theorem ld_row (v : Vec Ideal S1x256 .f32) (y : S1x256.Idx) : View.ld v r0_5 y = v y := by
  pointwise
  congr 1
  blk_ext
theorem ld_wg (v : Vec Ideal S1x256x512 .bf16) (y : S1x256x512.Idx) : View.ld v r0_6 y = v y := by
  pointwise
  congr 1
  blk_ext

/-- The convolution of a block of channels. -/
theorem conv_at (b : Fin 128) (l : Fin 256) :
    k0_pay3 (F := Ideal) (View.ld (iblk m c 0 t) r0_0) (View.ld (iblk m c 4 t) r0_1) (View.ld (iblk m c 2 t) r0_2)
        (View.ld (iblk m c 2 t) r0_3) (View.ld (iblk m c 2 t) r0_4) (View.ld (iblk m c 5 t) r0_5) (ix2 b l)
      = conv (m ((c : Thread nD τ).loc main_arg0)) (m ((c : Thread nD τ).loc main_arg1)) (m ((c : Thread nD τ).loc main_arg3)) (m ((c : Thread nD τ).loc main_arg4))
          b ⟨t.val * 256 + l.val, by have := lt16 t; omega⟩ := by
  pointwise [k0_pay3, conv, blk_x, blk_cw, blk_cs, blk_cb]

/-- The gates' columns of a block. -/
theorem gate_at (b : Fin 128) (o : Fin 512) :
    k0_pay4 (F := Ideal) (View.ld (iblk m c 0 t) r0_0) (View.ld (iblk m c 4 t) r0_1) (View.ld (iblk m c 2 t) r0_2)
        (View.ld (iblk m c 2 t) r0_3) (View.ld (iblk m c 2 t) r0_4) (View.ld (iblk m c 5 t) r0_5) (View.ld (iblk m c 6 t) r0_6) (ix2 b o)
      = gate (m ((c : Thread nD τ).loc main_arg0)) (m ((c : Thread nD τ).loc main_arg1)) (m ((c : Thread nD τ).loc main_arg3)) (m ((c : Thread nD τ).loc main_arg4)) (m ((c : Thread nD τ).loc main_arg5))
          b ⟨t.val, lt16 t⟩ o := by
  rw [pay4_at]
  refine Finset.sum_congr rfl fun k _ => ?_
  exact congrArg₂ (· * ·) (conv_at m c t b k) ((ld_wg _ _).trans (blk_wg m c t (ix3 0 k o)))

/-- The recurrence gate's pre-activation. -/
theorem pre_at (b : Fin 128) (l : Fin 256) :
    k0_pay10 (F := Ideal) (iblk m c 0 t) (iblk m c 1 t) (iblk m c 2 t) (iblk m c 3 t) (iblk m c 4 t) (iblk m c 5 t)
        (iblk m c 6 t) (iblk m c 7 t) (iblk m c 8 t) (iblk m c 9 t) (ix2 b l)
      = gate (m ((c : Thread nD τ).loc main_arg0)) (m ((c : Thread nD τ).loc main_arg1)) (m ((c : Thread nD τ).loc main_arg3)) (m ((c : Thread nD τ).loc main_arg4)) (m ((c : Thread nD τ).loc main_arg5))
          b ⟨t.val, lt16 t⟩ ⟨l.val, by omega⟩
        + m ((c : Thread nD τ).loc main_arg6) (ix1 ⟨t.val * 256 + l.val, by have := lt16 t; omega⟩) := by
  unfold k0_pay10
  rw [pay5_at]
  exact congrArg₂ (· + ·) (gate_at m c t b ⟨l.val, by omega⟩) ((ld_row _ _).trans (blk_br m c t (ix2 0 l)))

/-- The decay factor. -/
theorem decay_at (b : Fin 128) (l : Fin 256) :
    k0_pay12 (F := Ideal) (iblk m c 0 t) (iblk m c 1 t) (iblk m c 2 t) (iblk m c 3 t) (iblk m c 4 t) (iblk m c 5 t)
        (iblk m c 6 t) (iblk m c 7 t) (iblk m c 8 t) (iblk m c 9 t) (ix2 b l)
      = Ideal.exp (decay (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) (m ((c : Thread nD τ).loc main_arg7)) b ⟨t.val, lt16 t⟩ l) := by
  unfold k0_pay12 k0_pay11
  pointwise [k0_pay8]
  rw [pay7_at]
  exact congrArg₂ (fun p l => Ideal.exp (logDecay p l)) (pre_at m c t b l) ((ld_row _ _).trans (blk_lam m c t (ix2 0 l)))

/-- The state's input. -/
theorem input_at (b : Fin 128) (l : Fin 256) :
    k0_pay13 (F := Ideal) (iblk m c 0 t) (iblk m c 1 t) (iblk m c 2 t) (iblk m c 3 t) (iblk m c 4 t) (iblk m c 5 t)
        (iblk m c 6 t) (iblk m c 7 t) (iblk m c 8 t) (iblk m c 9 t) (ix2 b l)
      = Ideal.sqrt (-(Ideal.expm1 (2 * decay (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6)) (m ((c : Thread nD τ).loc main_arg7)) b ⟨t.val, lt16 t⟩ l)))
        * (inGate (m ((c : Thread nD τ).loc main_arg0)) (m ((c : Thread nD τ).loc main_arg1)) (m ((c : Thread nD τ).loc main_arg3))
            (m ((c : Thread nD τ).loc main_arg4)) (m ((c : Thread nD τ).loc main_arg5)) (m ((c : Thread nD τ).loc main_arg6)) b ⟨t.val, lt16 t⟩ l
          * conv (m ((c : Thread nD τ).loc main_arg0)) (m ((c : Thread nD τ).loc main_arg1)) (m ((c : Thread nD τ).loc main_arg3)) (m ((c : Thread nD τ).loc main_arg4))
            b ⟨t.val * 256 + l.val, by have := lt16 t; omega⟩) := by
  unfold k0_pay13 k0_pay11
  rw [pay9_at]
  refine congrArg₂ (· * ·) ?_ (congrArg₂ (· * ·) ?_ (conv_at m c t b l))
  · exact congrArg₂ (fun p l => Ideal.sqrt (-(Ideal.expm1 (2 * logDecay p l)))) (pre_at m c t b l) ((ld_row _ _).trans (blk_lam m c t (ix2 0 l)))
  · exact congrArg sigm (congrArg₂ (· + ·) (gate_at m c t b ⟨256 + l.val, by omega⟩) ((ld_row _ _).trans (blk_bi m c t (ix2 0 l))))

/-- The block's new state. -/
theorem state_at (b : Fin 128) (l : Fin 256) :
    k0_pay12 (F := Ideal) (iblk m c 0 t) (iblk m c 1 t) (iblk m c 2 t) (iblk m c 3 t) (iblk m c 4 t) (iblk m c 5 t)
        (iblk m c 6 t) (iblk m c 7 t) (iblk m c 8 t) (iblk m c 9 t) (ix2 b l) * iblk m c 3 t (ix2 b l)
      + k0_pay13 (F := Ideal) (iblk m c 0 t) (iblk m c 1 t) (iblk m c 2 t) (iblk m c 3 t) (iblk m c 4 t) (iblk m c 5 t)
        (iblk m c 6 t) (iblk m c 7 t) (iblk m c 8 t) (iblk m c 9 t) (ix2 b l)
      = state (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) b ⟨t.val, lt16 t⟩ l := by
  rw [decay_at, input_at]
  exact congrArg (fun h => _ * h + _) (blk_h m c t (ix2 b l))

end Blocks

/-- The array's states at a block's lanes. -/
theorem states_ix (x : S8320x8192.Idx → EReal) (cs : S128x3x4096.Idx → EReal) (h0 : S128x4096.Idx → EReal) (cw : S4x4096.Idx → EReal)
    (cb : S4096.Idx → EReal) (wg : S16x256x512.Idx → EReal) (bg : S8192.Idx → EReal) (lam : S4096.Idx → EReal)
    (b : Fin 128) (q : Fin 16) (l : Fin 256) (h : q.val * 256 + l.val < 4096) :
    states x cs h0 cw cb wg bg lam (ix2 b ⟨q.val * 256 + l.val, h⟩) = state x cs h0 cw cb wg bg lam b q l := by
  have e1 : (⟨(q.val * 256 + l.val) / 256, by omega⟩ : Fin 16) = q := Fin.ext (by simp only; omega)
  have e2 : (⟨(q.val * 256 + l.val) % 256, by omega⟩ : Fin 256) = l := Fin.ext (by simp only; omega)
  show state x cs h0 cw cb wg bg lam b ⟨(q.val * 256 + l.val) / 256, _⟩ ⟨(q.val * 256 + l.val) % 256, _⟩ = _
  rw [e1, e2]

theorem lanes (y : S128x256.Idx) : ∃ (b : Fin 128) (l : Fin 256), y = ix2 b l := ⟨y 0, y 1, by blk_ext⟩

/-- The outputs after the run. -/
theorem final_outs (c : Dev nD) : (dats m 0 c).arrAt 10 cfg0.N = outs (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 10 _ (by decide +kernel) fun t hf y => ?_
  blk_simp
  rw [after0_10]; frame_out
  obtain ⟨b, l, rfl⟩ := lanes y
  have he : ((View.whole main_v6_0).slice (win0_10.rect t)).emb (ix2 b l)
      = (ix2 b ⟨t.val * 256 + l.val, by have := lt16 t; omega⟩ : S128x4096.Idx) := by blk_ext [idx t]
  rw [he]
  rw [pay2_at]
  refine congrArg₂ (· * ·) ((state_at m c t b l).trans (states_ix _ _ _ _ _ _ _ _ b ⟨t.val, lt16 t⟩ l _).symm) ?_
  exact congrArg gelu (blk_y m c t (ix2 b l))

/-- The states after the run. -/
theorem final_states (c : Dev nD) : (dats m 0 c).arrAt 11 cfg0.N = states (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 11 _ (by decide +kernel) fun t hf y => ?_
  blk_simp
  rw [after0_11]; frame_out
  obtain ⟨b, l, rfl⟩ := lanes y
  have he : ((View.whole main_v6_1).slice (win0_11.rect t)).emb (ix2 b l)
      = (ix2 b ⟨t.val * 256 + l.val, by have := lt16 t; omega⟩ : S128x4096.Idx) := by blk_ext [idx t]
  rw [he]
  exact (state_at m c t b l).trans (states_ix _ _ _ _ _ _ _ _ b ⟨t.val, lt16 t⟩ l _).symm

/-- The run, read. -/
theorem run (ρ : Dev nD → PrngReg) : θ_run defs (onTc (τ := τ) (main (F := Ideal))) ⟨m, fun _ => 0, ρ⟩ fun r => ∀ c : Dev nD,
      r.2.mem ((c : Thread nD τ).loc main_v6_0) = outs (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7))
      ∧ r.2.mem ((c : Thread nD τ).loc main_v6_1) = states (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final_outs m c), (h c).2.1.trans (final_states m c), (h c).2.2⟩) (Value.run_blocks m ρ)

/-! ## The reference's values at an index -/

section Ref

open Cert.ReferenceIdeal.Read

variable (x0 : S8320x8192.Idx → EReal) (x1 : S128x3x4096.Idx → EReal) (x2 : S128x4096.Idx → EReal) (x3 : S4x4096.Idx → EReal)
  (x4 : S4096.Idx → EReal) (x5 : S16x256x512.Idx → EReal) (x6 : S8192.Idx → EReal) (x7 : S4096.Idx → EReal)

theorem ref_conv (b : Fin 128) (n : Fin 4096) : val_main_v50 (F := Ideal) x0 x1 x3 x4 (ix2 b n) = conv x0 x1 x3 x4 b n := by
  pointwise [val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v0, conv]

theorem ref_gate (b : Fin 128) (q : Fin 16) (o : Fin 512) :
    val_main_v53 (F := Ideal) x0 x1 x3 x4 x5 (ix3 b q o) = gate x0 x1 x3 x4 x5 b q o := by
  pointwise [val_main_v51, val_main_v52, val_main_v53, ref_conv, gate]
  exact Finset.sum_congr rfl fun k _ => mul_comm _ _

theorem ref_gelu (b : Fin 128) (n : Fin 4096) :
    val_main_v14 (F := Ideal) x0 (ix2 b n) = gelu (x0 (ix2 ⟨8192 + b.val, by omega⟩ ⟨4096 + n.val, by omega⟩)) := by
  pointwise [val_main_v1, val_main_v2, val_main_v3, val_main_v4, val_main_v5, val_main_v6, val_main_v7, val_main_v8, val_main_v9, val_main_v10, val_main_v11, val_main_v12, val_main_v13, val_main_v14, val_main_cst, val_main_cst_0, val_main_cst_1, val_main_cst_2, gelu]

theorem ref_softplus (n : Fin 4096) : val_main_v81 (F := Ideal) x7 (ix1 n) = softplus (-(x7 (ix1 n))) := by
  pointwise [val_main_v80, val_main_v81, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, softplus]
  rw [if_neg (by simp)]
  rfl

theorem rows (i : S128x4096.Idx) : ∃ (b : Fin 128) (n : Fin 4096), i = ix2 b n := ⟨i 0, i 1, by blk_ext⟩

theorem ref_decay (b : Fin 128) (n : Fin 4096) :
    val_main_v84 (F := Ideal) x0 x1 x3 x4 x5 x6 x7 (ix2 b n)
      = decay x0 x1 x3 x4 x5 x6 x7 b ⟨n.val / 256, by omega⟩ ⟨n.val % 256, by omega⟩ := by
  pointwise [val_main_v54, val_main_v55, val_main_v56, val_main_v57, val_main_v58, val_main_v59, val_main_v60, val_main_v61, val_main_v62, val_main_v63, val_main_v64, val_main_v65, val_main_v78, val_main_v79, val_main_v82, val_main_v83, val_main_v84, val_main_cst_3, val_main_cst_4, val_main_cst_7, ref_gate, ref_softplus, decay, logDecay, sigm]
  simp only [Nat.div_add_mod', Fin.eta]

theorem ref_inGate (b : Fin 128) (n : Fin 4096) :
    val_main_v77 (F := Ideal) x0 x1 x3 x4 x5 x6 (ix2 b n)
      = inGate x0 x1 x3 x4 x5 x6 b ⟨n.val / 256, by omega⟩ ⟨n.val % 256, by omega⟩ := by
  pointwise [val_main_v66, val_main_v67, val_main_v68, val_main_v69, val_main_v70, val_main_v71, val_main_v72, val_main_v73, val_main_v74, val_main_v75, val_main_v76, val_main_v77, val_main_cst_5, val_main_cst_6, ref_gate, inGate, sigm]
  simp only [Nat.div_add_mod', Fin.eta]

theorem ref_states : val_main_v94 (F := Ideal) x0 x1 x2 x3 x4 x5 x6 x7 = states x0 x1 x2 x3 x4 x5 x6 x7 := by
  funext i
  obtain ⟨b, n, rfl⟩ := rows i
  pointwise [val_main_v85, val_main_v86, val_main_v87, val_main_v88, val_main_v89, val_main_v90, val_main_v91, val_main_v92, val_main_v93, val_main_v94, val_main_cst_8, ref_decay, ref_inGate, ref_conv, states, state, step]
  simp only [Nat.div_add_mod', Fin.eta, two_bits]
  rfl

theorem ref_outs : val_main_v96 (F := Ideal) x0 x1 x2 x3 x4 x5 x6 x7 = outs x0 x1 x2 x3 x4 x5 x6 x7 := by
  funext i
  obtain ⟨b, n, rfl⟩ := rows i
  pointwise [val_main_v95, val_main_v96, ref_states, ref_gelu, outs]

end Ref

/-! ## The claims -/

/-- The frames: each program runs and leaves its arguments and its semaphores as they were. -/
theorem frame : Cert.quiescent_Kernel := fun m ρ _ => Cert.Kernel.Gen.frame m ρ
theorem frame_ideal : Cert.quiescent_KernelIdeal := fun m ρ _ => Cert.KernelIdeal.Gen.frame m ρ
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The ideal pass rewrote nothing. -/
theorem preserves : Cert.preserves_Kernel_KernelIdeal := trivial

/-- The kernel computes the reference's outputs and states. -/
theorem algebraic : Cert.algebraic_KernelIdeal_ReferenceIdeal := by
  intro m ρ m' ρ' _ hagree
  refine ⟨fun c => outs (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => states (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), run m ρ,
    (θ_run Cert.ReferenceIdeal.defs _ _).mono (fun _ h c => ⟨(h c).1.trans ?_, (h c).2.1.trans ?_, (h c).2.2⟩)
      (Cert.ReferenceIdeal.Value.run (F := Ideal) m' ρ')⟩
  all_goals obtain ⟨e0, e1, e2, e3, e4, e5, e6, e7⟩ := hagree c
  · rw [Cert.ReferenceIdeal.Read.val_main_v96_eq, e0, e1, e2, e3, e4, e5, e6, e7]
    exact ref_outs _ _ _ _ _ _ _ _
  · rw [Cert.ReferenceIdeal.Read.val_main_v94_eq, e0, e1, e2, e3, e4, e5, e6, e7]
    exact ref_states _ _ _ _ _ _ _ _

end Cert.LruStep

end
-- ==== Proof.GdnStep.lean ====
module

public import proofs.«01_k».proof.Defs
public import proofs.«01_k».proof.Proof.Gen.Kernel2Ideal.Frame
public import proofs.«01_k».proof.Proof.Gen.Kernel2Ideal.Value
public import proofs.«01_k».proof.Proof.Gen.Kernel2.Frame
public import proofs.«01_k».proof.Proof.Gen.Reference2Ideal.Run
public import proofs.«01_k».proof.Proof.Gen.Reference2Ideal.Read
public import proofs.«01_k».proof.Proof.Scalars
public import Idealize.ShloMosaic.Lib.Pipeline.ValueKit
public import Idealize.ShloMosaic.Lib.Pointwise
public import Idealize.ShloMosaic.Lib.WritesUnit
public import Idealize.ShloMosaic.Lib.Quiescent

@[expose] public section

noncomputable section

open Idealize.ShloMosaic Idealize.ShloMosaic.TcCoe Idealize.SL.Sem
open Idealize.ShloMosaic.Pipeline (Dat)

/-! # One decode step of the gated delta rule

A grid point takes one head and 64 samples: it convolves and normalises the samples' queries, keys and values into scratch
rows, then a counted loop takes each sample's state through its step, and the samples' outputs are normalised and gated. -/

namespace Cert.GdnStep

open Cert.Kernel2Ideal Cert.Kernel2Ideal.Gen Cert.Scalars

/-- One entry of a head's new state: the decayed state with the delta rule's rank-one correction. -/
def cell (k : Fin 128 → EReal) (s : Fin 128 → EReal) (dec beta v : EReal) (a : Fin 128) : EReal :=
  s a * dec + k a * (beta * (v - ∑ r : Fin 128, k r * (s r * dec)))

section Spec

variable (x : S8320x16384.Idx → EReal) (cs : S128x3x12288.Idx → EReal) (g be : S128x32.Idx → EReal) (cw : S4x12288.Idx → EReal)
  (nw : S128.Idx → EReal) (s0 : S128x32x128x128.Idx → EReal)

/-- The convolved rows: the three kept ones and the new one, each under its tap. -/
def conv (b : Fin 128) (n : Fin 12288) : EReal :=
  cs (ix3 b 0 n) * cw (ix2 0 n) + cs (ix3 b 1 n) * cw (ix2 1 n) + cs (ix3 b 2 n) * cw (ix2 2 n)
    + x (ix2 ⟨8192 + b.val, by omega⟩ ⟨n.val, by omega⟩) * cw (ix2 3 n)

/-- Their activation. -/
def act (b : Fin 128) (n : Fin 12288) : EReal := conv x cs cw b n * sigm (conv x cs cw b n)

/-- A head's normalised and scaled query, -/
def query (b : Fin 128) (h : Fin 32) (a : Fin 128) : EReal :=
  act x cs cw b ⟨h.val * 128 + a.val, by omega⟩
    * Ideal.rsqrt ((∑ r : Fin 128, act x cs cw b ⟨h.val * 128 + r.val, by omega⟩ * act x cs cw b ⟨h.val * 128 + r.val, by omega⟩)
        + Ideal.ofBits .f32 0x358637BD#32)
    * Ideal.ofBits .f32 0x3DB504F3#32

/-- its normalised key, -/
def key (b : Fin 128) (h : Fin 32) (a : Fin 128) : EReal :=
  act x cs cw b ⟨4096 + (h.val * 128 + a.val), by omega⟩
    * Ideal.rsqrt ((∑ r : Fin 128, act x cs cw b ⟨4096 + (h.val * 128 + r.val), by omega⟩ * act x cs cw b ⟨4096 + (h.val * 128 + r.val), by omega⟩)
        + Ideal.ofBits .f32 0x358637BD#32)

/-- its value, -/
def value (b : Fin 128) (h : Fin 32) (e : Fin 128) : EReal := act x cs cw b ⟨8192 + (h.val * 128 + e.val), by omega⟩

/-- its new state, -/
def state (b : Fin 128) (h : Fin 32) (a e : Fin 128) : EReal :=
  cell (key x cs cw b h) (fun r => s0 (ix4 b h r e)) (Ideal.exp (g (ix2 b h))) (be (ix2 b h)) (value x cs cw b h e) a

/-- what the query reads of it, -/
def read (b : Fin 128) (h : Fin 32) (e : Fin 128) : EReal := ∑ a : Fin 128, query x cs cw b h a * state x cs g be cw s0 b h a e

/-- and its output: normalised, weighted and gated. -/
def out (b : Fin 128) (h : Fin 32) (e : Fin 128) : EReal :=
  read x cs g be cw s0 b h e
    * Ideal.rsqrt (Ideal.div (∑ r : Fin 128, read x cs g be cw s0 b h r * read x cs g be cw s0 b h r) (Ideal.ofBits .f32 0x43000000#32)
        + Ideal.ofBits .f32 0x358637BD#32)
    * nw (ix1 e)
    * (x (ix2 ⟨8192 + b.val, by omega⟩ ⟨12288 + (h.val * 128 + e.val), by omega⟩)
        * sigm (x (ix2 ⟨8192 + b.val, by omega⟩ ⟨12288 + (h.val * 128 + e.val), by omega⟩)))

/-- The states, -/
def states : S128x32x128x128.Idx → EReal := fun i => state x cs g be cw s0 (i 0) (i 1) (i 2) (i 3)

/-- and the outputs, heads side by side. -/
def outs : S128x4096.Idx → EReal := fun i =>
  out x cs g be cw nw s0 (i 0) ⟨(i 1).val / 128, by idx_bounds i; omega⟩ ⟨(i 1).val % 128, by omega⟩

end Spec

/-! ## The loop's trips: what each reads and stores -/

theorem off1_at : ∀ k : Fin k0_t1_loop.trips, k0_off1 k = ![k.val, 0] := by
  decide +kernel
theorem off2_at : ∀ k : Fin k0_t1_loop.trips, k0_off2 k = ![k.val, 0, 0, 0] := by
  decide +kernel
theorem off3_at : ∀ k : Fin k0_t1_loop.trips, k0_off3 k = ![0, k.val, 0] := by
  decide +kernel
theorem off4_at : ∀ k : Fin k0_t1_loop.trips, k0_off4 k = ![1, k.val, 0] := by
  decide +kernel
theorem off5_at : ∀ k : Fin k0_t1_loop.trips, k0_off5 k = ![2, k.val, 0] := by
  decide +kernel

abbrev rK (k : Fin k0_t1_loop.trips) : Rect S64x128 := Rect.unit (s := S64x128) (k0_off1 k) S1x128.size (k0_off1_inb k)
abbrev rS (k : Fin k0_t1_loop.trips) : Rect S64x1x128x128 := Rect.unit (s := S64x1x128x128) (k0_off2 k) S1x1x128x128.size (k0_off2_inb k)
abbrev rD (k : Fin k0_t1_loop.trips) : Rect S3x64x128 := Rect.unit (s := S3x64x128) (k0_off3 k) S1x1x128.size (k0_off3_inb k)
abbrev rB (k : Fin k0_t1_loop.trips) : Rect S3x64x128 := Rect.unit (s := S3x64x128) (k0_off4 k) S1x1x128.size (k0_off4_inb k)
abbrev rV (k : Fin k0_t1_loop.trips) : Rect S3x64x128 := Rect.unit (s := S3x64x128) (k0_off5 k) S1x1x128.size (k0_off5_inb k)

theorem rect_val {s : Shape} {off size : Fin s.rank → ℕ} (inb : ∀ a, off a + size a ≤ s.size a)
    (x : (Rect.unit off size inb).shape.Idx) (a : Fin s.rank) : ((Rect.unit off size inb).idx x a).val = off a + (x a).val := by
  show off a + 1 * (x a).val = _
  rw [Nat.one_mul]

theorem rK_at (k : Fin k0_t1_loop.trips) (a : Fin 128) : (rK k).idx (ix2 0 a : S1x128.Idx) = (ix2 ⟨k.val, k.isLt⟩ a : S64x128.Idx) := by
  refine funext fun ax => Fin.ext ?_
  refine (rect_val _ _ _).trans ((congrArg (· + _) (congrFun (off1_at k) ax)).trans ?_)
  fin_cases ax <;> simp
theorem rS_at (k : Fin k0_t1_loop.trips) (a e : Fin 128) :
    (rS k).idx (ix4 0 0 a e : S1x1x128x128.Idx) = (ix4 ⟨k.val, k.isLt⟩ 0 a e : S64x1x128x128.Idx) := by
  refine funext fun ax => Fin.ext ?_
  refine (rect_val _ _ _).trans ((congrArg (· + _) (congrFun (off2_at k) ax)).trans ?_)
  fin_cases ax <;> simp
theorem rD_at (k : Fin k0_t1_loop.trips) (a : Fin 128) : (rD k).idx (ix3 0 0 a : S1x1x128.Idx) = (ix3 0 ⟨k.val, k.isLt⟩ a : S3x64x128.Idx) := by
  refine funext fun ax => Fin.ext ?_
  refine (rect_val _ _ _).trans ((congrArg (· + _) (congrFun (off3_at k) ax)).trans ?_)
  fin_cases ax <;> simp
theorem rB_at (k : Fin k0_t1_loop.trips) (a : Fin 128) : (rB k).idx (ix3 0 0 a : S1x1x128.Idx) = (ix3 1 ⟨k.val, k.isLt⟩ a : S3x64x128.Idx) := by
  refine funext fun ax => Fin.ext ?_
  refine (rect_val _ _ _).trans ((congrArg (· + _) (congrFun (off4_at k) ax)).trans ?_)
  fin_cases ax <;> simp
theorem rV_at (k : Fin k0_t1_loop.trips) (a : Fin 128) : (rV k).idx (ix3 0 0 a : S1x1x128.Idx) = (ix3 2 ⟨k.val, k.isLt⟩ a : S3x64x128.Idx) := by
  refine funext fun ax => Fin.ext ?_
  refine (rect_val _ _ _).trans ((congrArg (· + _) (congrFun (off5_at k) ax)).trans ?_)
  fin_cases ax <;> simp

theorem pay2_at (vk : Vec Ideal S1x128 .f32) (vs : Vec Ideal S1x1x128x128 .f32) (vd vb vv : Vec Ideal S1x1x128 .f32) (a e : Fin 128) :
    k0_pay2 (F := Ideal) vk vs vd vb vv (ix2 a e)
      = cell (fun r => vk (ix2 0 r)) (fun r => vs (ix4 0 0 r e)) (vd (ix3 0 0 e)) (vb (ix3 0 0 e)) (vv (ix3 0 0 e)) a := by
  pointwise [k0_pay2]
  rfl

theorem pay3_at (vk : Vec Ideal S1x128 .f32) (vs : Vec Ideal S1x1x128x128 .f32) (vd vb vv : Vec Ideal S1x1x128 .f32) (a e : Fin 128) :
    k0_pay3 (F := Ideal) vk vs vd vb vv (ix4 0 0 a e)
      = cell (fun r => vk (ix2 0 r)) (fun r => vs (ix4 0 0 r e)) (vd (ix3 0 0 e)) (vb (ix3 0 0 e)) (vv (ix3 0 0 e)) a := by
  refine Eq.trans ?_ (pay2_at vk vs vd vb vv a e)
  pointwise [k0_pay3]

theorem pay4_at (vk vq : Vec Ideal S1x128 .f32) (vs : Vec Ideal S1x1x128x128 .f32) (vd vb vv : Vec Ideal S1x1x128 .f32) (e : Fin 128) :
    k0_pay15 (F := Ideal) (k0_pay4 (F := Ideal) vk vq vs vd vb vv) (ix2 0 e)
      = ∑ a : Fin 128, vq (ix2 0 a) * cell (fun r => vk (ix2 0 r)) (fun r => vs (ix4 0 0 r e)) (vd (ix3 0 0 e)) (vb (ix3 0 0 e)) (vv (ix3 0 0 e)) a := by
  simp only [← pay2_at]
  pointwise [k0_pay15, k0_pay4]

/-! ## The trips -/

section Trips

variable (𝒱 : Variants) (c : Dev nD) (bd : Option 𝒱.V) (i : grid0.Coords) (arg2 : Memref sig .tc .vmem S64x128 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S64x128 .f32) (harg5 : arg5.IsWhole) (arg6 : Memref sig .tc .vmem S3x64x128 .f32) (harg6 : arg6.IsWhole) (arg7 : Memref sig .tc .vmem S3x64x128 .f32) (harg7 : arg7.IsWhole) (arg8 : Memref sig .tc .vmem S3x64x128 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S4x128 .f32) (harg11 : arg11.IsWhole) (arg12 : Memref sig .tc .vmem S4x128 .f32) (harg12 : arg12.IsWhole) (arg13 : Memref sig .tc .vmem S4x128 .f32) (harg13 : arg13.IsWhole) (arg14 : Memref sig .tc .vmem S1x128 .f32) (harg14 : arg14.IsWhole) (arg15 : Memref sig .tc .vmem S64x1x128x128 .f32) (harg15 : arg15.IsWhole) (arg16 : Memref sig .tc .vmem S64x128 .bf16) (harg16 : arg16.IsWhole) (arg17 : Memref sig .tc .vmem S64x1x128x128 .f32) (harg17 : arg17.IsWhole) (arg18 : Memref sig .tc .vmem S64x128 .f32) (harg18 : arg18.IsWhole) (arg19 : Memref sig .tc .vmem S64x128 .f32) (harg19 : arg19.IsWhole) (arg20 : Memref sig .tc .vmem S3x64x128 .f32) (harg20 : arg20.IsWhole) (arg21 : Memref sig .tc .vmem S64x128 .f32) (harg21 : arg21.IsWhole) (v92 : FVec Ideal S64x128 .f32) (X_arg15 : BufTy.Contents (Elt Ideal) arg15.view.ty) (X_arg18 : BufTy.Contents (Elt Ideal) arg18.view.ty) (X_arg19 : BufTy.Contents (Elt Ideal) arg19.view.ty) (X_arg20 : BufTy.Contents (Elt Ideal) arg20.view.ty)

/-- The state a trip leaves: sample `b`'s, from the scratch rows the trip reads. -/
def tripS (kd : S64x128.Idx → EReal) (sd : S64x1x128x128.Idx → EReal) (dd : S3x64x128.Idx → EReal) : S64x1x128x128.Idx → EReal :=
  fun i => cell (fun r => kd (ix2 (i 0) r)) (fun r => sd (ix4 (i 0) 0 r (i 3))) (dd (ix3 0 (i 0) (i 3))) (dd (ix3 1 (i 0) (i 3)))
    (dd (ix3 2 (i 0) (i 3))) (i 2)

/-- The output row a trip leaves. -/
def tripO (kd qd : S64x128.Idx → EReal) (sd : S64x1x128x128.Idx → EReal) (dd : S3x64x128.Idx → EReal) : S64x128.Idx → EReal :=
  fun i => ∑ a : Fin 128, qd (ix2 (i 0) a) * tripS kd sd dd (ix4 (i 0) 0 a (i 1))

theorem trip_state (k : Fin k0_t1_loop.trips) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v92 X_arg15 X_arg18 X_arg19 X_arg20 k).1
      = [⟨rS k, k0_pay3 (View.ld (arg19.view.read (Elt Ideal) X_arg19) (rK k)) (View.ld (arg15.view.read (Elt Ideal) X_arg15) (rS k))
          (View.ld (arg20.view.read (Elt Ideal) X_arg20) (rD k)) (View.ld (arg20.view.read (Elt Ideal) X_arg20) (rB k))
          (View.ld (arg20.view.read (Elt Ideal) X_arg20) (rV k))⟩] := by
  unfold trip_k0_t1
  rfl

theorem trip_out (k : Fin k0_t1_loop.trips) :
    (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v92 X_arg15 X_arg18 X_arg19 X_arg20 k).2.1
      = [⟨rK k, k0_pay15 (k0_pay4 (View.ld (arg19.view.read (Elt Ideal) X_arg19) (rK k)) (View.ld (arg18.view.read (Elt Ideal) X_arg18) (rK k))
          (View.ld (arg15.view.read (Elt Ideal) X_arg15) (rS k))
          (View.ld (arg20.view.read (Elt Ideal) X_arg20) (rD k)) (View.ld (arg20.view.read (Elt Ideal) X_arg20) (rB k))
          (View.ld (arg20.view.read (Elt Ideal) X_arg20) (rV k)))⟩] := by
  unfold trip_k0_t1
  rfl

theorem pieces_state : ∀ n : ℕ, n ≤ k0_t1_loop.trips → ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v92 X_arg15 X_arg18 X_arg19 X_arg20 n).1, ∀ x : p.1.shape.Idx,
    p.2 x = tripS (arg19.view.read (Elt Ideal) X_arg19) (arg15.view.read (Elt Ideal) X_arg15) (arg20.view.read (Elt Ideal) X_arg20) (p.1.emb x) := by
  intro n
  induction n with
  | zero => intro _ p hp; exact absurd hp List.not_mem_nil
  | succ n ih =>
    intro hn p hp
    rw [show n + 1 = (⟨n, hn⟩ : Fin k0_t1_loop.trips).val + 1 from rfl, pb_k0_t1_succ] at hp
    rcases List.mem_append.1 hp with hp | hp
    · have hp := List.mem_singleton.1 (Eq.mp (congrArg (p ∈ ·) (trip_state 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v92 X_arg15 X_arg18 X_arg19 X_arg20 ⟨n, hn⟩)) hp)
      subst hp
      intro x
      obtain ⟨a, e, rfl⟩ : ∃ a e : Fin 128, x = (ix4 0 0 a e : S1x1x128x128.Idx) := ⟨x 2, x 3, by blk_ext⟩
      refine (pay3_at _ _ _ _ _ a e).trans (Eq.trans ?_ (congrArg _ (rS_at ⟨n, hn⟩ a e).symm))
      simp only [View.ld, rK_at, rS_at, rD_at, rB_at, rV_at]
      rfl
    · exact ih (Nat.le_of_lt hn) p hp

theorem pieces_out : ∀ n : ℕ, n ≤ k0_t1_loop.trips → ∀ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v92 X_arg15 X_arg18 X_arg19 X_arg20 n).2, ∀ x : p.1.shape.Idx,
    p.2 x = tripO (arg19.view.read (Elt Ideal) X_arg19) (arg18.view.read (Elt Ideal) X_arg18) (arg15.view.read (Elt Ideal) X_arg15)
      (arg20.view.read (Elt Ideal) X_arg20) (p.1.emb x) := by
  intro n
  induction n with
  | zero => intro _ p hp; exact absurd hp List.not_mem_nil
  | succ n ih =>
    intro hn p hp
    rw [show n + 1 = (⟨n, hn⟩ : Fin k0_t1_loop.trips).val + 1 from rfl, pb_k0_t1_succ] at hp
    rcases List.mem_append.1 hp with hp | hp
    · have hp := List.mem_singleton.1 (Eq.mp (congrArg (p ∈ ·) (trip_out 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v92 X_arg15 X_arg18 X_arg19 X_arg20 ⟨n, hn⟩)) hp)
      subst hp
      intro x
      obtain ⟨e, rfl⟩ : ∃ e : Fin 128, x = (ix2 0 e : S1x128.Idx) := ⟨x 1, by blk_ext⟩
      refine (pay4_at _ _ _ _ _ _ e).trans (Eq.trans ?_ (congrArg _ (rK_at ⟨n, hn⟩ e).symm))
      simp only [View.ld, rK_at, rS_at, rD_at, rB_at, rV_at]
      rfl
    · exact ih (Nat.le_of_lt hn) p hp

/-- Every row of the output scratch is some trip's. -/
theorem cover_out : ∀ n : ℕ, n ≤ k0_t1_loop.trips → ∀ y : S64x128.Idx, (y 0).val < n →
    ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v92 X_arg15 X_arg18 X_arg19 X_arg20 n).2, y ∈ p.1.set := by
  intro n
  induction n with
  | zero => intro _ y hy; exact absurd hy (Nat.not_lt_zero _)
  | succ n ih =>
    intro hn y hy
    rw [show n + 1 = (⟨n, hn⟩ : Fin k0_t1_loop.trips).val + 1 from rfl, pb_k0_t1_succ]
    by_cases h : (y 0).val < n
    · obtain ⟨p, hp, hy'⟩ := ih (Nat.le_of_lt hn) y h
      exact ⟨p, List.mem_append_right _ hp, hy'⟩
    · obtain ⟨r, e, rfl⟩ : ∃ (r : Fin 64) (e : Fin 128), y = ix2 r e := ⟨y 0, y 1, by blk_ext⟩
      refine ⟨⟨rK ⟨n, hn⟩, _⟩, List.mem_append_left _ (Eq.mp (congrArg (_ ∈ ·) (trip_out 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v92 X_arg15 X_arg18 X_arg19 X_arg20 ⟨n, hn⟩).symm) (List.mem_singleton.2 rfl)), ?_⟩
      have hr : r.val = n := Nat.le_antisymm (Nat.lt_succ_iff.1 hy) (Nat.not_lt.1 h)
      have he : (ix2 r e : S64x128.Idx) = (rK ⟨n, hn⟩).idx (ix2 0 e : S1x128.Idx) := by
        rw [rK_at]
        blk_ext [hr]
      rw [he]
      exact (rK ⟨n, hn⟩).toLoadRect.idx_mem _

end Trips

/-- Two cells of equal parts are equal. -/
theorem cell_congr {k k' s s' : Fin 128 → EReal} {d d' b b' v v' : EReal} (a : Fin 128) (hk : ∀ r, k r = k' r) (hs : ∀ r, s r = s' r)
    (hd : d = d') (hb : b = b') (hv : v = v') : cell k s d b v a = cell k' s' d' b' v' a := by
  obtain rfl := funext hk; obtain rfl := funext hs; subst hd hb hv; rfl

/-! ## The run -/

variable (m : (ℓ : Loc nD τ sig) → Buf (Elt Ideal) ℓ)

/-- The block indices of the windows at every grid point: point `t` is head `t / 2`, samples' half `t % 2`. -/
theorem idx : ∀ t : Fin cfg0.N,
    win0_0.index t = ![128 + t.val % 2, t.val / 2] ∧ win0_1.index t = ![128 + t.val % 2, 32 + t.val / 2]
      ∧ win0_2.index t = ![128 + t.val % 2, 64 + t.val / 2] ∧ win0_3.index t = ![128 + t.val % 2, 96 + t.val / 2]
      ∧ win0_4.index t = ![0, t.val % 2, t.val / 2] ∧ win0_5.index t = ![0, t.val % 2, 32 + t.val / 2]
      ∧ win0_6.index t = ![0, t.val % 2, 64 + t.val / 2] ∧ win0_7.index t = ![t.val % 2, t.val / 2] ∧ win0_8.index t = ![t.val % 2, t.val / 2]
      ∧ win0_9.index t = ![0, t.val / 2] ∧ win0_10.index t = ![0, 32 + t.val / 2] ∧ win0_11.index t = ![0, 64 + t.val / 2]
      ∧ win0_12.index t = ![0, 0] ∧ win0_13.index t = ![t.val % 2, t.val / 2, 0, 0] ∧ win0_14.index t = ![t.val % 2, t.val / 2]
      ∧ win0_15.index t = ![t.val % 2, t.val / 2, 0, 0] := by
  show ∀ t : Fin grid0.N, _
  decide +kernel

theorem lt64 (t : Fin cfg0.N) : t.val < 64 := lt_of_lt_of_eq t.isLt N_0

/-- The buffers the host fills before the region, read. -/
theorem entry_g (c : Dev nD) (i : S128x4096.Idx) : V m c main_v2 i = m ((c : Thread nD τ).loc main_arg2) (ix2 (i 0) ⟨(i 1).val / 128, by idx_bounds i; omega⟩) := by
  show StableHlo.after (List.flatten [hostOps0]) (fun b => m (c, b)) (Proc.devRef .tc main_v2) i = _
  simp only [List.flatten_cons, List.flatten_nil, List.append_nil]
  after_results
  pointwise

theorem entry_be (c : Dev nD) (i : S128x4096.Idx) : V m c main_v5 i = m ((c : Thread nD τ).loc main_arg3) (ix2 (i 0) ⟨(i 1).val / 128, by idx_bounds i; omega⟩) := by
  show StableHlo.after (List.flatten [hostOps0]) (fun b => m (c, b)) (Proc.devRef .tc main_v5) i = _
  simp only [List.flatten_cons, List.flatten_nil, List.append_nil]
  after_results
  pointwise

theorem entry_cs (c : Dev nD) (i : S3x128x12288.Idx) : V m c main_v6 i = m ((c : Thread nD τ).loc main_arg1) (ix3 (i 1) (i 0) (i 2)) := by
  show StableHlo.after (List.flatten [hostOps0]) (fun b => m (c, b)) (Proc.devRef .tc main_v6) i = _
  simp only [List.flatten_cons, List.flatten_nil, List.append_nil]
  after_results
  pointwise

theorem entry_nw (c : Dev nD) (i : S1x128.Idx) : V m c main_v7 i = m ((c : Thread nD τ).loc main_arg5) (ix1 (i 1)) := by
  show StableHlo.after (List.flatten [hostOps0]) (fun b => m (c, b)) (Proc.devRef .tc main_v7) i = _
  simp only [List.flatten_cons, List.flatten_nil, List.append_nil]
  after_results
  pointwise

section Blocks

variable (c : Dev nD) (t : Fin cfg0.N)

theorem blk_q (y : S64x128.Idx) : iblk m c 0 t y = m ((c : Thread nD τ).loc main_arg0)
    (ix2 ⟨8192 + (t.val % 2 * 64 + (y 0).val), by have := lt64 t; idx_bounds y; omega⟩ ⟨t.val / 2 * 128 + (y 1).val, by have := lt64 t; idx_bounds y; omega⟩) := by
  have := lt64 t
  blk_ext [iblk, idx t]

theorem blk_k (y : S64x128.Idx) : iblk m c 1 t y = m ((c : Thread nD τ).loc main_arg0)
    (ix2 ⟨8192 + (t.val % 2 * 64 + (y 0).val), by have := lt64 t; idx_bounds y; omega⟩ ⟨4096 + (t.val / 2 * 128 + (y 1).val), by have := lt64 t; idx_bounds y; omega⟩) := by
  have := lt64 t
  blk_ext [iblk, idx t]

theorem blk_v (y : S64x128.Idx) : iblk m c 2 t y = m ((c : Thread nD τ).loc main_arg0)
    (ix2 ⟨8192 + (t.val % 2 * 64 + (y 0).val), by have := lt64 t; idx_bounds y; omega⟩ ⟨8192 + (t.val / 2 * 128 + (y 1).val), by have := lt64 t; idx_bounds y; omega⟩) := by
  have := lt64 t
  blk_ext [iblk, idx t]

theorem blk_z (y : S64x128.Idx) : iblk m c 3 t y = m ((c : Thread nD τ).loc main_arg0)
    (ix2 ⟨8192 + (t.val % 2 * 64 + (y 0).val), by have := lt64 t; idx_bounds y; omega⟩ ⟨12288 + (t.val / 2 * 128 + (y 1).val), by have := lt64 t; idx_bounds y; omega⟩) := by
  have := lt64 t
  blk_ext [iblk, idx t]

theorem blk_csq (y : S3x64x128.Idx) : iblk m c 4 t y = m ((c : Thread nD τ).loc main_arg1)
    (ix3 ⟨t.val % 2 * 64 + (y 1).val, by have := lt64 t; idx_bounds y; omega⟩ (y 0) ⟨t.val / 2 * 128 + (y 2).val, by have := lt64 t; idx_bounds y; omega⟩) := by
  have := lt64 t
  refine (entry_cs m c _).trans ?_
  blk_ext [idx t]

theorem blk_csk (y : S3x64x128.Idx) : iblk m c 5 t y = m ((c : Thread nD τ).loc main_arg1)
    (ix3 ⟨t.val % 2 * 64 + (y 1).val, by have := lt64 t; idx_bounds y; omega⟩ (y 0) ⟨4096 + (t.val / 2 * 128 + (y 2).val), by have := lt64 t; idx_bounds y; omega⟩) := by
  have := lt64 t
  refine (entry_cs m c _).trans ?_
  blk_ext [idx t]

theorem blk_csv (y : S3x64x128.Idx) : iblk m c 6 t y = m ((c : Thread nD τ).loc main_arg1)
    (ix3 ⟨t.val % 2 * 64 + (y 1).val, by have := lt64 t; idx_bounds y; omega⟩ (y 0) ⟨8192 + (t.val / 2 * 128 + (y 2).val), by have := lt64 t; idx_bounds y; omega⟩) := by
  have := lt64 t
  refine (entry_cs m c _).trans ?_
  blk_ext [idx t]

theorem blk_g (y : S64x128.Idx) : iblk m c 7 t y = m ((c : Thread nD τ).loc main_arg2)
    (ix2 ⟨t.val % 2 * 64 + (y 0).val, by have := lt64 t; idx_bounds y; omega⟩ ⟨t.val / 2, by have := lt64 t; omega⟩) := by
  have := lt64 t
  refine (entry_g m c _).trans ?_
  blk_ext [idx t]

theorem blk_be (y : S64x128.Idx) : iblk m c 8 t y = m ((c : Thread nD τ).loc main_arg3)
    (ix2 ⟨t.val % 2 * 64 + (y 0).val, by have := lt64 t; idx_bounds y; omega⟩ ⟨t.val / 2, by have := lt64 t; omega⟩) := by
  have := lt64 t
  refine (entry_be m c _).trans ?_
  blk_ext [idx t]

theorem blk_wq (y : S4x128.Idx) : iblk m c 9 t y = m ((c : Thread nD τ).loc main_arg4)
    (ix2 (y 0) ⟨t.val / 2 * 128 + (y 1).val, by have := lt64 t; idx_bounds y; omega⟩) := by
  have := lt64 t
  blk_ext [iblk, idx t]

theorem blk_wk (y : S4x128.Idx) : iblk m c 10 t y = m ((c : Thread nD τ).loc main_arg4)
    (ix2 (y 0) ⟨4096 + (t.val / 2 * 128 + (y 1).val), by have := lt64 t; idx_bounds y; omega⟩) := by
  have := lt64 t
  blk_ext [iblk, idx t]

theorem blk_wv (y : S4x128.Idx) : iblk m c 11 t y = m ((c : Thread nD τ).loc main_arg4)
    (ix2 (y 0) ⟨8192 + (t.val / 2 * 128 + (y 1).val), by have := lt64 t; idx_bounds y; omega⟩) := by
  have := lt64 t
  blk_ext [iblk, idx t]

theorem blk_nw (y : S1x128.Idx) : iblk m c 12 t y = m ((c : Thread nD τ).loc main_arg5)
    (ix1 (y 1)) := by
  have := lt64 t
  refine (entry_nw m c _).trans ?_
  blk_ext [idx t]

theorem blk_s (y : S64x1x128x128.Idx) : iblk m c 13 t y = m ((c : Thread nD τ).loc main_arg6)
    (ix4 ⟨t.val % 2 * 64 + (y 0).val, by have := lt64 t; idx_bounds y; omega⟩ ⟨t.val / 2, by have := lt64 t; omega⟩ (y 2) (y 3)) := by
  have := lt64 t
  blk_ext [iblk, idx t]

/-- A whole block read, and the three kept rows. -/
abbrev rX : Rect S64x128 := Rect.unit (s := S64x128) ![0, 0] S64x128.size inb_S64x128_S64x128_0_0
abbrev rW : Rect S4x128 := Rect.unit (s := S4x128) ![0, 0] S4x128.size inb_S4x128_S4x128_0_0
abbrev rN : Rect S1x128 := Rect.unit (s := S1x128) ![0, 0] S1x128.size inb_S1x128_S1x128_0_0
abbrev rC0 : Rect S3x64x128 := Rect.unit (s := S3x64x128) ![0, 0, 0] S1x64x128.size inb_S3x64x128_S1x64x128_0_0_0
abbrev rC1 : Rect S3x64x128 := Rect.unit (s := S3x64x128) ![1, 0, 0] S1x64x128.size inb_S3x64x128_S1x64x128_1_0_0
abbrev rC2 : Rect S3x64x128 := Rect.unit (s := S3x64x128) ![2, 0, 0] S1x64x128.size inb_S3x64x128_S1x64x128_2_0_0

/-- The activated queries, keys and values of a block. -/
theorem actq_at (r : Fin 64) (a : Fin 128) :
    k0_pay5 (F := Ideal) (View.ld (iblk m c 0 t) rX) (View.ld (iblk m c 9 t) rW) (View.ld (iblk m c 4 t) rC0)
        (View.ld (iblk m c 4 t) rC1) (View.ld (iblk m c 4 t) rC2) (ix2 r a)
      = act (m ((c : Thread nD τ).loc main_arg0)) (m ((c : Thread nD τ).loc main_arg1)) (m ((c : Thread nD τ).loc main_arg4))
          ⟨t.val % 2 * 64 + r.val, by omega⟩ ⟨t.val / 2 * 128 + a.val, by have := lt64 t; omega⟩ := by
  pointwise [k0_pay5, act, conv, sigm, blk_q, blk_wq, blk_csq]
  simp only [zero_bits, one_bits, zero_sub]

theorem actk_at (r : Fin 64) (a : Fin 128) :
    k0_pay7 (F := Ideal) (View.ld (iblk m c 1 t) rX) (View.ld (iblk m c 10 t) rW) (k0_pay6 (F := Ideal) (View.ld (iblk m c 5 t) rC0))
        (View.ld (iblk m c 5 t) rC1) (View.ld (iblk m c 5 t) rC2) (ix2 r a)
      = act (m ((c : Thread nD τ).loc main_arg0)) (m ((c : Thread nD τ).loc main_arg1)) (m ((c : Thread nD τ).loc main_arg4))
          ⟨t.val % 2 * 64 + r.val, by omega⟩ ⟨4096 + (t.val / 2 * 128 + a.val), by have := lt64 t; omega⟩ := by
  pointwise [k0_pay7, k0_pay6, act, conv, sigm, blk_k, blk_wk, blk_csk]
  simp only [zero_bits, one_bits, zero_sub]

theorem actv_at (r : Fin 64) (a : Fin 128) :
    k0_pay9 (F := Ideal) (View.ld (iblk m c 2 t) rX) (View.ld (iblk m c 11 t) rW)
        (k0_pay8 (F := Ideal) (View.ld (iblk m c 11 t) rW) (View.ld (iblk m c 6 t) rC0) (View.ld (iblk m c 6 t) rC1))
        (View.ld (iblk m c 6 t) rC2) (ix2 r a)
      = act (m ((c : Thread nD τ).loc main_arg0)) (m ((c : Thread nD τ).loc main_arg1)) (m ((c : Thread nD τ).loc main_arg4))
          ⟨t.val % 2 * 64 + r.val, by omega⟩ ⟨8192 + (t.val / 2 * 128 + a.val), by have := lt64 t; omega⟩ := by
  pointwise [k0_pay9, k0_pay8, act, conv, sigm, blk_v, blk_wv, blk_csv]
  simp only [zero_bits, one_bits, zero_sub]

/-- The scratch rows' values. -/
theorem payq_at (p : FVec Ideal S64x128 .f32) (r : Fin 64) (a : Fin 128) :
    k0_pay10 (F := Ideal) p (ix2 r a)
      = p (ix2 r a) * Ideal.rsqrt ((∑ k : Fin 128, p (ix2 r k) * p (ix2 r k)) + Ideal.ofBits .f32 0x358637BD#32) * Ideal.ofBits .f32 0x3DB504F3#32 := by
  pointwise [k0_pay10]

theorem payk_at (p : FVec Ideal S64x128 .f32) (r : Fin 64) (a : Fin 128) :
    k0_pay11 (F := Ideal) p (ix2 r a)
      = p (ix2 r a) * Ideal.rsqrt ((∑ k : Fin 128, p (ix2 r k) * p (ix2 r k)) + Ideal.ofBits .f32 0x358637BD#32) := by
  pointwise [k0_pay11]

theorem query_at (r : Fin 64) (a : Fin 128) :
    k0_pay10 (F := Ideal) (k0_pay5 (F := Ideal) (View.ld (iblk m c 0 t) rX) (View.ld (iblk m c 9 t) rW) (View.ld (iblk m c 4 t) rC0)
        (View.ld (iblk m c 4 t) rC1) (View.ld (iblk m c 4 t) rC2)) (ix2 r a)
      = query (m ((c : Thread nD τ).loc main_arg0)) (m ((c : Thread nD τ).loc main_arg1)) (m ((c : Thread nD τ).loc main_arg4))
          ⟨t.val % 2 * 64 + r.val, by omega⟩ ⟨t.val / 2, by have := lt64 t; omega⟩ a := by
  rw [payq_at]
  simp only [actq_at]
  rfl

theorem key_at (r : Fin 64) (a : Fin 128) :
    k0_pay11 (F := Ideal) (k0_pay7 (F := Ideal) (View.ld (iblk m c 1 t) rX) (View.ld (iblk m c 10 t) rW) (k0_pay6 (F := Ideal) (View.ld (iblk m c 5 t) rC0))
        (View.ld (iblk m c 5 t) rC1) (View.ld (iblk m c 5 t) rC2)) (ix2 r a)
      = key (m ((c : Thread nD τ).loc main_arg0)) (m ((c : Thread nD τ).loc main_arg1)) (m ((c : Thread nD τ).loc main_arg4))
          ⟨t.val % 2 * 64 + r.val, by omega⟩ ⟨t.val / 2, by have := lt64 t; omega⟩ a := by
  rw [payk_at]
  simp only [actk_at]
  rfl

theorem value_at (r : Fin 64) (e : Fin 128) :
    k0_pay14 (F := Ideal) (k0_pay9 (F := Ideal) (View.ld (iblk m c 2 t) rX) (View.ld (iblk m c 11 t) rW)
        (k0_pay8 (F := Ideal) (View.ld (iblk m c 11 t) rW) (View.ld (iblk m c 6 t) rC0) (View.ld (iblk m c 6 t) rC1))
        (View.ld (iblk m c 6 t) rC2)) (ix3 0 r e)
      = value (m ((c : Thread nD τ).loc main_arg0)) (m ((c : Thread nD τ).loc main_arg1)) (m ((c : Thread nD τ).loc main_arg4))
          ⟨t.val % 2 * 64 + r.val, by omega⟩ ⟨t.val / 2, by have := lt64 t; omega⟩ e := by
  refine Eq.trans ?_ (actv_at m c t r e)
  generalize k0_pay9 (F := Ideal) (View.ld (iblk m c 2 t) rX) (View.ld (iblk m c 11 t) rW)
        (k0_pay8 (F := Ideal) (View.ld (iblk m c 11 t) rW) (View.ld (iblk m c 6 t) rC0) (View.ld (iblk m c 6 t) rC1))
        (View.ld (iblk m c 6 t) rC2) = p
  pointwise [k0_pay14]

theorem dec_at (r : Fin 64) (e : Fin 128) :
    k0_pay12 (F := Ideal) (View.ld (iblk m c 7 t) rX) (ix3 0 r e)
      = Ideal.exp (m ((c : Thread nD τ).loc main_arg2) (ix2 ⟨t.val % 2 * 64 + r.val, by omega⟩ ⟨t.val / 2, by have := lt64 t; omega⟩)) := by
  pointwise [k0_pay12, blk_g]

theorem beta_at (r : Fin 64) (e : Fin 128) :
    k0_pay13 (F := Ideal) (View.ld (iblk m c 8 t) rX) (ix3 0 r e)
      = m ((c : Thread nD τ).loc main_arg3) (ix2 ⟨t.val % 2 * 64 + r.val, by omega⟩ ⟨t.val / 2, by have := lt64 t; omega⟩) := by
  pointwise [k0_pay13, blk_be]

/-- A scratch buffer filled by one store reads as what was stored, -/
theorem read_one {ε : EltTy} (v : View sig .tc .vmem S64x128 ε) (f : v.ty.Contents (Elt Ideal)) (w : S64x128.Idx → Elt Ideal ε) (y : S64x128.Idx) :
    v.read (Elt Ideal) (v.writes (Elt Ideal) f [⟨rX, w⟩]) y = w y :=
  View.read_writes_cons_unit_of_mem v f _ w [] y y rfl fun ax => by fin_cases ax <;> simp

/-- one filled by pieces of a function reads as that function, -/
theorem read_pieces (v : View sig .tc .vmem S64x128 .f32) (L : List (View.Piece (Elt Ideal) S64x128 .f32)) (G : S64x128.Idx → EReal)
    (hG : ∀ p ∈ L, ∀ x : p.1.shape.Idx, p.2 x = G (p.1.emb x)) (hL : ∀ y, ∃ p ∈ L, y ∈ p.1.set) (y : S64x128.Idx) :
    v.readCov L rX.toLoadRect y = G y :=
  (View.read_writes_apply_of_pieces (Val := Elt Ideal) v v.junk G L hG _ (hL _)).trans
    (congrArg G (funext fun ax => Fin.ext (by fin_cases ax <;> simp [rX])))

section Planes

variable (v : View sig .tc .vmem S3x64x128 .f32) (f : v.ty.Contents (Elt Ideal)) (w0 w1 w2 : S1x64x128.Idx → EReal) (r : Fin 64) (e : Fin 128)

/-- and one filled plane by plane reads its planes. -/
theorem read_plane2 : v.read (Elt Ideal) (v.writes (Elt Ideal) f [⟨rC2, w2⟩, ⟨rC1, w1⟩, ⟨rC0, w0⟩]) (ix3 2 r e) = w2 (ix3 0 r e) :=
  View.read_writes_cons_unit_of_mem v f _ w2 _ _ (ix3 0 r e : S1x64x128.Idx) rfl fun ax => by fin_cases ax <;> simp

theorem read_plane1 : v.read (Elt Ideal) (v.writes (Elt Ideal) f [⟨rC2, w2⟩, ⟨rC1, w1⟩, ⟨rC0, w0⟩]) (ix3 1 r e) = w1 (ix3 0 r e) :=
  (View.read_writes_cons_unit_of_not_mem v f _ w2 _ _ rfl 0 (Or.inl (by simp))).trans
    (View.read_writes_cons_unit_of_mem v f _ w1 _ _ (ix3 0 r e : S1x64x128.Idx) rfl fun ax => by fin_cases ax <;> simp)

theorem read_plane0 : v.read (Elt Ideal) (v.writes (Elt Ideal) f [⟨rC2, w2⟩, ⟨rC1, w1⟩, ⟨rC0, w0⟩]) (ix3 0 r e) = w0 (ix3 0 r e) :=
  (View.read_writes_cons_unit_of_not_mem v f _ w2 _ _ rfl 0 (Or.inl (by simp))).trans
    ((View.read_writes_cons_unit_of_not_mem v f _ w1 _ _ rfl 0 (Or.inl (by simp))).trans
      (View.read_writes_cons_unit_of_mem v f _ w0 _ _ (ix3 0 r e : S1x64x128.Idx) rfl fun ax => by fin_cases ax <;> simp))

end Planes

/-- A block's new states. -/
theorem block_state (r : Fin 64) (a e : Fin 128) : (outsAt0 m c t).2 (ix4 r 0 a e)
      = state (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) ⟨t.val % 2 * 64 + r.val, by omega⟩ ⟨t.val / 2, by have := lt64 t; omega⟩ a e := by
  unfold outsAt0 out0_A_15
  dsimp only
  refine (View.read_writes_apply_of_pieces (Val := Elt Ideal) VO0_15 _ (tripS ?kd ?sd ?dd) _ ?_ _
    (cover0_A_15 c _ _ _ _ _ _ _ _ _ _ _ _ _ _ _ _ _ _ _ _ _ _ _ _ _ _ _ _ _ _ _ _ _ _ _ _ _ _ _ _ _ _ _ _ _ _ _ _ _ _ _ _ _ _ _ (ix4 r 0 a e))).trans ?_
  case refine_1 =>
    unfold kernelRun0_A
    exact pieces_state _ _ _ _ _ _ _ _ _ _ _ _ _ _ _ _ _ _ _ _ _ _ _ _ _ _ _ _ _ _ _ _ _ _ _ _ _ _ _ _ _ _ _ _ _ _ _ _ _ _ le_rfl
  case refine_2 =>
    sl_unfold_words
    simp only [View.readAt_eq_ld, Memref.IsWhole.read_unread]
    refine cell_congr a (fun k => ?_) (fun k => ?_) ?_ ?_ ?_
    · exact (read_one _ _ _ _).trans (key_at m c t r k)
    · exact blk_s m c t (ix4 r 0 k e)
    · exact (read_plane0 _ _ _ _ _ _ _).trans (dec_at m c t r e)
    · exact (read_plane1 _ _ _ _ _ _ _).trans (beta_at m c t r e)
    · exact (read_plane2 _ _ _ _ _ _ _).trans (value_at m c t r e)

theorem ld_rX (v : Vec Ideal S64x128 .f32) (y : S64x128.Idx) : View.ld v rX y = v y :=
  congrArg v (funext fun ax => Fin.ext (by fin_cases ax <;> simp [rX]))
theorem ld_rN (v : Vec Ideal S1x128 .f32) (y : S1x128.Idx) : View.ld v rN y = v y :=
  congrArg v (funext fun ax => Fin.ext (by fin_cases ax <;> simp [rN]))

/-- The gated norm. -/
theorem gate_at (o : Vec Ideal S64x128 .f32) (z : Vec Ideal S64x128 .f32) (n : Vec Ideal S1x128 .f32) (O Z N : Fin 128 → EReal) (r : Fin 64)
    (ho : ∀ e, o (ix2 r e) = O e) (hz : ∀ e, z (ix2 r e) = Z e) (hn : ∀ e, n (ix2 0 e) = N e) (e : Fin 128) :
    k0_pay1 (F := Ideal) z (k0_pay16 (F := Ideal) o n) (Scalar.ofBits .f32 0x00000000#32) (ix2 r e)
      = O e * Ideal.rsqrt (Ideal.div (∑ k : Fin 128, O k * O k) (Ideal.ofBits .f32 0x43000000#32) + Ideal.ofBits .f32 0x358637BD#32)
        * N e * (Z e * sigm (Z e)) := by
  pointwise [k0_pay1, k0_pay16, sigm, ho, hz, hn]
  simp only [zero_bits, one_bits, zero_sub]

set_option maxHeartbeats 1000000 in
/-- A block's outputs. -/
theorem block_out (r : Fin 64) (e : Fin 128) : (outsAt0 m c t).1 (ix2 r e)
      = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨t.val % 2 * 64 + r.val, by omega⟩ ⟨t.val / 2, by have := lt64 t; omega⟩ e := by
  unfold outsAt0 out0_A_14
  dsimp only
  unfold kernelRun0_A
  dsimp only
  refine (read_one VO0_14 _ _ _).trans
    ((gate_at _ _ _ (read (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) ⟨t.val % 2 * 64 + r.val, by omega⟩ ⟨t.val / 2, by have := lt64 t; omega⟩)
      (fun e => (m ((c : Thread nD τ).loc main_arg0)) (ix2 ⟨8192 + (t.val % 2 * 64 + r.val), by omega⟩ ⟨12288 + (t.val / 2 * 128 + e.val), by have := lt64 t; omega⟩))
      (fun e => (m ((c : Thread nD τ).loc main_arg5)) (ix1 e)) r (fun e => ?_) (fun e => ?_) (fun e => ?_) e).trans rfl)
  · refine (read_pieces _ _ (tripO ?kd ?qd ?sd ?dd) ?_ ?_ _).trans ?_
    case refine_1 =>
      intro p hp
      refine pieces_out _ _ _ _ _ _ _ _ _ _ _ _ _ _ _ _ _ _ _ _ _ _ _ _ _ _ _ _ _ _ _ _ _ _ _ _ _ _ _ _ _ _ _ _ _ _ _ _ _ _ ?_ p hp
      exact le_rfl
    case refine_2 => exact fun y => cover_out _ _ _ _ _ _ _ _ _ _ _ _ _ _ _ _ _ _ _ _ _ _ _ _ _ _ _ _ _ _ _ _ _ _ _ _ _ _ _ _ _ _ _ _ _ _ _ _ _ _ (by exact le_rfl) y (y 0).isLt
    sl_unfold_words
    simp only [View.readAt_eq_ld, Memref.IsWhole.read_unread]
    refine Finset.sum_congr rfl fun a _ => congrArg₂ (· * ·) ?_ (cell_congr a (fun k => ?_) (fun k => ?_) ?_ ?_ ?_)
    · exact (read_one _ _ _ _).trans (query_at m c t r a)
    · exact (read_one _ _ _ _).trans (key_at m c t r k)
    · exact blk_s m c t (ix4 r 0 k e)
    · exact (read_plane0 _ _ _ _ _ _ _).trans (dec_at m c t r e)
    · exact (read_plane1 _ _ _ _ _ _ _).trans (beta_at m c t r e)
    · exact (read_plane2 _ _ _ _ _ _ _).trans (value_at m c t r e)
  · sl_unfold_words
    simp only [View.readAt_eq_ld, Memref.IsWhole.read_unread]
    exact (ld_rX _ _).trans (blk_z m c t (ix2 r e))
  · sl_unfold_words
    simp only [View.readAt_eq_ld, Memref.IsWhole.read_unread]
    exact (ld_rN _ _).trans (blk_nw m c t (ix2 0 e))

end Blocks

theorem lanes (y : S64x128.Idx) : ∃ (r : Fin 64) (e : Fin 128), y = ix2 r e := ⟨y 0, y 1, by blk_ext⟩
theorem lanes4 (y : S64x1x128x128.Idx) : ∃ (r : Fin 64) (a e : Fin 128), y = ix4 r 0 a e := ⟨y 0, y 2, y 3, by blk_ext⟩

/-- The outputs at a head's lane. -/
theorem outs_ix (x : S8320x16384.Idx → EReal) (cs : S128x3x12288.Idx → EReal) (g be : S128x32.Idx → EReal) (cw : S4x12288.Idx → EReal)
    (nw : S128.Idx → EReal) (s0 : S128x32x128x128.Idx → EReal) (b : Fin 128) (h : Fin 32) (e : Fin 128) (hl) :
    outs x cs g be cw nw s0 (ix2 b ⟨h.val * 128 + e.val, hl⟩) = out x cs g be cw nw s0 b h e :=
  congrArg₂ (out x cs g be cw nw s0 b)
    (Fin.ext (show (h.val * 128 + e.val) / 128 = h.val by omega)) (Fin.ext (show (h.val * 128 + e.val) % 128 = e.val by omega))

/-- The outputs after the run. -/
theorem final_outs (c : Dev nD) : (dats m 0 c).arrAt 14 cfg0.N = outs (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 14 _ (by decide +kernel) fun t hf y => ?_
  blk_simp
  rw [after0_14]
  obtain ⟨r, e, rfl⟩ := lanes y
  have he : ((View.whole main_v8_0).slice (win0_14.rect t)).emb (ix2 r e)
      = (ix2 ⟨t.val % 2 * 64 + r.val, by omega⟩ ⟨t.val / 2 * 128 + e.val, by have := lt64 t; omega⟩ : S128x4096.Idx) := by
    blk_ext [idx t]
  rw [he]
  exact (block_out m c t r e).trans (outs_ix _ _ _ _ _ _ _ ⟨t.val % 2 * 64 + r.val, by omega⟩ ⟨t.val / 2, by have := lt64 t; omega⟩ e _).symm

/-- The states after the run. -/
theorem final_states (c : Dev nD) : (dats m 0 c).arrAt 15 cfg0.N = states (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg6)) := by
  refine (dats m 0 c).arrAt_eq_of_covers 15 _ (by decide +kernel) fun t hf y => ?_
  blk_simp
  rw [after0_15]
  obtain ⟨r, a, e, rfl⟩ := lanes4 y
  have he : ((View.whole main_v8_1).slice (win0_15.rect t)).emb (ix4 r 0 a e)
      = (ix4 ⟨t.val % 2 * 64 + r.val, by omega⟩ ⟨t.val / 2, by have := lt64 t; omega⟩ a e : S128x32x128x128.Idx) := by
    blk_ext [idx t]
  rw [he]
  exact block_state m c t r a e

/-- The run, read. -/
theorem run (ρ : Dev nD → PrngReg) : θ_run defs (onTc (τ := τ) (main (F := Ideal))) ⟨m, fun _ => 0, ρ⟩ fun r => ∀ c : Dev nD,
      r.2.mem ((c : Thread nD τ).loc main_v8_0) = outs (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      ∧ r.2.mem ((c : Thread nD τ).loc main_v8_1) = states (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final_outs m c), (h c).2.1.trans (final_states m c), (h c).2.2⟩) (Value.run_blocks m ρ)

/-! ## The reference's values at an index -/

section Ref

open Cert.Reference2Ideal.Read

variable (x0 : S8320x16384.Idx → EReal) (x1 : S128x3x12288.Idx → EReal) (x2 x3 : S128x32.Idx → EReal) (x4 : S4x12288.Idx → EReal)
  (x5 : S128.Idx → EReal) (x6 : S128x32x128x128.Idx → EReal)

theorem ref_conv (b : Fin 128) (n : Fin 12288) : val_main_v34 (F := Ideal) x0 x1 x4 (ix2 b n) = conv x0 x1 x4 b n := by
  pointwise [val_main_v0, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, conv]

theorem ref_act (b : Fin 128) (n : Fin 12288) : val_main_v35 (F := Ideal) x0 x1 x4 (ix2 b n) = act x0 x1 x4 b n := by
  pointwise [val_main_v35, val_main_call0_v0, val_main_call0_v1, val_main_call0_v2, val_main_call0_v3, val_main_call0_v4, val_main_call0_v5, val_main_call0_cst, val_main_call0_cst_0, ref_conv, act, sigm]

theorem ref_query (b : Fin 128) (h : Fin 32) (a : Fin 128) : val_main_v51 (F := Ideal) x0 x1 x4 (ix3 b h a) = query x0 x1 x4 b h a := by
  pointwise [val_main_v36, val_main_v37, val_main_v42, val_main_v43, val_main_v44, val_main_v45, val_main_v46, val_main_v47, val_main_v48, val_main_v49, val_main_v50, val_main_v51, val_main_cst, val_main_cst_0, val_main_cst_1, ref_act, query]

theorem ref_key (b : Fin 128) (h : Fin 32) (a : Fin 128) : val_main_v59 (F := Ideal) x0 x1 x4 (ix3 b h a) = key x0 x1 x4 b h a := by
  pointwise [val_main_v38, val_main_v39, val_main_v52, val_main_v53, val_main_v54, val_main_v55, val_main_v56, val_main_v57, val_main_v58, val_main_v59, val_main_cst_2, val_main_cst_3, ref_act, key]

theorem ref_value (b : Fin 128) (h : Fin 32) (a : Fin 128) : val_main_v41 (F := Ideal) x0 x1 x4 (ix3 b h a) = value x0 x1 x4 b h a := by
  pointwise [val_main_v40, val_main_v41, ref_act, value]

theorem ref_decayed (b : Fin 128) (h : Fin 32) (a e : Fin 128) :
    val_main_v63 (F := Ideal) x2 x6 (ix4 b h a e) = x6 (ix4 b h a e) * Ideal.exp (x2 (ix2 b h)) := by
  pointwise [val_main_v60, val_main_v61, val_main_v62, val_main_v63]

theorem ref_state (b : Fin 128) (h : Fin 32) (a e : Fin 128) :
    val_main_v74 (F := Ideal) x0 x1 x2 x3 x4 x6 (ix4 b h a e) = state x0 x1 x2 x3 x4 x6 b h a e := by
  pointwise [val_main_v64, val_main_v65, val_main_v66, val_main_v67, val_main_v68, val_main_v69, val_main_v70, val_main_v71, val_main_v72, val_main_v73, val_main_v74, ref_key, ref_value, ref_decayed, state, cell]

theorem ref_read (b : Fin 128) (h : Fin 32) (e : Fin 128) :
    val_main_v75 (F := Ideal) x0 x1 x2 x3 x4 x6 (ix3 b h e) = read x0 x1 x2 x3 x4 x6 b h e := by
  pointwise [val_main_v75, ref_query, ref_state, read]

theorem ref_out (b : Fin 128) (h : Fin 32) (e : Fin 128) :
    val_main_v91 (F := Ideal) x0 x1 x2 x3 x4 x5 x6 (ix3 b h e) = out x0 x1 x2 x3 x4 x5 x6 b h e := by
  pointwise [val_main_v1, val_main_v76, val_main_v77, val_main_v78, val_main_v79, val_main_v80, val_main_v81, val_main_v82, val_main_v83, val_main_v84, val_main_v85, val_main_v86, val_main_v87, val_main_v88, val_main_v89, val_main_v90, val_main_v91, val_main_call1_v0, val_main_call1_v1, val_main_call1_v2, val_main_call1_v3, val_main_call1_v4, val_main_call1_v5, val_main_call1_cst, val_main_call1_cst_0, val_main_cst_4, val_main_cst_5, val_main_cst_6, ref_read, out, sigm]

theorem ref_states : val_main_v74 (F := Ideal) x0 x1 x2 x3 x4 x6 = states x0 x1 x2 x3 x4 x6 := by
  funext i
  obtain ⟨b, h, a, e, rfl⟩ : ∃ (b : Fin 128) (h : Fin 32) (a e : Fin 128), i = ix4 b h a e := ⟨i 0, i 1, i 2, i 3, by blk_ext⟩
  exact ref_state _ _ _ _ _ _ b h a e

theorem ref_outs : val_main_v93 (F := Ideal) x0 x1 x2 x3 x4 x5 x6 = outs x0 x1 x2 x3 x4 x5 x6 := by
  funext i
  obtain ⟨b, n, rfl⟩ : ∃ (b : Fin 128) (n : Fin 4096), i = ix2 b n := ⟨i 0, i 1, by blk_ext⟩
  pointwise [val_main_v92, val_main_v93, ref_out, outs]

end Ref

/-! ## The claims -/

/-- The frames: each program runs and leaves its arguments and its semaphores as they were. -/
theorem frame : Cert.quiescent_Kernel2 := fun m ρ _ => Cert.Kernel2.Gen.frame m ρ
theorem frame_ideal : Cert.quiescent_Kernel2Ideal := fun m ρ _ => Cert.Kernel2Ideal.Gen.frame m ρ
theorem frame_ref : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The ideal pass rewrote nothing. -/
theorem preserves : Cert.preserves_Kernel2_Kernel2Ideal := trivial

/-- The kernel computes the reference's outputs and states. -/
theorem algebraic : Cert.algebraic_Kernel2Ideal_Reference2Ideal := by
  intro m ρ m' ρ' _ hagree
  refine ⟨fun c => outs (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      (m ((c.tc : Thread Cert.Kernel2Ideal.nD Cert.Kernel2Ideal.τ).loc Cert.Kernel2Ideal.main_arg6)),
    fun c => states (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg6)), run m ρ,
    (θ_run Cert.Reference2Ideal.defs _ _).mono (fun _ h c => ⟨(h c).1.trans ?_, (h c).2.1.trans ?_, (h c).2.2⟩)
      (Cert.Reference2Ideal.Value.run (F := Ideal) m' ρ')⟩
  all_goals obtain ⟨e0, e1, e2, e3, e4, e5, e6⟩ := hagree c
  · rw [Cert.Reference2Ideal.Read.val_main_v93_eq]
    exact (ref_outs _ _ _ _ _ _ _).trans (congr (congr (congr (congr (congr (congr (congrArg outs e0) e1) e2) e3) e4) e5) e6)
  · rw [Cert.Reference2Ideal.Read.val_main_v74_eq]
    exact (ref_states _ _ _ _ _ _).trans (congr (congr (congr (congr (congr (congrArg states e0) e1) e2) e3) e4) e6)

end Cert.GdnStep

end
-- ==== Proof.FfnIn.lean ====
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

/-! # The channel mixer's input projection

The tiled product is the product, and the rows the kernel keeps for the next step's convolution are the reference's. -/

namespace Cert.FfnIn

open Cert.Kernel3Ideal Cert.Kernel3Ideal.Gen

/-- The product of the rows of `x` and the columns of `w`. -/
def prod (x : S8320x4096.Idx → EReal) (w : S4096x22016.Idx → EReal) : S8320x22016.Idx → EReal :=
  fun i => (∑ k : Fin 4096, x (ix2 (i 0) k) * w (ix2 k ⟨(i 1).val, by idx_bounds i; omega⟩))

/-- The last 2 convolved rows of each prompt. -/
def convP (p : S8320x22016.Idx → EReal) : S4x2x11008.Idx → EReal :=
  fun i => p (ix2 ⟨(i 0).val * 2048 + (2046 + (i 1).val), by idx_bounds i; omega⟩ ⟨(i 2).val, by idx_bounds i; omega⟩)

/-- The last 2 convolved rows of each sample: the later ones of those it came with, and its new row. -/
def convS (p : S8320x22016.Idx → EReal) (s : S128x2x11008.Idx → EReal) : S128x2x11008.Idx → EReal :=
  fun i => if h : (i 1).val < 1 then s (ix3 (i 0) ⟨1 + (i 1).val, by omega⟩ (i 2))
    else p (ix2 ⟨8192 + (i 0).val, by idx_bounds i; omega⟩ ⟨(i 2).val, by idx_bounds i; omega⟩)

variable (m : (ℓ : Loc nD τ sig) → Buf (Elt Ideal) ℓ)

/-- The block indices of the windows at every grid point. -/
theorem idx : ∀ t : Fin cfg0.N,
    win0_0.index t = ![(grid0.coords t 1).val, 0] ∧ win0_1.index t = ![0, (grid0.coords t 0).val]
      ∧ win0_2.index t = ![(grid0.coords t 1).val, (grid0.coords t 0).val] := by
  show ∀ t : Fin grid0.N, _
  decide +kernel

/-- The projection after the run is the product of the arguments. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, prod]
  blk_point [iblk, idx t]

theorem withArrays_proj (c : Dev nD) : Pipeline.withArrays spec0 c (V0 m c) (fun w => (dats m 0 c).arrAt w cfg0.N) (Proc.devRef .tc main_v1)
    = prod (m ((c : Thread nD τ).loc main_arg0)) (m ((c : Thread nD τ).loc main_arg1)) :=
  (Pipeline.withArrays_arr spec0 launch0.win.arr_inj c _ _ 2).trans (final m c)

theorem withArrays_state (c : Dev nD) : Pipeline.withArrays spec0 c (V0 m c) (fun w => (dats m 0 c).arrAt w cfg0.N) (Proc.devRef .tc main_arg2)
    = m ((c : Thread nD τ).loc main_arg2) :=
  (Pipeline.withArrays_of_ne _ c (V0 m c) _ main_arg2 (by exact (by decide : ∀ w, Pipeline.arrRef spec0 w ≠ main_arg2))).trans (V_main_arg2 m c)

/-- The kernel's lines after the region leave the prompts' rows, -/
theorem tailP (c : Dev nD) : Pipeline.afterTail₀ cfgs (dats m) 0 (V0 m) [hostOps1] c main_v4
    = convP (prod (m ((c : Thread nD τ).loc main_arg0)) (m ((c : Thread nD τ).loc main_arg1))) := by
  unfold Pipeline.afterTail₀
  simp only [List.flatten_cons, List.flatten_nil, List.append_nil]
  after_results
  erw [withArrays_proj m c]
  funext i
  pointwise [convP]

/-- and the samples'. -/
theorem tailS (c : Dev nD) : Pipeline.afterTail₀ cfgs (dats m) 0 (V0 m) [hostOps1] c main_v8
    = convS (prod (m ((c : Thread nD τ).loc main_arg0)) (m ((c : Thread nD τ).loc main_arg1))) (m ((c : Thread nD τ).loc main_arg2)) := by
  unfold Pipeline.afterTail₀
  simp only [List.flatten_cons, List.flatten_nil, List.append_nil]
  after_results
  erw [withArrays_proj m c, withArrays_state m c]
  funext i
  pointwise [convS]

/-- The run, read: the projection, the two convolution states, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v1) = prod (m ((c : Thread nD τ).loc main_arg0)) (m ((c : Thread nD τ).loc main_arg1))
      ∧ r.2.mem ((c : Thread nD τ).loc main_v4) = convP (prod (m ((c : Thread nD τ).loc main_arg0)) (m ((c : Thread nD τ).loc main_arg1)))
      ∧ r.2.mem ((c : Thread nD τ).loc main_v8) = convS (prod (m ((c : Thread nD τ).loc main_arg0)) (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 2).trans (final m c),
      ((h.1 c).2 main_v4 (Pipeline.mem_restRefs_of main_v4 (by decide) (by decide))).trans (tailP m c),
      ((h.1 c).2 main_v8 (Pipeline.mem_restRefs_of main_v8 (by decide) (by decide))).trans (tailS m c), h.2 c⟩)
    (θ_run_and (run_main m ρ) (unchanged m ρ))

/-! ## The claims -/

/-- The frames: each program runs and leaves its arguments and its semaphores as they were. -/
theorem frame : Cert.quiescent_Kernel3 := fun m ρ _ => Cert.Kernel3.Gen.frame m ρ
theorem frame_ideal : Cert.quiescent_Kernel3Ideal := fun m ρ _ => Cert.Kernel3Ideal.Gen.frame m ρ
theorem frame_ref : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The ideal pass rewrote nothing. -/
theorem preserves : Cert.preserves_Kernel3_Kernel3Ideal := trivial

section Ref
open Cert.Reference3Ideal.Read

variable (x : S8320x4096.Idx → EReal) (w : S4096x22016.Idx → EReal) (s : S128x2x11008.Idx → EReal)

/-- The reference's product is the same sum, -/
theorem ref_proj : val_main_v1 (F := Ideal) x w = prod x w := by
  funext i
  pointwise [val_main_v1, val_main_v0, prod]

/-- its kept prompt rows are the same rows: past the 2 rows of zeros, -/
theorem ref_convP : val_main_v8 (F := Ideal) x w = convP (prod x w) := by
  rw [← ref_proj]
  funext i
  have h1 : (i 1).val < 2 := (i 1).isLt
  pointwise [val_main_v8, val_main_v7, val_main_v6, val_main_v3, val_main_v2, convP]
  rw [dif_neg (by omega)]
  congr 1
  refine Shape.idx_ext₂ ?_ rfl
  dsimp
  omega

/-- and its kept sample rows. -/
theorem ref_convS : val_main_v10 (F := Ideal) x w s = convS (prod x w) s := by
  rw [← ref_proj]
  funext i
  have h1 : (i 1).val < 2 := (i 1).isLt
  pointwise [val_main_v10, val_main_v9, val_main_v5, val_main_v4, convS]
  by_cases h : (i 1).val < 1
  · rw [dif_pos (by omega), dif_pos h]
  · rw [dif_neg (by omega), dif_neg h]

end Ref

/-- The kernel computes the reference's projection and convolution states. -/
theorem algebraic : Cert.algebraic_Kernel3Ideal_Reference3Ideal := by
  intro m ρ m' ρ' _ hagree
  refine ⟨fun c => prod (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), fun c => convP (prod (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))),
    fun c => convS (prod (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) (m ((c.tc : Thread Cert.Kernel3Ideal.nD Cert.Kernel3Ideal.τ).loc Cert.Kernel3Ideal.main_arg2)), run m ρ,
    (θ_run Cert.Reference3Ideal.defs _ _).mono (fun _ h c => ⟨(h c).1.trans ?_, (h c).2.1.trans ?_, (h c).2.2.1.trans ?_, (h c).2.2.2⟩)
      (Cert.Reference3Ideal.Value.run (F := Ideal) m' ρ')⟩
  · rw [(hagree c).1, (hagree c).2.1]
    exact ref_proj _ _
  · rw [(hagree c).1, (hagree c).2.1]
    exact ref_convP _ _
  · rw [(hagree c).1, (hagree c).2.1, (hagree c).2.2]
    exact ref_convS _ _ _

end Cert.FfnIn

end
-- ==== Proof.GdnIn.lean ====
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

/-! # The delta rule's input projection

The tiled product is the product, and the rows the kernel keeps for the next step's convolution are the reference's. -/

namespace Cert.GdnIn

open Cert.Kernel5Ideal Cert.Kernel5Ideal.Gen

/-- The product of the rows of `x` and the columns of `w`. -/
def prod (x : S8320x4096.Idx → EReal) (w : S4096x16448.Idx → EReal) : S8320x16384.Idx → EReal :=
  fun i => (∑ k : Fin 4096, x (ix2 (i 0) k) * w (ix2 k ⟨(i 1).val, by idx_bounds i; omega⟩))

/-- The last 3 convolved rows of each prompt. -/
def convP (p : S8320x16384.Idx → EReal) : S4x3x12288.Idx → EReal :=
  fun i => p (ix2 ⟨(i 0).val * 2048 + (2045 + (i 1).val), by idx_bounds i; omega⟩ ⟨(i 2).val, by idx_bounds i; omega⟩)

/-- The last 3 convolved rows of each sample: the later ones of those it came with, and its new row. -/
def convS (p : S8320x16384.Idx → EReal) (s : S128x3x12288.Idx → EReal) : S128x3x12288.Idx → EReal :=
  fun i => if h : (i 1).val < 2 then s (ix3 (i 0) ⟨1 + (i 1).val, by omega⟩ (i 2))
    else p (ix2 ⟨8192 + (i 0).val, by idx_bounds i; omega⟩ ⟨(i 2).val, by idx_bounds i; omega⟩)

variable (m : (ℓ : Loc nD τ sig) → Buf (Elt Ideal) ℓ)

/-- The block indices of the windows at every grid point. -/
theorem idx : ∀ t : Fin cfg0.N,
    win0_0.index t = ![(grid0.coords t 1).val, 0] ∧ win0_1.index t = ![0, (grid0.coords t 0).val]
      ∧ win0_2.index t = ![(grid0.coords t 1).val, (grid0.coords t 0).val] := by
  show ∀ t : Fin grid0.N, _
  decide +kernel

/-- The weight as the region finds it: its first 16384 columns. -/
theorem entry_w (c : Dev nD) (i : S4096x16384.Idx) : V m c main_v1 i
    = m ((c : Thread nD τ).loc main_arg1) (ix2 (i 0) ⟨(i 1).val, by idx_bounds i; omega⟩) := by
  show StableHlo.after (List.flatten [hostOps0]) (fun b => m (c, b)) (Proc.devRef .tc main_v1) i = _
  simp only [List.flatten_cons, List.flatten_nil, List.append_nil]
  after_results
  pointwise

/-- The projection after the run is the product of the arguments. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, prod]
  blk_point [iblk, idx t]
  rw [entry_w]
  blk_ext [idx t]

theorem withArrays_proj (c : Dev nD) : Pipeline.withArrays spec0 c (V0 m c) (fun w => (dats m 0 c).arrAt w cfg0.N) (Proc.devRef .tc main_v2)
    = prod (m ((c : Thread nD τ).loc main_arg0)) (m ((c : Thread nD τ).loc main_arg1)) :=
  (Pipeline.withArrays_arr spec0 launch0.win.arr_inj c _ _ 2).trans (final m c)

theorem withArrays_state (c : Dev nD) : Pipeline.withArrays spec0 c (V0 m c) (fun w => (dats m 0 c).arrAt w cfg0.N) (Proc.devRef .tc main_arg2)
    = m ((c : Thread nD τ).loc main_arg2) :=
  (Pipeline.withArrays_of_ne _ c (V0 m c) _ main_arg2 (by exact (by decide : ∀ w, Pipeline.arrRef spec0 w ≠ main_arg2))).trans (V_main_arg2 m c)

/-- The kernel's lines after the region leave the prompts' rows, -/
theorem tailP (c : Dev nD) : Pipeline.afterTail₀ cfgs (dats m) 0 (V0 m) [hostOps1] c main_v5
    = convP (prod (m ((c : Thread nD τ).loc main_arg0)) (m ((c : Thread nD τ).loc main_arg1))) := by
  unfold Pipeline.afterTail₀
  simp only [List.flatten_cons, List.flatten_nil, List.append_nil]
  after_results
  erw [withArrays_proj m c]
  funext i
  pointwise [convP]

/-- and the samples'. -/
theorem tailS (c : Dev nD) : Pipeline.afterTail₀ cfgs (dats m) 0 (V0 m) [hostOps1] c main_v9
    = convS (prod (m ((c : Thread nD τ).loc main_arg0)) (m ((c : Thread nD τ).loc main_arg1))) (m ((c : Thread nD τ).loc main_arg2)) := by
  unfold Pipeline.afterTail₀
  simp only [List.flatten_cons, List.flatten_nil, List.append_nil]
  after_results
  erw [withArrays_proj m c, withArrays_state m c]
  funext i
  pointwise [convS]

/-- The run, read: the projection, the two convolution states, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1))
      ∧ r.2.mem ((c : Thread nD τ).loc main_v5) = convP (prod (m ((c : Thread nD τ).loc main_arg0)) (m ((c : Thread nD τ).loc main_arg1)))
      ∧ r.2.mem ((c : Thread nD τ).loc main_v9) = convS (prod (m ((c : Thread nD τ).loc main_arg0)) (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).1 2).trans (final m c),
      ((h.1 c).2 main_v5 (Pipeline.mem_restRefs_of main_v5 (by decide) (by decide))).trans (tailP m c),
      ((h.1 c).2 main_v9 (Pipeline.mem_restRefs_of main_v9 (by decide) (by decide))).trans (tailS m c), h.2 c⟩)
    (θ_run_and (run_main m ρ) (unchanged m ρ))

/-! ## The claims -/

/-- The frames: each program runs and leaves its arguments and its semaphores as they were. -/
theorem frame : Cert.quiescent_Kernel5 := fun m ρ _ => Cert.Kernel5.Gen.frame m ρ
theorem frame_ideal : Cert.quiescent_Kernel5Ideal := fun m ρ _ => Cert.Kernel5Ideal.Gen.frame m ρ
theorem frame_ref : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The ideal pass rewrote nothing. -/
theorem preserves : Cert.preserves_Kernel5_Kernel5Ideal := trivial

section Ref
open Cert.Reference5Ideal.Read

variable (x : S8320x4096.Idx → EReal) (w : S4096x16448.Idx → EReal) (s : S128x3x12288.Idx → EReal)

/-- The reference's product is the same sum, -/
theorem ref_proj : val_main_v2 (F := Ideal) x w = prod x w := by
  funext i
  pointwise [val_main_v2, val_main_v1, val_main_v0, prod]

/-- its kept prompt rows are the same rows: past the 3 rows of zeros, -/
theorem ref_convP : val_main_v9 (F := Ideal) x w = convP (prod x w) := by
  rw [← ref_proj]
  funext i
  have h1 : (i 1).val < 3 := (i 1).isLt
  pointwise [val_main_v9, val_main_v8, val_main_v7, val_main_v4, val_main_v3, convP]
  rw [dif_neg (by omega)]
  congr 1
  refine Shape.idx_ext₂ ?_ rfl
  dsimp
  omega

/-- and its kept sample rows. -/
theorem ref_convS : val_main_v11 (F := Ideal) x w s = convS (prod x w) s := by
  rw [← ref_proj]
  funext i
  have h1 : (i 1).val < 3 := (i 1).isLt
  pointwise [val_main_v11, val_main_v10, val_main_v6, val_main_v5, convS]
  by_cases h : (i 1).val < 2
  · rw [dif_pos (by omega), dif_pos h]
  · rw [dif_neg (by omega), dif_neg h]

end Ref

/-- The kernel computes the reference's projection and convolution states. -/
theorem algebraic : Cert.algebraic_Kernel5Ideal_Reference5Ideal := by
  intro m ρ m' ρ' _ hagree
  refine ⟨fun c => prod (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), fun c => convP (prod (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))),
    fun c => convS (prod (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) (m ((c.tc : Thread Cert.Kernel5Ideal.nD Cert.Kernel5Ideal.τ).loc Cert.Kernel5Ideal.main_arg2)), run m ρ,
    (θ_run Cert.Reference5Ideal.defs _ _).mono (fun _ h c => ⟨(h c).1.trans ?_, (h c).2.1.trans ?_, (h c).2.2.1.trans ?_, (h c).2.2.2⟩)
      (Cert.Reference5Ideal.Value.run (F := Ideal) m' ρ')⟩
  · rw [(hagree c).1, (hagree c).2.1]
    exact ref_proj _ _
  · rw [(hagree c).1, (hagree c).2.1]
    exact ref_convP _ _
  · rw [(hagree c).1, (hagree c).2.1, (hagree c).2.2]
    exact ref_convS _ _ _

end Cert.GdnIn

end
-- ==== Proof.LruIn.lean ====
module

public import proofs.«01_k».proof.Defs
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

/-! # The linear recurrence's input projection

The tiled product is the product, and the rows the kernel keeps for the next step's convolution are the reference's. -/

namespace Cert.LruIn

open Cert.Kernel7Ideal Cert.Kernel7Ideal.Gen

/-- The product of the rows of `x` and the columns of `w`, plus the columns' bias. -/
def prod (x : S8320x4096.Idx → EReal) (w : S4096x8192.Idx → EReal) (b : S8192.Idx → EReal) : S8320x8192.Idx → EReal :=
  fun i => (∑ k : Fin 4096, x (ix2 (i 0) k) * w (ix2 k ⟨(i 1).val, by idx_bounds i; omega⟩)) + b (ix1 (i 1))

/-- The last 3 convolved rows of each prompt. -/
def convP (p : S8320x8192.Idx → EReal) : S4x3x4096.Idx → EReal :=
  fun i => p (ix2 ⟨(i 0).val * 2048 + (2045 + (i 1).val), by idx_bounds i; omega⟩ ⟨(i 2).val, by idx_bounds i; omega⟩)

/-- The last 3 convolved rows of each sample: the later ones of those it came with, and its new row. -/
def convS (p : S8320x8192.Idx → EReal) (s : S128x3x4096.Idx → EReal) : S128x3x4096.Idx → EReal :=
  fun i => if h : (i 1).val < 2 then s (ix3 (i 0) ⟨1 + (i 1).val, by omega⟩ (i 2))
    else p (ix2 ⟨8192 + (i 0).val, by idx_bounds i; omega⟩ ⟨(i 2).val, by idx_bounds i; omega⟩)

variable (m : (ℓ : Loc nD τ sig) → Buf (Elt Ideal) ℓ)

/-- The block indices of the windows at every grid point. -/
theorem idx : ∀ t : Fin cfg0.N,
    win0_0.index t = ![(grid0.coords t 1).val, 0] ∧ win0_1.index t = ![0, (grid0.coords t 0).val]
      ∧ win0_2.index t = ![0, (grid0.coords t 0).val] ∧ win0_3.index t = ![(grid0.coords t 1).val, (grid0.coords t 0).val] := by
  show ∀ t : Fin grid0.N, _
  decide +kernel

/-- The bias as the region finds it: one row. -/
theorem entry_b (c : Dev nD) (i : S1x8192.Idx) : V m c main_v1 i = m ((c : Thread nD τ).loc main_arg2) (ix1 (i 1)) := by
  show StableHlo.after (List.flatten [hostOps0]) (fun b => m (c, b)) (Proc.devRef .tc main_v1) i = _
  simp only [List.flatten_cons, List.flatten_nil, List.append_nil]
  after_results
  pointwise

/-- The projection after the run is the product of the arguments. -/
theorem final (c : Dev nD) : (dats m 0 c).arrAt 3 cfg0.N
    = prod (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, prod]
  blk_point [iblk, idx t]
  rw [entry_b]
  blk_ext [idx t]

theorem withArrays_proj (c : Dev nD) : Pipeline.withArrays spec0 c (V0 m c) (fun w => (dats m 0 c).arrAt w cfg0.N) (Proc.devRef .tc main_v2)
    = prod (m ((c : Thread nD τ).loc main_arg0)) (m ((c : Thread nD τ).loc main_arg1)) (m ((c : Thread nD τ).loc main_arg2)) :=
  (Pipeline.withArrays_arr spec0 launch0.win.arr_inj c _ _ 3).trans (final m c)

theorem withArrays_state (c : Dev nD) : Pipeline.withArrays spec0 c (V0 m c) (fun w => (dats m 0 c).arrAt w cfg0.N) (Proc.devRef .tc main_arg3)
    = m ((c : Thread nD τ).loc main_arg3) :=
  (Pipeline.withArrays_of_ne _ c (V0 m c) _ main_arg3 (by exact (by decide : ∀ w, Pipeline.arrRef spec0 w ≠ main_arg3))).trans (V_main_arg3 m c)

/-- The kernel's lines after the region leave the prompts' rows, -/
theorem tailP (c : Dev nD) : Pipeline.afterTail₀ cfgs (dats m) 0 (V0 m) [hostOps1] c main_v5
    = convP (prod (m ((c : Thread nD τ).loc main_arg0)) (m ((c : Thread nD τ).loc main_arg1)) (m ((c : Thread nD τ).loc main_arg2))) := by
  unfold Pipeline.afterTail₀
  simp only [List.flatten_cons, List.flatten_nil, List.append_nil]
  after_results
  erw [withArrays_proj m c]
  funext i
  pointwise [convP]

/-- and the samples'. -/
theorem tailS (c : Dev nD) : Pipeline.afterTail₀ cfgs (dats m) 0 (V0 m) [hostOps1] c main_v9
    = convS (prod (m ((c : Thread nD τ).loc main_arg0)) (m ((c : Thread nD τ).loc main_arg1)) (m ((c : Thread nD τ).loc main_arg2))) (m ((c : Thread nD τ).loc main_arg3)) := by
  unfold Pipeline.afterTail₀
  simp only [List.flatten_cons, List.flatten_nil, List.append_nil]
  after_results
  erw [withArrays_proj m c, withArrays_state m c]
  funext i
  pointwise [convS]

/-- The run, read: the projection, the two convolution states, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v2) = prod (m ((c : Thread nD τ).loc main_arg0)) (m ((c : Thread nD τ).loc main_arg1)) (m ((c : Thread nD τ).loc main_arg2))
      ∧ r.2.mem ((c : Thread nD τ).loc main_v5) = convP (prod (m ((c : Thread nD τ).loc main_arg0)) (m ((c : Thread nD τ).loc main_arg1)) (m ((c : Thread nD τ).loc main_arg2)))
      ∧ r.2.mem ((c : Thread nD τ).loc main_v9) = convS (prod (m ((c : Thread nD τ).loc main_arg0)) (m ((c : Thread nD τ).loc main_arg1)) (m ((c : Thread nD τ).loc main_arg2))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 3).trans (final m c),
      ((h.1 c).2 main_v5 (Pipeline.mem_restRefs_of main_v5 (by decide) (by decide))).trans (tailP m c),
      ((h.1 c).2 main_v9 (Pipeline.mem_restRefs_of main_v9 (by decide) (by decide))).trans (tailS m c), h.2 c⟩)
    (θ_run_and (run_main m ρ) (unchanged m ρ))

/-! ## The claims -/

/-- The frames: each program runs and leaves its arguments and its semaphores as they were. -/
theorem frame : Cert.quiescent_Kernel7 := fun m ρ _ => Cert.Kernel7.Gen.frame m ρ
theorem frame_ideal : Cert.quiescent_Kernel7Ideal := fun m ρ _ => Cert.Kernel7Ideal.Gen.frame m ρ
theorem frame_ref : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- The ideal pass rewrote nothing. -/
theorem preserves : Cert.preserves_Kernel7_Kernel7Ideal := trivial

section Ref
open Cert.Reference7Ideal.Read

variable (x : S8320x4096.Idx → EReal) (w : S4096x8192.Idx → EReal) (b : S8192.Idx → EReal) (s : S128x3x4096.Idx → EReal)

/-- The reference's product is the same sum, -/
theorem ref_proj : val_main_v4 (F := Ideal) x w b = prod x w b := by
  funext i
  pointwise [val_main_v4, val_main_v3, val_main_v2, val_main_v1, val_main_v0, prod]

/-- its kept prompt rows are the same rows: past the 3 rows of zeros, -/
theorem ref_convP : val_main_v11 (F := Ideal) x w b = convP (prod x w b) := by
  rw [← ref_proj]
  funext i
  have h1 : (i 1).val < 3 := (i 1).isLt
  pointwise [val_main_v11, val_main_v10, val_main_v9, val_main_v6, val_main_v5, convP]
  rw [dif_neg (by omega)]
  congr 1
  refine Shape.idx_ext₂ ?_ rfl
  dsimp
  omega

/-- and its kept sample rows. -/
theorem ref_convS : val_main_v13 (F := Ideal) x w b s = convS (prod x w b) s := by
  rw [← ref_proj]
  funext i
  have h1 : (i 1).val < 3 := (i 1).isLt
  pointwise [val_main_v13, val_main_v12, val_main_v8, val_main_v7, convS]
  by_cases h : (i 1).val < 2
  · rw [dif_pos (by omega), dif_pos h]
  · rw [dif_neg (by omega), dif_neg h]

end Ref

/-- The kernel computes the reference's projection and convolution states. -/
theorem algebraic : Cert.algebraic_Kernel7Ideal_Reference7Ideal := by
  intro m ρ m' ρ' _ hagree
  refine ⟨fun c => prod (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)), fun c => convP (prod (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))),
    fun c => convS (prod (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) (m ((c.tc : Thread Cert.Kernel7Ideal.nD Cert.Kernel7Ideal.τ).loc Cert.Kernel7Ideal.main_arg3)), run m ρ,
    (θ_run Cert.Reference7Ideal.defs _ _).mono (fun _ h c => ⟨(h c).1.trans ?_, (h c).2.1.trans ?_, (h c).2.2.1.trans ?_, (h c).2.2.2⟩)
      (Cert.Reference7Ideal.Value.run (F := Ideal) m' ρ')⟩
  · rw [(hagree c).1, (hagree c).2.1, (hagree c).2.2.1]
    exact ref_proj _ _ _
  · rw [(hagree c).1, (hagree c).2.1, (hagree c).2.2.1]
    exact ref_convP _ _ _
  · rw [(hagree c).1, (hagree c).2.1, (hagree c).2.2.1, (hagree c).2.2.2]
    exact ref_convS _ _ _ _

end Cert.LruIn

end
-- ==== Proof.OutProj.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

/-! # A mixer's output projection

The tiled product, added to the residual rows, is the residual plus the product. -/

namespace Cert.OutProj

open Cert.Kernel6Ideal Cert.Kernel6Ideal.Gen

/-- The residual rows `r` plus the product of the rows of `x` and the columns of `w`. -/
def resProd (x : S8320x4096.Idx → EReal) (w : S4096x4096.Idx → EReal) (r : S8320x4096.Idx → EReal) : S8320x4096.Idx → EReal :=
  fun i => r i + ∑ k : Fin 4096, x (ix2 (i 0) k) * w (ix2 k (i 1))

variable (m : (ℓ : Loc nD τ sig) → Buf (Elt Ideal) ℓ)

/-- The block indices of the windows at every grid point. -/
theorem idx : ∀ t : Fin cfg0.N,
    win0_0.index t = ![(grid0.coords t 1).val, 0] ∧ win0_1.index t = ![0, (grid0.coords t 0).val]
      ∧ win0_2.index t = ![(grid0.coords t 1).val, (grid0.coords t 0).val]
      ∧ win0_3.index t = ![(grid0.coords t 1).val, (grid0.coords t 0).val] := by
  show ∀ t : Fin grid0.N, _
  decide +kernel

/-- The rows after the run. -/
theorem final (c : Dev nD) : (dats m 0 c).arrAt 3 cfg0.N
    = resProd (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay1, resProd]
  blk_point [iblk, idx t]

/-- The run, read. -/
theorem run (ρ : Dev nD → PrngReg) : θ_run defs (onTc (τ := τ) (main (F := Ideal))) ⟨m, fun _ => 0, ρ⟩ fun r => ∀ c : Dev nD,
      r.2.mem ((c : Thread nD τ).loc main_v1)
        = resProd (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-! ## The claims -/

/-- The frames: each program runs and leaves its arguments and its semaphores as they were. -/
theorem frame : Cert.quiescent_Kernel6 := fun m ρ _ => Cert.Kernel6.Gen.frame m ρ
theorem frame_ideal : Cert.quiescent_Kernel6Ideal := fun m ρ _ => Cert.Kernel6Ideal.Gen.frame m ρ
theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The ideal pass rewrote nothing. -/
theorem preserves : Cert.preserves_Kernel6_Kernel6Ideal := trivial

/-- The reference's sum is the same. -/
theorem ref_eq (x : S8320x4096.Idx → EReal) (w : S4096x4096.Idx → EReal) (r : S8320x4096.Idx → EReal) :
    Cert.Reference6Ideal.Read.val_main_v2 (F := Ideal) x w r = resProd x w r := by
  funext i
  pointwise [Cert.Reference6Ideal.Read.val_main_v2, Cert.Reference6Ideal.Read.val_main_v1, Cert.Reference6Ideal.Read.val_main_v0, resProd]

/-- The kernel computes the reference's rows. -/
theorem algebraic : Cert.algebraic_Kernel6Ideal_Reference6Ideal := by
  intro m ρ m' ρ' _ hagree
  refine ⟨fun c => resProd (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1))
      (m ((c.tc : Thread Cert.Kernel6Ideal.nD Cert.Kernel6Ideal.τ).loc Cert.Kernel6Ideal.main_arg2)), run m ρ,
    (θ_run Cert.Reference6Ideal.defs _ _).mono (fun _ h c => ⟨(h c).1.trans ?_, (h c).2⟩) (Cert.Reference6Ideal.Value.run (F := Ideal) m' ρ')⟩
  rw [(hagree c).1, (hagree c).2.1, (hagree c).2.2]
  exact ref_eq _ _ _

end Cert.OutProj

end
-- ==== Proof.FfnOut.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

/-! # The channel mixer's output projection

The contraction runs in two halves, the first kept in a scratch block; their sum, added to the residual rows, is the
residual plus the product. -/

namespace Cert.FfnOut

open Cert.Kernel4Ideal Cert.Kernel4Ideal.Gen

/-- The residual rows `r` plus the product of the rows of `x` and the columns of `w`. -/
def resProd (x : S8320x11008.Idx → EReal) (w : S11008x4096.Idx → EReal) (r : S8320x4096.Idx → EReal) : S8320x4096.Idx → EReal :=
  fun i => r i + ∑ k : Fin 11008, x (ix2 (i 0) k) * w (ix2 k (i 1))

/-- The contraction over both halves. -/
theorem sum_halves (f : Fin 11008 → EReal) :
    ∑ k, f k = (∑ k : Fin 5504, f ⟨k.val, by omega⟩) + ∑ k : Fin 5504, f ⟨5504 + k.val, by omega⟩ :=
  Fin.sum_univ_add (a := 5504) (b := 5504) f

variable (m : (ℓ : Loc nD τ sig) → Buf (Elt Ideal) ℓ)

/-- The block indices of the windows at every grid point: the two points of a run share their rows and columns. -/
theorem idx : ∀ t : Fin cfg0.N,
    win0_0.index t = ![t.val / 2 % 10, t.val % 2] ∧ win0_1.index t = ![t.val % 2, t.val / 20]
      ∧ win0_2.index t = ![t.val / 2 % 10, t.val / 20] ∧ win0_3.index t = ![t.val / 2 % 10, t.val / 20] := by
  show ∀ t : Fin grid0.N, _
  decide +kernel

/-- The rows after the run. -/
theorem final (c : Dev nD) : (dats m 0 c).arrAt 3 cfg0.N
    = resProd (m ((c : Thread nD τ).loc main_arg0)) (m ((c : Thread nD τ).loc main_arg1)) (m ((c : Thread nD τ).loc main_arg2)) := by
  refine (dats m 0 c).arrAt_eq_of_covers 3 _ (by decide +kernel) fun t hf y => ?_
  have h1 : t.val % 2 = 1 := (flush0_3 t).mp hf
  have h0 : (t.val - 1) % 2 = 0 := by omega
  have h2 : ¬(t.val - 1) % 2 = 1 := by omega
  have hlt : t.val - 1 < cfg0.N := Nat.lt_of_le_of_lt (Nat.sub_le _ _) t.isLt
  blk_simp
  rw [after0_3, outsAt0_B m c t (by omega) h1 h1]; frame_out
  rw [outsAt0_A m c ⟨t.val - 1, hlt⟩ h0 h2 h2]; frame_out
  erw [Memref.IsWhole.read_unread]
  pointwise [k0_pay1, k0_pay2, k0_pay3, k0_pay4, resProd]
  rw [sum_halves]
  have hd : (t.val - 1) / 2 = t.val / 2 := by omega
  have hq : (t.val - 1) / 20 = t.val / 20 := by omega
  have ht := idx t
  have hp := idx ⟨t.val - 1, hlt⟩
  simp only [h0, hd, hq] at hp
  rw [h1] at ht
  blk_point [iblk, ht, hp]

/-- The run, read. -/
theorem run (ρ : Dev nD → PrngReg) : θ_run defs (onTc (τ := τ) (main (F := Ideal))) ⟨m, fun _ => 0, ρ⟩ fun r => ∀ c : Dev nD,
      r.2.mem ((c : Thread nD τ).loc main_v1)
        = resProd (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-! ## The claims -/

/-- The frames: each program runs and leaves its arguments and its semaphores as they were. -/
theorem frame : Cert.quiescent_Kernel4 := fun m ρ _ => Cert.Kernel4.Gen.frame m ρ
theorem frame_ideal : Cert.quiescent_Kernel4Ideal := fun m ρ _ => Cert.Kernel4Ideal.Gen.frame m ρ
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The ideal pass rewrote nothing. -/
theorem preserves : Cert.preserves_Kernel4_Kernel4Ideal := trivial

/-- The kernel computes the reference's rows. -/
theorem algebraic : Cert.algebraic_Kernel4Ideal_Reference4Ideal := by
  intro m ρ m' ρ' _ hagree
  refine ⟨fun c => resProd (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)), run m ρ,
    (θ_run Cert.Reference4Ideal.defs _ _).mono (fun _ h c => ⟨(h c).1.trans ?_, (h c).2⟩) (Cert.Reference4Ideal.Value.run (F := Ideal) m' ρ')⟩
  rw [(hagree c).1, (hagree c).2.1, (hagree c).2.2]
  funext i
  pointwise [resProd]

end Cert.FfnOut

end
-- ==== Proof.FinalNorm.lean ====
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

/-! # The final normalisation

Every row over its root mean square, scaled by the weight; the first 8192 rows are the prompts' results and the last 128 the
samples'. -/

namespace Cert.FinalNorm

open Cert.Kernel10Ideal Cert.Kernel10Ideal.Gen

/-- A row's entry over the row's root mean square, times the weight's. -/
def norm (x : S8320x4096.Idx → EReal) (w : S4096.Idx → EReal) : S8320x4096.Idx → EReal :=
  fun i => x i * Ideal.rsqrt (Ideal.div (∑ k : Fin 4096, x (ix2 (i 0) k) * x (ix2 (i 0) k)) (Ideal.ofBits .f32 0x45800000#32)
    + Ideal.ofBits .f32 0x358637BD#32) * w (ix1 (i 1))

/-- The prompts' rows of `y`. -/
def prompts (y : S8320x4096.Idx → EReal) : S4x2048x4096.Idx → EReal :=
  fun i => y (ix2 ⟨(i 0).val * 2048 + (i 1).val, by idx_bounds i; omega⟩ (i 2))

/-- The samples' rows of `y`. -/
def samples (y : S8320x4096.Idx → EReal) : S128x1x4096.Idx → EReal :=
  fun i => y (ix2 ⟨8192 + (i 0).val, by idx_bounds i; omega⟩ (i 2))

variable (m : (ℓ : Loc nD τ sig) → Buf (Elt Ideal) ℓ)

/-- The block indices of the windows at every grid point. -/
theorem idx : ∀ t : Fin cfg0.N, win0_0.index t = ![t.val, 0] ∧ win0_1.index t = ![0, 0] ∧ win0_2.index t = ![t.val, 0] := by
  show ∀ t : Fin grid0.N, _
  decide +kernel

/-- The weight as the region finds it: one row. -/
theorem entry_w (c : Dev nD) (i : S1x4096.Idx) : V m c main_v0 i = m ((c : Thread nD τ).loc main_arg1) (ix1 (i 1)) := by
  show StableHlo.after (List.flatten [hostOps0]) (fun b => m (c, b)) (Proc.devRef .tc main_v0) i = _
  simp only [List.flatten_cons, List.flatten_nil, List.append_nil]
  after_results
  pointwise

/-- The rows after the run. -/
theorem final (c : Dev nD) : (dats m 0 c).arrAt 2 cfg0.N
    = norm (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, norm]
  blk_point [iblk, idx t]
  rw [entry_w]
  blk_ext [idx t]

theorem withArrays_rows (c : Dev nD) : Pipeline.withArrays spec0 c (V0 m c) (fun w => (dats m 0 c).arrAt w cfg0.N) (Proc.devRef .tc main_v1)
    = norm (m ((c : Thread nD τ).loc main_arg0)) (m ((c : Thread nD τ).loc main_arg1)) :=
  (Pipeline.withArrays_arr spec0 launch0.win.arr_inj c _ _ 2).trans (final m c)

/-- The kernel's lines after the region part the prompts' rows -/
theorem tailP (c : Dev nD) : Pipeline.afterTail₀ cfgs (dats m) 0 (V0 m) [hostOps1] c main_v3
    = prompts (norm (m ((c : Thread nD τ).loc main_arg0)) (m ((c : Thread nD τ).loc main_arg1))) := by
  unfold Pipeline.afterTail₀
  simp only [List.flatten_cons, List.flatten_nil, List.append_nil]
  after_results
  erw [withArrays_rows m c]
  funext i
  pointwise [prompts]

/-- and the samples'. -/
theorem tailS (c : Dev nD) : Pipeline.afterTail₀ cfgs (dats m) 0 (V0 m) [hostOps1] c main_v5
    = samples (norm (m ((c : Thread nD τ).loc main_arg0)) (m ((c : Thread nD τ).loc main_arg1))) := by
  unfold Pipeline.afterTail₀
  simp only [List.flatten_cons, List.flatten_nil, List.append_nil]
  after_results
  erw [withArrays_rows m c]
  funext i
  pointwise [samples]

/-- The run, read: both results, and the arguments as launched. -/
theorem run (ρ : Dev nD → PrngReg) : θ_run defs (onTc (τ := τ) (main (F := Ideal))) ⟨m, fun _ => 0, ρ⟩ fun r => ∀ c : Dev nD,
      r.2.mem ((c : Thread nD τ).loc main_v3) = prompts (norm (m ((c : Thread nD τ).loc main_arg0)) (m ((c : Thread nD τ).loc main_arg1)))
      ∧ r.2.mem ((c : Thread nD τ).loc main_v5) = samples (norm (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).2 main_v3 (Pipeline.mem_restRefs_of main_v3 (by decide) (by decide))).trans (tailP m c),
      ((h.1 c).2 main_v5 (Pipeline.mem_restRefs_of main_v5 (by decide) (by decide))).trans (tailS m c), h.2 c⟩)
    (θ_run_and (run_main m ρ) (unchanged m ρ))

/-! ## The claims -/

/-- The frames: each program runs and leaves its arguments and its semaphores as they were. -/
theorem frame : Cert.quiescent_Kernel10 := fun m ρ _ => Cert.Kernel10.Gen.frame m ρ
theorem frame_ideal : Cert.quiescent_Kernel10Ideal := fun m ρ _ => Cert.Kernel10Ideal.Gen.frame m ρ
theorem frame_ref : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The ideal pass rewrote nothing. -/
theorem preserves : Cert.preserves_Kernel10_Kernel10Ideal := trivial

section Ref
open Cert.Reference10Ideal.Read

variable (x : S8320x4096.Idx → EReal) (w : S4096.Idx → EReal)

/-- The reference's rows are the same, -/
theorem ref_norm : val_main_v12 (F := Ideal) x w = norm x w := by
  funext i
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, norm]

/-- the prompts' -/
theorem ref_prompts : val_main_v14 (F := Ideal) x w = prompts (norm x w) := by
  rw [← ref_norm]
  funext i
  pointwise [val_main_v14, val_main_v13, prompts]

/-- and the samples'. -/
theorem ref_samples : val_main_v16 (F := Ideal) x w = samples (norm x w) := by
  rw [← ref_norm]
  funext i
  pointwise [val_main_v16, val_main_v15, samples]

end Ref

/-- The kernel computes the reference's results. -/
theorem algebraic : Cert.algebraic_Kernel10Ideal_Reference10Ideal := by
  intro m ρ m' ρ' _ hagree
  refine ⟨fun c => prompts (norm (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))),
    fun c => samples (norm (m ((c.tc : Thread Cert.Kernel10Ideal.nD Cert.Kernel10Ideal.τ).loc Cert.Kernel10Ideal.main_arg0))
      (m ((c.tc : Thread Cert.Kernel10Ideal.nD Cert.Kernel10Ideal.τ).loc Cert.Kernel10Ideal.main_arg1))), run m ρ,
    (θ_run Cert.Reference10Ideal.defs _ _).mono (fun _ h c => ⟨(h c).1.trans ?_, (h c).2.1.trans ?_, (h c).2.2⟩)
      (Cert.Reference10Ideal.Value.run (F := Ideal) m' ρ')⟩
  · rw [(hagree c).1, (hagree c).2]
    exact ref_prompts _ _
  · rw [(hagree c).1, (hagree c).2]
    exact ref_samples _ _

end Cert.FinalNorm

end
-- ==== Proof.LruPromptRunIdeal.lean ====
module

public import proofs.«01_k».proof.Proof.Gen.Kernel8Ideal.Frame
public import proofs.«01_k».proof.Proof.Gen.Kernel8Ideal.Skeleton
public import proofs.«01_k».proof.Proof.Gen.Kernel8Ideal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

/-! # The recurrence over the prompts, run: the kernel over the extended reals

The last rows and the state stay in scratch from one point to the next; the first point of a prompt clears them, the three later
ones read what the point before left. -/

namespace Cert.LruPrompt.Ideal

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A prompt's first row block. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (fun t => by
    have ht : t.val < 256 := Nat.lt_of_lt_of_eq t.isLt N_0
    have e0 : (grid0.coords t 0).val = t.val / 64 % 4 := Pipeline.Grid.coords_val t 0 (by decide) rfl
    have e1 : (grid0.coords t 1).val = t.val / 4 % 16 := Pipeline.Grid.coords_val t 1 (by decide) rfl
    have e2 : (grid0.coords t 2).val = t.val / 1 % 4 := Pipeline.Grid.coords_val t 2 (by decide) rfl
    simp only [cond0_0, e0, e1, e2]
    word_cmp
   : ∀ t : Fin grid0.N, cond0_0 (grid0.coords t) ↔ t.val % 4 = 0)

/-- The buffers the body writes, as views. -/
abbrev VO0_8 : View sig .tc .vmem S512x256 .bf16 := (Memref.whole cc0_stg8_0 : Memref sig .tc .vmem S512x256 .bf16).view
abbrev VO0_9 : View sig .tc .vmem S1x1x256 .f32 := (Memref.whole cc0_stg9_0 : Memref sig .tc .vmem S1x1x256 .f32).view
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x256 .f32 := win0_9.stage (cfg0.slots t 9)
abbrev hs0_9 (t : Fin cfg0.N) : (ms0_9 t).IsWhole := hstage0_9 ((cfg0.slots t 9).cast nbuf0_9)
abbrev scM0_0 : Memref sig .tc .vmem S8x256 .f32 := Memref.whole cc0_scratch0
abbrev scM0_1 : Memref sig .tc .vmem S8x256 .f32 := Memref.whole cc0_scratch1
abbrev scM0_2 : Memref sig .tc .vmem S512x256 .f32 := Memref.whole cc0_scratch2
abbrev scM0_3 : Memref sig .tc .vmem S512x256 .f32 := Memref.whole cc0_scratch3
abbrev VS0_0 : View sig .tc .vmem S8x256 .f32 := scM0_0.view
abbrev VS0_1 : View sig .tc .vmem S8x256 .f32 := scM0_1.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

section Body

variable (c : Dev nD)
  (i : grid0.Coords)
  (arg3 : Memref sig .tc .vmem S512x256 .f32) (harg3 : arg3.IsWhole)
  (arg4 : Memref sig .tc .vmem S512x256 .f32) (harg4 : arg4.IsWhole)
  (arg5 : Memref sig .tc .vmem S4x256 .f32) (harg5 : arg5.IsWhole)
  (arg6 : Memref sig .tc .vmem S1x256 .f32) (harg6 : arg6.IsWhole)
  (arg7 : Memref sig .tc .vmem S1x256x512 .bf16) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S1x256 .f32) (harg10 : arg10.IsWhole)
  (arg11 : Memref sig .tc .vmem S512x256 .bf16) (harg11 : arg11.IsWhole)
  (arg12 : Memref sig .tc .vmem S1x1x256 .f32) (harg12 : arg12.IsWhole)
  (arg13 : Memref sig .tc .vmem S8x256 .f32) (harg13 : arg13.IsWhole)
  (arg14 : Memref sig .tc .vmem S8x256 .f32) (harg14 : arg14.IsWhole)
  (arg15 : Memref sig .tc .vmem S512x256 .f32) (harg15 : arg15.IsWhole)
  (arg16 : Memref sig .tc .vmem S512x256 .f32) (harg16 : arg16.IsWhole)

set_option maxHeartbeats 1000000 in
noncomputable def kernelRun0_A (hc0 : cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) :
    Σ' (L8 : List (View.Piece (Elt F) S512x256 .bf16)), Σ' (L9 : List (View.Piece (Elt F) S1x1x256 .f32)), Σ' (LS0 : List (View.Piece (Elt F) S8x256 .f32)), { LS1 : List (View.Piece (Elt F) S8x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ d, owns (c : Thread nD τ) arg15 fullShare d) ∗ (∃ d, owns (c : Thread nD τ) arg16 fullShare d)) -∗ K ⟨⟩))
          ⊢ wp frame (wpE (defs₀ (F := F)) Variants.none c none) E (cc0_lru_prompt i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_lru_prompt_eq_skeleton]; unfold cc0_lru_prompt_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [HS0]; · iexists _; iexact HS0
    isplitl [HS1]; · iexists _; iexact HS1
    isplitl [HS2]
    · iexists _, _; isplitr; swap; · iexact HS2
      ipureintro; rfl
    iexists _, _; isplitr; swap; · iexact HS3
    ipureintro; rfl

set_option maxHeartbeats 1000000 in
noncomputable def kernelRun0_B (hc0 : ¬cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (xs0 : Vec F S8x256 .f32) (xs1 : Vec F S8x256 .f32) :
    Σ' (L8 : List (View.Piece (Elt F) S512x256 .bf16)), Σ' (L9 : List (View.Piece (Elt F) S1x1x256 .f32)), Σ' (LS0 : List (View.Piece (Elt F) S8x256 .f32)), { LS1 : List (View.Piece (Elt F) S8x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ owns (c : Thread nD τ) arg13 fullShare xs0 ∗ owns (c : Thread nD τ) arg14 fullShare xs1 ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ d, owns (c : Thread nD τ) arg15 fullShare d) ∗ (∃ d, owns (c : Thread nD τ) arg16 fullShare d)) -∗ K ⟨⟩))
          ⊢ wp frame (wpE (defs₀ (F := F)) Variants.none c none) E (cc0_lru_prompt i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0_lru_prompt_eq_skeleton]; unfold cc0_lru_prompt_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg13.eq_unread hfs0; obtain rfl := harg14.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [H9]; · iexists _; iexact H9
    isplitl [HS0]; · iexists _; iexact HS0
    isplitl [HS1]; · iexists _; iexact HS1
    isplitl [HS2]
    · iexists _, _; isplitr; swap; · iexact HS2
      ipureintro; rfl
    iexists _, _; isplitr; swap; · iexact HS3
    ipureintro; rfl

theorem cover0_A_8 (hc0 : cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (y : S512x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1 S512x256.size (by sl_kernel_rfl) y

/-- What a first point leaves in the two output blocks and in the two kept scratch buffers, -/
def out0_A_8 (hc0 : cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) : Vec F S512x256 .bf16 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1)

theorem cover0_A_9 (hc0 : cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (y : S1x1x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1 S1x1x256.size (by sl_kernel_rfl) y

def out0_A_9 (hc0 : cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) : Vec F S1x1x256 .f32 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1)

theorem scover0_A_0 (hc0 : cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (y : S8x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1 S8x256.size (by sl_kernel_rfl) y

def sout0_A_0 (hc0 : cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) : Vec F S8x256 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1)

theorem scover0_A_1 (hc0 : cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (y : S8x256.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1 S8x256.size (by sl_kernel_rfl) y

def sout0_A_1 (hc0 : cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) : Vec F S8x256 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1)

theorem cover0_B_8 (hc0 : ¬cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (xs0 : Vec F S8x256 .f32) (xs1 : Vec F S8x256 .f32) (y : S512x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 xs1).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 xs1).1 S512x256.size (by sl_kernel_rfl) y

/-- and what a later point leaves. -/
def out0_B_8 (hc0 : ¬cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (xs0 : Vec F S8x256 .f32) (xs1 : Vec F S8x256 .f32) : Vec F S512x256 .bf16 :=
  VO0_8.read (Elt F) (VO0_8.writes (Elt F) VO0_8.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 xs1).1)

theorem cover0_B_9 (hc0 : ¬cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (xs0 : Vec F S8x256 .f32) (xs1 : Vec F S8x256 .f32) (y : S1x1x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 xs1).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 xs1).2.1 S1x1x256.size (by sl_kernel_rfl) y

def out0_B_9 (hc0 : ¬cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (xs0 : Vec F S8x256 .f32) (xs1 : Vec F S8x256 .f32) : Vec F S1x1x256 .f32 :=
  VO0_9.read (Elt F) (VO0_9.writes (Elt F) VO0_9.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 xs1).2.1)

theorem scover0_B_0 (hc0 : ¬cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (xs0 : Vec F S8x256 .f32) (xs1 : Vec F S8x256 .f32) (y : S8x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 xs1).2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 xs1).2.2.1 S8x256.size (by sl_kernel_rfl) y

def sout0_B_0 (hc0 : ¬cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (xs0 : Vec F S8x256 .f32) (xs1 : Vec F S8x256 .f32) : Vec F S8x256 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 xs1).2.2.1)

theorem scover0_B_1 (hc0 : ¬cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (xs0 : Vec F S8x256 .f32) (xs1 : Vec F S8x256 .f32) (y : S8x256.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 xs1).2.2.2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 xs1).2.2.2.1 S8x256.size (by sl_kernel_rfl) y

def sout0_B_1 (hc0 : ¬cond0_0 i)
    (x0 : Vec F S512x256 .f32) (x1 : Vec F S512x256 .f32) (x2 : Vec F S4x256 .f32) (x3 : Vec F S1x256 .f32) (x4 : Vec F S1x256x512 .bf16) (x5 : Vec F S1x256 .f32) (x6 : Vec F S1x256 .f32) (x7 : Vec F S1x256 .f32) (xs0 : Vec F S8x256 .f32) (xs1 : Vec F S8x256 .f32) : Vec F S8x256 .f32 :=
  VS0_1.read (Elt F) (VS0_1.writes (Elt F) VS0_1.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 xs1).2.2.2.1)

end Body

/-- The two output blocks and the two kept buffers after each point. -/
def outsAt0 (c : Dev nD) : (n : ℕ) → n < cfg0.N → Vec F S512x256 .bf16 × Vec F S1x1x256 .f32 × Vec F S8x256 .f32 × Vec F S8x256 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (X0_0 m c ⟨0, hn⟩) (X0_1 m c ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 4 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (X0_0 m c ⟨n + 1, hn⟩) (X0_1 m c ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val % 4 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (X0_0 m c t) (X0_1 m c t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (X0_0 m c t) (X0_1 m c t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (X0_0 m c t) (X0_1 m c t) (iblk m c 2 t) (iblk m c 3 t) (iblk m c 4 t) (iblk m c 5 t) (iblk m c 6 t) (iblk m c 7 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) (X0_0 m c t) (X0_1 m c t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (X0_0 m c t) (X0_1 m c t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- What holds between two points: the kept buffers as the point before left them. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d) ∗ (∃ d, owns (c : Thread nD τ) scM0_3 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-- The blocks before and after every point. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body, at every point, leaves what `outsAt0` says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 256 := lt_of_lt_of_eq t.isLt (show cfg0.N = 256 from N_0)
  by_cases h0 : t.val % 4 = 0
  · by_cases hz : t.val = 0
    · rw [PhiS_castSucc m c t, PhiS_zero m c _ _ hz, PhiA0_eq]
      rw [outsAt0_A m c t h0]
      unfold out0_A_8 out0_A_9 sout0_A_0 sout0_A_1; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (X0_0 m c t) (X0_1 m c t) (iblk m c 2 t) (iblk m c 3 t) (iblk m c 4 t) (iblk m c 5 t) (iblk m c 6 t) (iblk m c 7 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%e9, H9⟩, ⟨%es0, HS0⟩, ⟨%es1, HS1⟩, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _)
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_8 out0_A_9 sout0_A_0 sout0_A_1; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ _ _ _ _ _ _ ((hcond0_0 t).mpr h0) (X0_0 m c t) (X0_1 m c t) (iblk m c 2 t) (iblk m c 3 t) (iblk m c 4 t) (iblk m c 5 t) (iblk m c 6 t) (iblk m c 7 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexists _; iexact HS0
      isplitl [HS1]; · iexists _; iexact HS1
      isplitl [HS2]; · iexact HS2
      isplitl [HS3]; · iexact HS3
      iintro ⟨H0, H1, H2, H3, H4, H5, H6, H7, ⟨%e8, H8⟩, ⟨%e9, H9⟩, ⟨%es0, HS0⟩, ⟨%es1, HS1⟩, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _)
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _)
  · by_cases hz : t.val = 0
    · exfalso; have hN : t.val < 256 := lt_of_lt_of_eq t.isLt (show cfg0.N = 256 from N_0); omega
    · rw [PhiS_castSucc m c t, PhiS_pos m c _ _ hz]
      rw [outsAt0_B m c t h0]
      unfold out0_B_8 out0_B_9 sout0_B_0 sout0_B_1; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ _ _ _ _ _ _ (fun h => h0 ((hcond0_0 t).mp h)) (X0_0 m c t) (X0_1 m c t) (iblk m c 2 t) (iblk m c 3 t) (iblk m c 4 t) (iblk m c 5 t) (iblk m c 6 t) (iblk m c 7 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%e9, H9⟩, ⟨%es0, HS0⟩, ⟨%es1, HS1⟩, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _ _ _ _)
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

theorem hout (c : Dev nD) : (dats m 0 c).Φ (Fin.last cfg0.N) ⊢ Pipeline.ΦA spec0 c :=
  Phi_out m c _ (by rw [Fin.val_last]; have : cfg0.N = 256 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments stay as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.LruPrompt.Ideal

end

end
-- ==== Proof.LruPromptLoop.lean ====
module

public import proofs.«01_k».proof.Proof.Gen.Kernel8Ideal.Loops
public import Idealize.ShloMosaic.Lib.Pipeline.ValueKit
public import Idealize.ShloMosaic.Lib.Pointwise
public import Idealize.ShloMosaic.Lib.WritesUnit

@[expose] public section

noncomputable section

open Idealize.ShloMosaic Idealize.ShloMosaic.TcCoe Idealize.SL.Sem
open scoped NNReal

/-! # The recurrence inside a block

The kernel goes through 512 rows eight at a time. Inside a group it doubles: after passes over 1, 2 and 4 rows every row holds
the recurrence from the group's first row on, and the carried row joins last. With nonnegative finite factors that is the row-by-row
recurrence. -/

namespace Cert.LruPrompt

open Cert.Kernel8Ideal Cert.Kernel8Ideal.Gen

/-- A nonnegative finite factor distributes. -/
theorem dist (α : ℝ≥0) (x y : EReal) : ((α : ℝ) : EReal) * (x + y) = ((α : ℝ) : EReal) * x + ((α : ℝ) : EReal) * y :=
  EReal.left_distrib_of_nonneg_of_ne_top (by exact_mod_cast α.2) (EReal.coe_ne_top _) x y

/-- The recurrence `h ↦ a h + b` from `h`, row by row. -/
def scan (a : ℕ → ℝ≥0) (b : ℕ → EReal) (h : EReal) : ℕ → EReal
  | 0 => h
  | n + 1 => ((a n : ℝ) : EReal) * scan a b h n + b n

theorem scan_add (a : ℕ → ℝ≥0) (b : ℕ → EReal) (h : EReal) (k n : ℕ) :
    scan (fun i => a (k + i)) (fun i => b (k + i)) (scan a b h k) n = scan a b h (k + n) := by
  induction n with
  | zero => rfl
  | succ n ih => exact congrArg (fun z => ((a (k + n) : ℝ) : EReal) * z + b (k + n)) ih

theorem sel_true {c : BitVec 1} (h : c = 1#1) {β : Type} (p q : β) : Scalar.select c p q = p := by subst h; rfl
theorem sel_false {c : BitVec 1} (h : c = 0#1) {β : Type} (p q : β) : Scalar.select c p q = q := by subst h; rfl

/-- The doubling of one group is the recurrence. -/
theorem pay14_at (h a b : Vec Ideal S8x256 .f32) (α : ℕ → ℝ≥0) (β : ℕ → EReal) (η : EReal) (l : Fin 256) (hh : ∀ r : Fin 8, h (ix2 r l) = η)
    (ha : ∀ r : Fin 8, a (ix2 r l) = ((α r.val : ℝ) : EReal)) (hb : ∀ r : Fin 8, b (ix2 r l) = β r.val) (r : Fin 8) :
    k0_pay14 (F := Ideal) h a b (ix2 r l) = scan α β η (r.val + 1) := by
  fin_cases r <;> pointwise [k0_pay14] <;>
    simp (decide := true) only [sel_true, sel_false, hh 0, hh 1, hh 2, hh 3, hh 4, hh 5, hh 6, hh 7, ha 0, ha 1, ha 2, ha 3, ha 4, ha 5, ha 6, ha 7, hb 0, hb 1, hb 2, hb 3, hb 4, hb 5, hb 6, hb 7, scan, dist, mul_assoc, add_assoc] <;> rfl

theorem pay15_at (h a b : Vec Ideal S8x256 .f32) (r : Fin 8) (l : Fin 256) :
    k0_pay15 (F := Ideal) h a b (ix2 r l) = k0_pay14 (F := Ideal) h a b (ix2 r l) := by
  pointwise [k0_pay15]

theorem pay16_at (h a b : Vec Ideal S8x256 .f32) (r : Fin 8) (l : Fin 256) :
    k0_pay16 (F := Ideal) h a b (ix2 r l) = k0_pay14 (F := Ideal) h a b (ix2 7 l) := by
  pointwise [k0_pay16]

/-! ## The loop -/

theorem off1_at : ∀ k : Fin k0_t1_loop.trips, k0_off1 k = ![8 * k.val, 0] := by
  decide +kernel

theorem trips_eq : k0_t1_loop.trips = 64 := by decide +kernel

abbrev rG (k : Fin k0_t1_loop.trips) : Rect S512x256 := Rect.unit (s := S512x256) (k0_off1 k) S8x256.size (k0_off1_inb k)

theorem rG_at (k : Fin k0_t1_loop.trips) (r : Fin 8) (l : Fin 256) : (rG k).idx (ix2 r l : S8x256.Idx)
    = (ix2 ⟨8 * k.val + r.val, by have := k.isLt; have := trips_eq; omega⟩ l : S512x256.Idx) := by
  refine funext fun ax => Fin.ext ?_
  refine (show ((rG k).idx (ix2 r l : S8x256.Idx) ax).val = k0_off1 k ax + ((ix2 r l : S8x256.Idx) ax).val by
    show k0_off1 k ax + 1 * _ = _
    rw [Nat.one_mul]).trans ((congrArg (· + _) (congrFun (off1_at k) ax)).trans ?_)
  fin_cases ax <;> simp

section Loop

variable (𝒱 : Variants) (c : Dev nD) (bd : Option 𝒱.V) (i : grid0.Coords) (arg3 : Memref sig .tc .vmem S512x256 .f32) (harg3 : arg3.IsWhole) (arg4 : Memref sig .tc .vmem S512x256 .f32) (harg4 : arg4.IsWhole) (arg5 : Memref sig .tc .vmem S4x256 .f32) (harg5 : arg5.IsWhole) (arg6 : Memref sig .tc .vmem S1x256 .f32) (harg6 : arg6.IsWhole) (arg7 : Memref sig .tc .vmem S1x256x512 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S512x256 .bf16) (harg11 : arg11.IsWhole) (arg12 : Memref sig .tc .vmem S1x1x256 .f32) (harg12 : arg12.IsWhole) (arg13 : Memref sig .tc .vmem S8x256 .f32) (harg13 : arg13.IsWhole) (arg14 : Memref sig .tc .vmem S8x256 .f32) (harg14 : arg14.IsWhole) (arg15 : Memref sig .tc .vmem S512x256 .f32) (harg15 : arg15.IsWhole) (arg16 : Memref sig .tc .vmem S512x256 .f32) (harg16 : arg16.IsWhole) (v29 : FVec Ideal S512x256 .f32) (v61 : FVec Ideal S512x256 .f32) (v78 : FVec Ideal S512x256 .f32) (v81 : FVec Ideal S512x256 .f32)
  (X_arg15 : BufTy.Contents (Elt Ideal) arg15.view.ty)

theorem trip_carry (k : Fin k0_t1_loop.trips) (acc : Vec Ideal S8x256 .f32) (f : BufTy.Contents (Elt Ideal) arg16.view.ty) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 k).1 acc f
      = k0_pay16 acc (View.ld (arg15.view.read (Elt Ideal) X_arg15) (rG k)) (View.ld (arg16.view.read (Elt Ideal) f) (rG k)) := by
  unfold trip_k0_t1
  rfl

theorem trip_rows (k : Fin k0_t1_loop.trips) (acc : Vec Ideal S8x256 .f32) (f : BufTy.Contents (Elt Ideal) arg16.view.ty) :
    (trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 k).2.1 acc f
      = [⟨rG k, k0_pay15 acc (View.ld (arg15.view.read (Elt Ideal) X_arg15) (rG k)) (View.ld (arg16.view.read (Elt Ideal) f) (rG k))⟩] := by
  unfold trip_k0_t1
  rfl

/-- Before group `n`: the carry holds the recurrence after `8n` rows, and so do the rows below. -/
theorem loop_at (G : BufTy.Contents (Elt Ideal) arg16.view.ty) (init : Vec Ideal S8x256 .f32) (α : Fin 256 → ℕ → ℝ≥0) (β : Fin 256 → ℕ → EReal)
    (η : Fin 256 → EReal) (ha : ∀ (r : Fin 512) (l : Fin 256), arg15.view.read (Elt Ideal) X_arg15 (ix2 r l) = ((α l r.val : ℝ) : EReal))
    (hb : ∀ (r : Fin 512) (l : Fin 256), arg16.view.read (Elt Ideal) G (ix2 r l) = β l r.val) (hi : ∀ (r : Fin 8) (l : Fin 256), init (ix2 r l) = η l) :
    ∀ n : ℕ, n ≤ k0_t1_loop.trips →
      (∀ (r : Fin 8) (l : Fin 256), (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 G init n).1 (ix2 r l) = scan (α l) (β l) (η l) (8 * n))
      ∧ ∀ (r : Fin 512) (l : Fin 256), arg16.view.read (Elt Ideal) (arg16.view.writes (Elt Ideal) G (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 G init n).2) (ix2 r l)
          = if r.val < 8 * n then scan (α l) (β l) (η l) (r.val + 1) else β l r.val := by
  intro n
  induction n with
  | zero =>
    intro _
    refine ⟨fun r l => hi r l, fun r l => ?_⟩
    rw [if_neg (by omega)]
    exact hb r l
  | succ n ih =>
    intro hn
    obtain ⟨ih1, ih2⟩ := ih (Nat.le_of_lt hn)
    have hn' : n < 64 := trips_eq ▸ hn
    have hA : ∀ (r : Fin 8) (l : Fin 256), View.ld (arg15.view.read (Elt Ideal) X_arg15) (rG ⟨n, hn⟩) (ix2 r l) = ((α l (8 * n + r.val) : ℝ) : EReal) :=
      fun r l => (congrArg (arg15.view.read (Elt Ideal) X_arg15) (rG_at ⟨n, hn⟩ r l)).trans (ha _ l)
    have hB : ∀ (r : Fin 8) (l : Fin 256), View.ld (arg16.view.read (Elt Ideal) (arg16.view.writes (Elt Ideal) G (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 G init n).2))
        (rG ⟨n, hn⟩) (ix2 r l) = β l (8 * n + r.val) :=
      fun r l => (congrArg (arg16.view.read (Elt Ideal) _) (rG_at ⟨n, hn⟩ r l)).trans ((ih2 _ l).trans (if_neg (by simp only; omega)))
    have key : ∀ (r : Fin 8) (l : Fin 256), k0_pay14 (F := Ideal) (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 G init n).1
        (View.ld (arg15.view.read (Elt Ideal) X_arg15) (rG ⟨n, hn⟩))
        (View.ld (arg16.view.read (Elt Ideal) (arg16.view.writes (Elt Ideal) G (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 G init n).2)) (rG ⟨n, hn⟩)) (ix2 r l)
          = scan (α l) (β l) (η l) (8 * n + (r.val + 1)) :=
      fun r l => (pay14_at _ _ _ (fun i => α l (8 * n + i)) (fun i => β l (8 * n + i)) _ l (fun r => ih1 r l) (fun r => hA r l) (fun r => hB r l) r).trans
        (scan_add _ _ _ _ _)
    have hs := st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 G init ⟨n, hn⟩
    refine ⟨fun r l => ?_, fun r l => ?_⟩
    · refine (congrFun (congrArg Prod.fst hs) _).trans ((congrFun (trip_carry 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 ⟨n, hn⟩ _ _) _).trans ?_)
      exact (pay16_at _ _ _ r l).trans (key 7 l)
    · refine (congrArg (fun L => arg16.view.read (Elt Ideal) (arg16.view.writes (Elt Ideal) G L) (ix2 r l))
        ((congrArg Prod.snd hs).trans (congrArg (· ++ _) (trip_rows 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 ⟨n, hn⟩ _ _)))).trans ?_
      rw [List.singleton_append]
      by_cases h : 8 * n ≤ r.val ∧ r.val < 8 * (n + 1)
      · rw [if_pos h.2]
        refine (View.read_writes_cons_unit_of_mem arg16.view G (k0_off1_inb ⟨n, hn⟩) _ _ (ix2 r l) (ix2 ⟨r.val - 8 * n, by omega⟩ l : S8x256.Idx) (off1_at ⟨n, hn⟩)
          (fun ax => by fin_cases ax <;> simp <;> omega)).trans ?_
        refine (pay15_at _ _ _ _ l).trans ((key _ l).trans (congrArg _ ?_))
        simp only
        omega
      · refine (View.read_writes_cons_unit_of_not_mem arg16.view G (k0_off1_inb ⟨n, hn⟩) _ _ (ix2 r l) (off1_at ⟨n, hn⟩) 0 (by simp; omega)).trans ((ih2 r l).trans ?_)
        by_cases h' : r.val < 8 * n
        · rw [if_pos h', if_pos (by omega)]
        · rw [if_neg h', if_neg (by omega)]

/-- After the loop every row holds the recurrence, and the carry its end. -/
theorem loop_carry (G : BufTy.Contents (Elt Ideal) arg16.view.ty) (init : Vec Ideal S8x256 .f32) (α : Fin 256 → ℕ → ℝ≥0) (β : Fin 256 → ℕ → EReal)
    (η : Fin 256 → EReal) (ha : ∀ (r : Fin 512) (l : Fin 256), arg15.view.read (Elt Ideal) X_arg15 (ix2 r l) = ((α l r.val : ℝ) : EReal))
    (hb : ∀ (r : Fin 512) (l : Fin 256), arg16.view.read (Elt Ideal) G (ix2 r l) = β l r.val) (hi : ∀ (r : Fin 8) (l : Fin 256), init (ix2 r l) = η l)
    (r : Fin 8) (l : Fin 256) : (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 G init k0_t1_loop.trips).1 (ix2 r l) = scan (α l) (β l) (η l) 512 :=
  ((loop_at 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 G init α β η ha hb hi _ le_rfl).1 r l).trans (by rw [trips_eq])

theorem loop_rows (G : BufTy.Contents (Elt Ideal) arg16.view.ty) (init : Vec Ideal S8x256 .f32) (α : Fin 256 → ℕ → ℝ≥0) (β : Fin 256 → ℕ → EReal)
    (η : Fin 256 → EReal) (ha : ∀ (r : Fin 512) (l : Fin 256), arg15.view.read (Elt Ideal) X_arg15 (ix2 r l) = ((α l r.val : ℝ) : EReal))
    (hb : ∀ (r : Fin 512) (l : Fin 256), arg16.view.read (Elt Ideal) G (ix2 r l) = β l r.val) (hi : ∀ (r : Fin 8) (l : Fin 256), init (ix2 r l) = η l)
    (r : Fin 512) (l : Fin 256) :
    arg16.view.read (Elt Ideal) (arg16.view.writes (Elt Ideal) G (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 G init k0_t1_loop.trips).2) (ix2 r l)
      = scan (α l) (β l) (η l) (r.val + 1) :=
  ((loop_at 𝒱 c bd i arg3 harg3 arg4 harg4 arg5 harg5 arg6 harg6 arg7 harg7 arg8 harg8 arg9 harg9 arg10 harg10 arg11 harg11 arg12 harg12 arg13 harg13 arg14 harg14 arg15 harg15 arg16 harg16 v29 v61 v78 v81 X_arg15 G init α β η ha hb hi _ le_rfl).2 r l).trans (if_pos (by rw [trips_eq]; omega))

end Loop

end Cert.LruPrompt

end
-- ==== Proof.LruPromptBody.lean ====
module

public import proofs.«01_k».proof.Proof.LruPromptRunIdeal
public import proofs.«01_k».proof.Proof.LruPromptLoop
public import proofs.«01_k».proof.Proof.Scalars

@[expose] public section

noncomputable section

open Idealize.ShloMosaic Idealize.ShloMosaic.TcCoe Idealize.SL.Sem
open scoped NNReal

/-! # One block of rows: what the kernel's body leaves, from its blocks and the state it finds -/

namespace Cert.LruPrompt

open Cert.Kernel8Ideal Cert.Kernel8Ideal.Gen Cert.LruPrompt.Ideal Cert.Scalars

abbrev rX : Rect S512x256 := Rect.unit (s := S512x256) ![0, 0] ![512, 256] inb_S512x256_S512x256_0_0
abbrev rH : Rect S8x256 := Rect.unit (s := S8x256) ![0, 0] ![8, 256] inb_S8x256_S8x256_0_0

/-- A load of a whole buffer is the buffer. -/
theorem ld_x (v : Vec Ideal S512x256 .f32) : View.ld v rX = v :=
  funext fun y => congrArg v (funext fun ax => Fin.ext (by fin_cases ax <;> simp [rX]))
theorem ld_h (v : Vec Ideal S8x256 .f32) : View.ld v rH = v :=
  funext fun y => congrArg v (funext fun ax => Fin.ext (by fin_cases ax <;> simp [rH]))
theorem ld_cw (v : Vec Ideal S4x256 .f32) : View.ld v (Rect.unit (s := S4x256) ![0, 0] ![4, 256] inb_S4x256_S4x256_0_0) = v :=
  funext fun y => congrArg v (funext fun ax => Fin.ext (by fin_cases ax <;> simp))
theorem ld_row (v : Vec Ideal S1x256 .f32) : View.ld v (Rect.unit (s := S1x256) ![0, 0] ![1, 256] inb_S1x256_S1x256_0_0) = v :=
  funext fun y => congrArg v (funext fun ax => Fin.ext (by fin_cases ax <;> simp))
theorem ld_wg (v : Vec Ideal S1x256x512 .bf16) :
    View.ld v (Rect.unit (s := S1x256x512) ![0, 0, 0] ![1, 256, 512] inb_S1x256x512_S1x256x512_0_0_0) = v :=
  funext fun y => congrArg v (funext fun ax => Fin.ext (by fin_cases ax <;> simp))

/-- A buffer filled by one store reads as what was stored. -/
theorem read_x {ε : EltTy} (v : View sig .tc .vmem S512x256 ε) (f : v.ty.Contents (Elt Ideal)) (w : S512x256.Idx → Elt Ideal ε) (y : S512x256.Idx) :
    v.read (Elt Ideal) (v.writes (Elt Ideal) f [⟨rX, w⟩]) y = w y :=
  View.read_writes_cons_unit_of_mem v f _ w [] y y rfl fun ax => by fin_cases ax <;> simp
theorem read_h (v : View sig .tc .vmem S8x256 .f32) (f : v.ty.Contents (Elt Ideal)) (w : S8x256.Idx → EReal) (L : List (View.Piece (Elt Ideal) S8x256 .f32))
    (y : S8x256.Idx) : v.read (Elt Ideal) (v.writes (Elt Ideal) f (⟨rH, w⟩ :: L)) y = w y :=
  View.read_writes_cons_unit_of_mem v f _ w L y y rfl fun ax => by fin_cases ax <;> simp
theorem read_l (v : View sig .tc .vmem S1x1x256 .f32) (f : v.ty.Contents (Elt Ideal)) (w : S1x1x256.Idx → EReal) (y : S1x1x256.Idx) :
    v.read (Elt Ideal) (v.writes (Elt Ideal) f [⟨Rect.unit (s := S1x1x256) ![0, 0, 0] ![1, 1, 256] inb_S1x1x256_S1x1x256_0_0_0, w⟩]) y = w y :=
  View.read_writes_cons_unit_of_mem v f _ w [] y y rfl fun ax => by fin_cases ax <;> simp
theorem cov_h (v : View sig .tc .vmem S8x256 .f32) (w : S8x256.Idx → EReal) : v.readCov (Val := Elt Ideal) [⟨rH, w⟩] rH.toLoadRect = w :=
  funext fun y => (congrArg (v.read (Elt Ideal) _) (funext fun ax => Fin.ext (by fin_cases ax <;> simp [rH]))).trans (read_h v v.junk w [] y)

theorem pay12_at (a : Vec Ideal S512x256 .f32) (y : S512x256.Idx) : k0_pay12 (F := Ideal) a y = a y := by
  pointwise [k0_pay12]
theorem pay17_at (h : Vec Ideal S8x256 .f32) (y : S8x256.Idx) : k0_pay17 (F := Ideal) h y = h y := by
  pointwise [k0_pay17]
theorem pay18_at (h : Vec Ideal S8x256 .f32) (l : Fin 256) : k0_pay18 (F := Ideal) h (ix3 0 0 l) = h (ix2 0 l) := by
  pointwise [k0_pay18]
theorem pay5_at (x : Vec Ideal S512x256 .f32) (r : Fin 8) (l : Fin 256) : k0_pay5 (F := Ideal) x (ix2 r l) = x (ix2 ⟨504 + r.val, by omega⟩ l) := by
  pointwise [k0_pay5]
theorem pay1_at (h y : Vec Ideal S512x256 .f32) (i : S512x256.Idx) :
    k0_pay1 (F := Ideal) h (k0_pay19 (F := Ideal) y) (k0_pay20 (F := Ideal) y) (k0_pay21 (F := Ideal)) i = h i * gelu (y i) := by
  pointwise [k0_pay1, k0_pay19, k0_pay20, k0_pay21]
  rw [gelu_half]

section Body

variable (c : Dev nD)
  (i : grid0.Coords)
  (arg3 : Memref sig .tc .vmem S512x256 .f32) (harg3 : arg3.IsWhole)
  (arg4 : Memref sig .tc .vmem S512x256 .f32) (harg4 : arg4.IsWhole)
  (arg5 : Memref sig .tc .vmem S4x256 .f32) (harg5 : arg5.IsWhole)
  (arg6 : Memref sig .tc .vmem S1x256 .f32) (harg6 : arg6.IsWhole)
  (arg7 : Memref sig .tc .vmem S1x256x512 .bf16) (harg7 : arg7.IsWhole)
  (arg8 : Memref sig .tc .vmem S1x256 .f32) (harg8 : arg8.IsWhole)
  (arg9 : Memref sig .tc .vmem S1x256 .f32) (harg9 : arg9.IsWhole)
  (arg10 : Memref sig .tc .vmem S1x256 .f32) (harg10 : arg10.IsWhole)
  (arg11 : Memref sig .tc .vmem S512x256 .bf16) (harg11 : arg11.IsWhole)
  (arg12 : Memref sig .tc .vmem S1x1x256 .f32) (harg12 : arg12.IsWhole)
  (arg13 : Memref sig .tc .vmem S8x256 .f32) (harg13 : arg13.IsWhole)
  (arg14 : Memref sig .tc .vmem S8x256 .f32) (harg14 : arg14.IsWhole)
  (arg15 : Memref sig .tc .vmem S512x256 .f32) (harg15 : arg15.IsWhole)
  (arg16 : Memref sig .tc .vmem S512x256 .f32) (harg16 : arg16.IsWhole)
  (x0 : Vec Ideal S512x256 .f32) (x1 : Vec Ideal S512x256 .f32) (x2 : Vec Ideal S4x256 .f32) (x3 : Vec Ideal S1x256 .f32) (x4 : Vec Ideal S1x256x512 .bf16) (x5 : Vec Ideal S1x256 .f32) (x6 : Vec Ideal S1x256 .f32) (x7 : Vec Ideal S1x256 .f32) (xs0 : Vec Ideal S8x256 .f32) (xs1 : Vec Ideal S8x256 .f32)

/-- The block's decay factors and inputs, its convolution starting from the rows `p`. -/
def Coeffs (p : Vec Ideal S8x256 .f32) (α : Fin 256 → ℕ → ℝ≥0) (β : Fin 256 → ℕ → EReal) : Prop :=
  (∀ (r : Fin 512) (l : Fin 256), k0_pay10 (F := Ideal) (k0_pay7 (F := Ideal) x0 p x2 x3 x4) x5 x7 (ix2 r l) = ((α l r.val : ℝ) : EReal))
  ∧ ∀ (r : Fin 512) (l : Fin 256), k0_pay13 (F := Ideal) (k0_pay4 (F := Ideal) x0 p x2 x3) (k0_pay8 (F := Ideal) (k0_pay6 (F := Ideal) x0 p x2 x3 x4) x6)
      (k0_pay10 (F := Ideal) (k0_pay7 (F := Ideal) x0 p x2 x3 x4) x5 x7) (k0_pay11 (F := Ideal) (k0_pay7 (F := Ideal) x0 p x2 x3 x4) x5 x7) (ix2 r l) = β l r.val

variable (α : Fin 256 → ℕ → ℝ≥0) (β : Fin 256 → ℕ → EReal) (η : Fin 256 → EReal)

section Later

variable (hc : ¬cond0_0 i) (h : Coeffs x0 x2 x3 x4 x5 x6 x7 xs0 α β) (hη : ∀ (r : Fin 8) (l : Fin 256), xs1 (ix2 r l) = η l)
include h hη

theorem later_out (r : Fin 512) (l : Fin 256) : out0_B_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs0 xs1 (ix2 r l)
    = scan (α l) (β l) (η l) (r.val + 1) * gelu (x1 (ix2 r l)) := by
  unfold out0_B_8 kernelRun0_B
  dsimp only
  sl_unfold_words
  simp only [View.readAt_eq_ld, Memref.IsWhole.read_unread, ld_x, ld_h, ld_cw, ld_row, ld_wg]
  refine (read_x VO0_8 _ _ _).trans ((pay1_at _ _ _).trans (congrArg (· * _) ?_))
  refine (congrArg (fun f => View.ld (arg16.view.read (Elt Ideal) f) rX (ix2 r l)) (View.writes_append ..)).trans ?_
  rw [ld_x]
  exact loop_rows _ _ _ _ _ _ _ _ _ _ _ _ _ _ _ _ _ _ _ _ _ _ _ _ _ _ _ _ _ _ _ _ _ _ _ _ _ _ _ α β η
    (fun r l => (read_x _ _ _ _).trans ((pay12_at _ _).trans (h.1 r l))) (fun r l => (read_x _ _ _ _).trans (h.2 r l)) hη r l

theorem later_last (l : Fin 256) : out0_B_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs0 xs1 (ix3 0 0 l)
    = scan (α l) (β l) (η l) 512 := by
  unfold out0_B_9 kernelRun0_B
  dsimp only
  sl_unfold_words
  simp only [View.readAt_eq_ld, Memref.IsWhole.read_unread, ld_x, ld_h, ld_cw, ld_row, ld_wg]
  refine (read_l VO0_9 _ _ _).trans ((pay18_at _ l).trans ?_)
  exact loop_carry _ _ _ _ _ _ _ _ _ _ _ _ _ _ _ _ _ _ _ _ _ _ _ _ _ _ _ _ _ _ _ _ _ _ _ _ _ _ _ α β η
    (fun r l => (read_x _ _ _ _).trans ((pay12_at _ _).trans (h.1 r l))) (fun r l => (read_x _ _ _ _).trans (h.2 r l)) hη 0 l

theorem later_state (r : Fin 8) (l : Fin 256) : sout0_B_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs0 xs1 (ix2 r l)
    = scan (α l) (β l) (η l) 512 := by
  unfold sout0_B_1 kernelRun0_B
  dsimp only
  sl_unfold_words
  simp only [View.readAt_eq_ld, Memref.IsWhole.read_unread, ld_x, ld_h, ld_cw, ld_row, ld_wg]
  refine (read_h VS0_1 _ _ _ _).trans ((pay17_at _ _).trans ?_)
  exact loop_carry _ _ _ _ _ _ _ _ _ _ _ _ _ _ _ _ _ _ _ _ _ _ _ _ _ _ _ _ _ _ _ _ _ _ _ _ _ _ _ α β η
    (fun r l => (read_x _ _ _ _).trans ((pay12_at _ _).trans (h.1 r l))) (fun r l => (read_x _ _ _ _).trans (h.2 r l)) hη r l

omit h hη in
theorem later_rows (r : Fin 8) (l : Fin 256) : sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 xs0 xs1 (ix2 r l)
    = x0 (ix2 ⟨504 + r.val, by omega⟩ l) := by
  unfold sout0_B_0 kernelRun0_B
  dsimp only
  sl_unfold_words
  simp only [View.readAt_eq_ld, Memref.IsWhole.read_unread, ld_x]
  exact (read_h VS0_0 _ _ _ _).trans (pay5_at _ r l)

end Later

section First

variable (hc : cond0_0 i) (h : Coeffs x0 x2 x3 x4 x5 x6 x7 (fun _ => 0) α β)

theorem pay2_zero : k0_pay2 (F := Ideal) = fun _ => (0 : EReal) := by
  funext y
  pointwise [k0_pay2]
theorem pay3_zero : k0_pay3 (F := Ideal) = fun _ => (0 : EReal) := by
  funext y
  pointwise [k0_pay3]

include h

theorem first_out (r : Fin 512) (l : Fin 256) : out0_A_8 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 (ix2 r l)
    = scan (α l) (β l) 0 (r.val + 1) * gelu (x1 (ix2 r l)) := by
  unfold out0_A_8 kernelRun0_A
  dsimp only
  sl_unfold_words
  simp only [View.readAt_eq_ld, Memref.IsWhole.read_unread, ld_x, ld_cw, ld_row, ld_wg, cov_h, pay2_zero, pay3_zero]
  refine (read_x VO0_8 _ _ _).trans ((pay1_at _ _ _).trans (congrArg (· * _) ?_))
  refine (congrArg (fun f => View.ld (arg16.view.read (Elt Ideal) f) rX (ix2 r l)) (View.writes_append ..)).trans ?_
  rw [ld_x]
  exact loop_rows _ _ _ _ _ _ _ _ _ _ _ _ _ _ _ _ _ _ _ _ _ _ _ _ _ _ _ _ _ _ _ _ _ _ _ _ _ _ _ α β (fun _ => 0)
    (fun r l => (read_x _ _ _ _).trans ((pay12_at _ _).trans (h.1 r l))) (fun r l => (read_x _ _ _ _).trans (h.2 r l)) (fun _ _ => rfl) r l

theorem first_last (l : Fin 256) : out0_A_9 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 (ix3 0 0 l) = scan (α l) (β l) 0 512 := by
  unfold out0_A_9 kernelRun0_A
  dsimp only
  sl_unfold_words
  simp only [View.readAt_eq_ld, Memref.IsWhole.read_unread, ld_x, ld_cw, ld_row, ld_wg, cov_h, pay2_zero, pay3_zero]
  refine (read_l VO0_9 _ _ _).trans ((pay18_at _ l).trans ?_)
  exact loop_carry _ _ _ _ _ _ _ _ _ _ _ _ _ _ _ _ _ _ _ _ _ _ _ _ _ _ _ _ _ _ _ _ _ _ _ _ _ _ _ α β (fun _ => 0)
    (fun r l => (read_x _ _ _ _).trans ((pay12_at _ _).trans (h.1 r l))) (fun r l => (read_x _ _ _ _).trans (h.2 r l)) (fun _ _ => rfl) 0 l

theorem first_state (r : Fin 8) (l : Fin 256) : sout0_A_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 (ix2 r l) = scan (α l) (β l) 0 512 := by
  unfold sout0_A_1 kernelRun0_A
  dsimp only
  sl_unfold_words
  simp only [View.readAt_eq_ld, Memref.IsWhole.read_unread, ld_x, ld_cw, ld_row, ld_wg, cov_h, pay2_zero, pay3_zero]
  refine (read_h VS0_1 _ _ _ _).trans ((pay17_at _ _).trans ?_)
  exact loop_carry _ _ _ _ _ _ _ _ _ _ _ _ _ _ _ _ _ _ _ _ _ _ _ _ _ _ _ _ _ _ _ _ _ _ _ _ _ _ _ α β (fun _ => 0)
    (fun r l => (read_x _ _ _ _).trans ((pay12_at _ _).trans (h.1 r l))) (fun r l => (read_x _ _ _ _).trans (h.2 r l)) (fun _ _ => rfl) r l

omit h in
theorem first_rows (r : Fin 8) (l : Fin 256) : sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 hc x0 x1 x2 x3 x4 x5 x6 x7 (ix2 r l)
    = x0 (ix2 ⟨504 + r.val, by omega⟩ l) := by
  unfold sout0_A_0 kernelRun0_A
  dsimp only
  sl_unfold_words
  simp only [View.readAt_eq_ld, Memref.IsWhole.read_unread, ld_x]
  exact (read_h VS0_0 _ _ _ _).trans (pay5_at _ r l)

end First

end Body

end Cert.LruPrompt

end
-- ==== Proof.LruPromptSpec.lean ====
module

public import proofs.«01_k».proof.Proof.LruPromptBody

@[expose] public section

noncomputable section

open Idealize.ShloMosaic Idealize.ShloMosaic.TcCoe Idealize.SL.Sem
open Idealize.ShloMosaic.Pipeline (Dat)
open scoped NNReal

/-! # The gated linear recurrence over the four prompts, as a formula -/

namespace Cert.LruPrompt

open Cert.Kernel8Ideal Cert.Scalars

section Spec

variable (x : S8320x8192.Idx → EReal) (cw : S4x4096.Idx → EReal) (cb : S4096.Idx → EReal) (wg : S16x256x512.Idx → EReal)
  (bg : S8192.Idx → EReal) (lam : S4096.Idx → EReal)

/-- The rows of prompt `b` with three zero rows in front. -/
def inp (b : Fin 4) (t : ℕ) (n : Fin 4096) : EReal :=
  if h : 3 ≤ t ∧ t < 2051 then x (ix2 ⟨b.val * 2048 + (t - 3), by omega⟩ ⟨n.val, by omega⟩) else 0

/-- The convolved input: four successive rows, each under its tap, and the bias. -/
def conv (b : Fin 4) (t : ℕ) (n : Fin 4096) : EReal :=
  inp x b t n * cw (ix2 0 n) + inp x b (t + 1) n * cw (ix2 1 n) + inp x b (t + 2) n * cw (ix2 2 n) + inp x b (t + 3) n * cw (ix2 3 n)
    + cb (ix1 n)

/-- Column `o` of gate block `q`. -/
def gate (b : Fin 4) (t : ℕ) (q : Fin 16) (o : Fin 512) : EReal :=
  ∑ k : Fin 256, conv x cw cb b t ⟨q.val * 256 + k.val, by omega⟩ * wg (ix3 q k o)

/-- Channel `l` of block `q`: its log decay at a row, -/
def decay (b : Fin 4) (t : ℕ) (q : Fin 16) (l : Fin 256) : EReal :=
  logDecay (gate x cw cb wg b t q ⟨l.val, by omega⟩ + bg (ix1 ⟨q.val * 256 + l.val, by omega⟩)) (lam (ix1 ⟨q.val * 256 + l.val, by omega⟩))

/-- its input gate, -/
def inGate (b : Fin 4) (t : ℕ) (q : Fin 16) (l : Fin 256) : EReal :=
  sigm (gate x cw cb wg b t q ⟨256 + l.val, by omega⟩ + bg (ix1 ⟨4096 + (q.val * 256 + l.val), by omega⟩))

/-- the input the row adds, -/
def add (b : Fin 4) (q : Fin 16) (l : Fin 256) (t : ℕ) : EReal :=
  Ideal.sqrt (-(Ideal.expm1 (2 * decay x cw cb wg bg lam b t q l)))
    * (inGate x cw cb wg bg b t q l * conv x cw cb b t ⟨q.val * 256 + l.val, by omega⟩)

/-- the factor the row multiplies the state by, -/
def factor (b : Fin 4) (q : Fin 16) (l : Fin 256) (t : ℕ) : ℝ≥0 :=
  (exp_factor (gate x cw cb wg b t q ⟨l.val, by omega⟩ + bg (ix1 ⟨q.val * 256 + l.val, by omega⟩)) (lam (ix1 ⟨q.val * 256 + l.val, by omega⟩))).choose

theorem factor_eq (b : Fin 4) (q : Fin 16) (l : Fin 256) (t : ℕ) :
    Ideal.exp (decay x cw cb wg bg lam b t q l) = ((factor x cw cb wg bg lam b q l t : ℝ) : EReal) :=
  (exp_factor _ _).choose_spec

/-- and the state before row `t`: `h ↦ e^decay h + add` from zero. -/
def state (b : Fin 4) (q : Fin 16) (l : Fin 256) (t : ℕ) : EReal :=
  scan (factor x cw cb wg bg lam b q l) (add x cw cb wg bg lam b q l) 0 t

/-- The gated states, all rows of the four prompts, -/
def outs : S8192x4096.Idx → EReal := fun i =>
  state x cw cb wg bg lam ⟨(i 0).val / 2048, by idx_bounds i; omega⟩ ⟨(i 1).val / 256, by idx_bounds i; omega⟩ ⟨(i 1).val % 256, by omega⟩ ((i 0).val % 2048 + 1)
    * gelu (x (ix2 ⟨(i 0).val, by idx_bounds i; omega⟩ ⟨4096 + (i 1).val, by idx_bounds i; omega⟩))

/-- and the states after the last rows. -/
def lasts : S4x1x4096.Idx → EReal := fun i =>
  state x cw cb wg bg lam (i 0) ⟨(i 2).val / 256, by idx_bounds i; omega⟩ ⟨(i 2).val % 256, by omega⟩ 2048

end Spec

end Cert.LruPrompt

end
-- ==== Proof.LruPromptPoints.lean ====
module

public import proofs.«01_k».proof.Proof.LruPromptSpec
public import Idealize.ShloMosaic.Lib.Pipeline.ValueKit
public import Idealize.ShloMosaic.Lib.Pointwise

@[expose] public section

noncomputable section

open Idealize.ShloMosaic Idealize.ShloMosaic.TcCoe Idealize.SL.Sem
open Idealize.ShloMosaic.Pipeline (Dat)
open scoped NNReal

/-! # The gated linear recurrence over the four prompts: what the kernel leaves

A grid point is one prompt, 256 channels and 512 rows; the four row blocks of a prompt follow one another and hand on the last
input rows and the state. -/

namespace Cert.LruPrompt

open Cert.Kernel8Ideal Cert.Kernel8Ideal.Gen Cert.LruPrompt.Ideal Cert.Scalars

/-! ## The blocks -/

variable (m : (ℓ : Loc nD τ sig) → Buf (Elt Ideal) ℓ)

/-- The block indices of the windows at every grid point: point `t` is prompt `t / 64`, channels `t / 4 % 16`, rows `t % 4`. -/
theorem idx : ∀ t : Fin cfg0.N,
    win0_0.index t = ![t.val / 64 * 4 + t.val % 4, t.val / 4 % 16] ∧ win0_1.index t = ![t.val / 64 * 4 + t.val % 4, 16 + t.val / 4 % 16]
      ∧ win0_2.index t = ![0, t.val / 4 % 16] ∧ win0_3.index t = ![0, t.val / 4 % 16]
      ∧ win0_4.index t = ![t.val / 4 % 16, 0, 0] ∧ win0_5.index t = ![0, t.val / 4 % 16] ∧ win0_6.index t = ![0, 16 + t.val / 4 % 16]
      ∧ win0_7.index t = ![0, t.val / 4 % 16] ∧ win0_8.index t = ![t.val / 64 * 4 + t.val % 4, t.val / 4 % 16]
      ∧ win0_9.index t = ![t.val / 64, 0, t.val / 4 % 16] := by
  show ∀ t : Fin grid0.N, _
  decide +kernel

/-- The buffers the host fills before the region, read. -/
theorem entry_wg (c : Dev nD) (i : S16x256x512.Idx) : V m c main_v0 i = m ((c : Thread nD τ).loc main_arg3) i := by
  show StableHlo.after (List.flatten [hostOps0]) (fun b => m (c, b)) (Proc.devRef .tc main_v0) i = _
  simp only [List.flatten_cons, List.flatten_nil, List.append_nil]
  after_results
  pointwise

theorem entry_cb (c : Dev nD) (i : S1x4096.Idx) : V m c main_v1 i = m ((c : Thread nD τ).loc main_arg2) (ix1 (i 1)) := by
  show StableHlo.after (List.flatten [hostOps0]) (fun b => m (c, b)) (Proc.devRef .tc main_v1) i = _
  simp only [List.flatten_cons, List.flatten_nil, List.append_nil]
  after_results
  pointwise

theorem entry_br (c : Dev nD) (i : S1x8192.Idx) : V m c main_v2 i = m ((c : Thread nD τ).loc main_arg4) (ix1 (i 1)) := by
  show StableHlo.after (List.flatten [hostOps0]) (fun b => m (c, b)) (Proc.devRef .tc main_v2) i = _
  simp only [List.flatten_cons, List.flatten_nil, List.append_nil]
  after_results
  pointwise

theorem entry_bi (c : Dev nD) (i : S1x8192.Idx) : V m c main_v3 i = m ((c : Thread nD τ).loc main_arg4) (ix1 (i 1)) := by
  show StableHlo.after (List.flatten [hostOps0]) (fun b => m (c, b)) (Proc.devRef .tc main_v3) i = _
  simp only [List.flatten_cons, List.flatten_nil, List.append_nil]
  after_results
  pointwise

theorem entry_lam (c : Dev nD) (i : S1x4096.Idx) : V m c main_v4 i = m ((c : Thread nD τ).loc main_arg5) (ix1 (i 1)) := by
  show StableHlo.after (List.flatten [hostOps0]) (fun b => m (c, b)) (Proc.devRef .tc main_v4) i = _
  simp only [List.flatten_cons, List.flatten_nil, List.append_nil]
  after_results
  pointwise

section Blocks

variable (c : Dev nD) (t : Fin cfg0.N)

theorem lt256 (t : Fin cfg0.N) : t.val < 256 := lt_of_lt_of_eq t.isLt N_0

/-- A point's prompt and its channel block. -/
abbrev pr (t : Fin cfg0.N) : Fin 4 := ⟨t.val / 64, by have := lt256 t; omega⟩
abbrev ch (t : Fin cfg0.N) : Fin 16 := ⟨t.val / 4 % 16, by omega⟩

theorem blk_x (r : Fin 512) (l : Fin 256) : X0_0 m c t (ix2 r l : S512x256.Idx) = m ((c : Thread nD τ).loc main_arg0)
    (ix2 ⟨t.val / 64 * 2048 + (t.val % 4 * 512 + r.val), by have := lt256 t; omega⟩ ⟨t.val / 4 % 16 * 256 + l.val, by omega⟩) := by
  unfold X0_0 Pipeline.Window.fill
  rw [dif_pos (moved0_0 t _)]
  blk_ext [iblk, idx t]

theorem blk_y (r : Fin 512) (l : Fin 256) : X0_1 m c t (ix2 r l : S512x256.Idx) = m ((c : Thread nD τ).loc main_arg0)
    (ix2 ⟨t.val / 64 * 2048 + (t.val % 4 * 512 + r.val), by have := lt256 t; omega⟩ ⟨4096 + (t.val / 4 % 16 * 256 + l.val), by omega⟩) := by
  unfold X0_1 Pipeline.Window.fill
  rw [dif_pos (moved0_1 t _)]
  blk_ext [iblk, idx t]

theorem blk_cw (y : S4x256.Idx) : iblk m c 2 t y = m ((c : Thread nD τ).loc main_arg1)
    (ix2 (y 0) ⟨t.val / 4 % 16 * 256 + (y 1).val, by idx_bounds y; omega⟩) := by
  blk_ext [iblk, idx t]

theorem blk_cb (y : S1x256.Idx) : iblk m c 3 t y = m ((c : Thread nD τ).loc main_arg2)
    (ix1 ⟨t.val / 4 % 16 * 256 + (y 1).val, by idx_bounds y; omega⟩) := by
  refine (entry_cb m c _).trans ?_
  blk_ext [idx t]

theorem blk_wg (y : S1x256x512.Idx) : iblk m c 4 t y = m ((c : Thread nD τ).loc main_arg3) (ix3 (ch t) (y 1) (y 2)) := by
  refine (entry_wg m c _).trans ?_
  blk_ext [idx t]

theorem blk_br (y : S1x256.Idx) : iblk m c 5 t y = m ((c : Thread nD τ).loc main_arg4)
    (ix1 ⟨t.val / 4 % 16 * 256 + (y 1).val, by idx_bounds y; omega⟩) := by
  refine (entry_br m c _).trans ?_
  blk_ext [idx t]

theorem blk_bi (y : S1x256.Idx) : iblk m c 6 t y = m ((c : Thread nD τ).loc main_arg4)
    (ix1 ⟨4096 + (t.val / 4 % 16 * 256 + (y 1).val), by idx_bounds y; omega⟩) := by
  refine (entry_bi m c _).trans ?_
  blk_ext [idx t]

theorem blk_lam (y : S1x256.Idx) : iblk m c 7 t y = m ((c : Thread nD τ).loc main_arg5)
    (ix1 ⟨t.val / 4 % 16 * 256 + (y 1).val, by idx_bounds y; omega⟩) := by
  refine (entry_lam m c _).trans ?_
  blk_ext [idx t]

/-! ## A block's coefficients, from the three rows before it -/

theorem pay9_at (v : Vec Ideal S512x256 .f32) (b l : Vec Ideal S1x256 .f32) (y : S512x256.Idx) :
    k0_pay9 (F := Ideal) v b l y = logDecay (v y + b (ix2 0 (y 1))) (l (ix2 0 (y 1))) := by
  pointwise [k0_pay9]
  simp only [zero_bits, one_bits, zero_sub, logDecay, sigm, softplus]
  rfl

theorem pay6_at (v3 : Vec Ideal S512x256 .f32) (v4 : Vec Ideal S8x256 .f32) (v5 : Vec Ideal S4x256 .f32) (v26 : Vec Ideal S1x256 .f32)
    (v35 : Vec Ideal S1x256x512 .bf16) (y : S512x512.Idx) :
    k0_pay6 (F := Ideal) v3 v4 v5 v26 v35 y = ∑ k : Fin 256, k0_pay4 (F := Ideal) v3 v4 v5 v26 (ix2 (y 0) k) * v35 (ix3 0 k (y 1)) := by
  pointwise [k0_pay6]

theorem pay13_at (x g a d : Vec Ideal S512x256 .f32) (y : S512x256.Idx) :
    k0_pay13 (F := Ideal) x g a d y = Ideal.sqrt (d y * (a y * a y + 1)) * (g y * x y) := by
  pointwise [k0_pay13]

theorem pay10_at (v : Vec Ideal S512x256 .f32) (b l : Vec Ideal S1x256 .f32) (y : S512x256.Idx) :
    k0_pay10 (F := Ideal) v b l y = Ideal.exp (logDecay (v y + b (ix2 0 (y 1))) (l (ix2 0 (y 1)))) :=
  congrArg Ideal.exp (pay9_at v b l y)

theorem pay11_at (v : Vec Ideal S512x256 .f32) (b l : Vec Ideal S1x256 .f32) (y : S512x256.Idx) :
    k0_pay11 (F := Ideal) v b l y = -Ideal.tanh (logDecay (v y + b (ix2 0 (y 1))) (l (ix2 0 (y 1)))) := by
  rw [← pay9_at v b l y]
  pointwise [k0_pay11]
  simp only [zero_sub]

theorem pay8_at (v : Vec Ideal S512x512 .f32) (b : Vec Ideal S1x256 .f32) (r : Fin 512) (l : Fin 256) :
    k0_pay8 (F := Ideal) v b (ix2 r l) = sigm (v (ix2 r ⟨256 + l.val, by omega⟩) + b (ix2 0 l)) := by
  pointwise [k0_pay8]
  simp only [zero_sub, sigm]

theorem pay7_at (v3 : Vec Ideal S512x256 .f32) (v4 : Vec Ideal S8x256 .f32) (v5 : Vec Ideal S4x256 .f32) (v26 : Vec Ideal S1x256 .f32)
    (v35 : Vec Ideal S1x256x512 .bf16) (r : Fin 512) (l : Fin 256) :
    k0_pay7 (F := Ideal) v3 v4 v5 v26 v35 (ix2 r l) = k0_pay6 (F := Ideal) v3 v4 v5 v26 v35 (ix2 r ⟨l.val, by omega⟩) := by
  pointwise [k0_pay7]

/-- The arrays of a device's memory. -/
abbrev ax : S8320x8192.Idx → EReal := m ((c : Thread nD τ).loc main_arg0)
abbrev acw : S4x4096.Idx → EReal := m ((c : Thread nD τ).loc main_arg1)
abbrev acb : S4096.Idx → EReal := m ((c : Thread nD τ).loc main_arg2)
abbrev awg : S16x256x512.Idx → EReal := m ((c : Thread nD τ).loc main_arg3)
abbrev abg : S8192.Idx → EReal := m ((c : Thread nD τ).loc main_arg4)
abbrev alam : S4096.Idx → EReal := m ((c : Thread nD τ).loc main_arg5)

/-- A row of the block is a row of the prompt, behind the three zero rows. -/
theorem blk_row (r : Fin 512) (l : Fin 256) : X0_0 m c t (ix2 r l : S512x256.Idx)
    = inp (ax m c) (pr t) (t.val % 4 * 512 + r.val + 3) ⟨(ch t).val * 256 + l.val, by omega⟩ := by
  refine (blk_x m c t r l).trans ?_
  unfold inp
  rw [dif_pos ⟨by omega, by omega⟩]
  rfl

variable (p : Vec Ideal S8x256 .f32) (hp : ∀ (j : Fin 3) (l : Fin 256), p (ix2 ⟨5 + j.val, by omega⟩ l)
  = inp (m ((c : Thread nD τ).loc main_arg0)) (pr t) (t.val % 4 * 512 + j.val) ⟨(ch t).val * 256 + l.val, by omega⟩)
include hp

/-- The row `j` behind row `r`, from the carried rows or from the block. -/
theorem tap (j o : ℕ) (ho : o = 5 + j) (hj : j < 3) (r : Fin 512) (l : Fin 256) :
    (if h : o + r.val < 8 then p (ix2 ⟨o + r.val, h⟩ l) else X0_0 m c t (ix2 ⟨o + r.val - 8, by omega⟩ l : S512x256.Idx))
      = inp (ax m c) (pr t) (t.val % 4 * 512 + r.val + j) ⟨(ch t).val * 256 + l.val, by omega⟩ := by
  subst ho
  by_cases h : 5 + j + r.val < 8
  · rw [dif_pos h]
    have e : (⟨5 + j + r.val, h⟩ : Fin 8) = ⟨5 + (⟨j + r.val, by omega⟩ : Fin 3).val, by dsimp only; omega⟩ := Fin.ext (by dsimp only; omega)
    rw [e, hp]
    exact congrArg (fun k => inp (ax m c) (pr t) k _) (by dsimp only; omega)
  · rw [dif_neg h, blk_row]
    exact congrArg (fun k => inp (ax m c) (pr t) k _) (by dsimp only; omega)

theorem conv_at (r : Fin 512) (l : Fin 256) : k0_pay4 (F := Ideal) (X0_0 m c t) p (iblk m c 2 t) (iblk m c 3 t) (ix2 r l)
    = conv (ax m c) (acw m c) (acb m c) (pr t) (t.val % 4 * 512 + r.val) ⟨(ch t).val * 256 + l.val, by omega⟩ := by
  pointwise [k0_pay4, conv, blk_cw, blk_cb]
  refine congrArg (· + _) (congrArg₂ (· + ·) (congrArg₂ (· + ·) (congrArg₂ (· + ·) (congrArg (· * _) ?_) (congrArg (· * _) ?_))
    (congrArg (· * _) ?_)) (congrArg (· * _) ?_))
  · exact tap m c t p hp 0 5 rfl (by decide) r l
  · exact tap m c t p hp 1 6 rfl (by decide) r l
  · exact tap m c t p hp 2 7 rfl (by decide) r l
  · exact blk_row m c t r l

theorem gate_at (r : Fin 512) (o : Fin 512) :
    k0_pay6 (F := Ideal) (X0_0 m c t) p (iblk m c 2 t) (iblk m c 3 t) (iblk m c 4 t) (ix2 r o)
      = gate (ax m c) (acw m c) (acb m c) (awg m c) (pr t) (t.val % 4 * 512 + r.val) (ch t) o := by
  refine (pay6_at _ _ _ _ _ _).trans (Finset.sum_congr rfl fun k _ => ?_)
  exact congrArg₂ (· * ·) (conv_at m c t p hp r k) (blk_wg m c t (ix3 0 k o))

theorem pre_at (r : Fin 512) (l : Fin 256) :
    k0_pay7 (F := Ideal) (X0_0 m c t) p (iblk m c 2 t) (iblk m c 3 t) (iblk m c 4 t) (ix2 r l) + iblk m c 5 t (ix2 0 l)
      = gate (ax m c) (acw m c) (acb m c) (awg m c) (pr t) (t.val % 4 * 512 + r.val) (ch t) ⟨l.val, by omega⟩
        + abg m c (ix1 ⟨(ch t).val * 256 + l.val, by omega⟩) :=
  congrArg₂ (· + ·) ((pay7_at _ _ _ _ _ r l).trans (gate_at m c t p hp r ⟨l.val, by omega⟩)) (blk_br m c t (ix2 0 l))

theorem coeffs : Coeffs (X0_0 m c t) (iblk m c 2 t) (iblk m c 3 t) (iblk m c 4 t) (iblk m c 5 t) (iblk m c 6 t) (iblk m c 7 t) p
    (fun l i => factor (ax m c) (acw m c) (acb m c) (awg m c) (abg m c) (alam m c) (pr t) (ch t) l (t.val % 4 * 512 + i))
    (fun l i => add (ax m c) (acw m c) (acb m c) (awg m c) (abg m c) (alam m c) (pr t) (ch t) l (t.val % 4 * 512 + i)) := by
  have hd : ∀ (r : Fin 512) (l : Fin 256), logDecay
      (k0_pay7 (F := Ideal) (X0_0 m c t) p (iblk m c 2 t) (iblk m c 3 t) (iblk m c 4 t) (ix2 r l) + iblk m c 5 t (ix2 0 l)) (iblk m c 7 t (ix2 0 l))
        = decay (ax m c) (acw m c) (acb m c) (awg m c) (abg m c) (alam m c) (pr t) (t.val % 4 * 512 + r.val) (ch t) l :=
    fun r l => congrArg₂ logDecay (pre_at m c t p hp r l) (blk_lam m c t (ix2 0 l))
  constructor <;> intro r l
  · exact (pay10_at _ _ _ _).trans ((congrArg Ideal.exp (hd r l)).trans (factor_eq _ _ _ _ _ _ _ _ _ _))
  · refine (pay13_at _ _ _ _ _).trans (congrArg₂ (fun u v => Ideal.sqrt u * v) ?_ (congrArg₂ (· * ·) ?_ (conv_at m c t p hp r l)))
    · refine (congrArg₂ (fun u v => u * (v * v + 1)) (pay11_at _ _ _ _) (pay10_at _ _ _ _)).trans ((neg_tanh_mul _).trans ?_)
      exact congrArg (fun u => -(Ideal.expm1 (2 * u))) (hd r l)
    · exact (pay8_at _ _ r l).trans (congrArg sigm (congrArg₂ (· + ·) (gate_at m c t p hp r ⟨256 + l.val, by omega⟩) (blk_bi m c t (ix2 0 l))))

end Blocks

/-! ## The points of a prompt, one after another -/

section Points

variable (c : Dev nD)

/-- The state of a device's memory. -/
abbrev st (b : Fin 4) (q : Fin 16) (l : Fin 256) (k : ℕ) : EReal :=
  state (ax m c) (acw m c) (acb m c) (awg m c) (abg m c) (alam m c) b q l k

/-- What a point leaves: the gated states of its rows, the state after them, and for the next point the last rows and that state. -/
def Left (t : Fin cfg0.N) : Prop :=
  (∀ (r : Fin 512) (l : Fin 256), (outsAt0 m c t.val t.isLt).1 (ix2 r l)
      = st m c (pr t) (ch t) l (t.val % 4 * 512 + (r.val + 1)) * gelu (X0_1 m c t (ix2 r l : S512x256.Idx)))
    ∧ (∀ l : Fin 256, (outsAt0 m c t.val t.isLt).2.1 (ix3 0 0 l) = st m c (pr t) (ch t) l (t.val % 4 * 512 + 512))
    ∧ (∀ (r : Fin 8) (l : Fin 256), (outsAt0 m c t.val t.isLt).2.2.1 (ix2 r l) = X0_0 m c t (ix2 ⟨504 + r.val, by omega⟩ l : S512x256.Idx))
    ∧ ∀ (r : Fin 8) (l : Fin 256), (outsAt0 m c t.val t.isLt).2.2.2 (ix2 r l) = st m c (pr t) (ch t) l (t.val % 4 * 512 + 512)

/-- The parts of a pair known to be equal to a tuple. -/
theorem part1 {A B C D : Type} {o : A × B × C × D} {a : A} {b : B} {c : C} {d : D} (h : o = (a, b, c, d)) : o.1 = a := by
  subst h
  rfl
theorem part2 {A B C D : Type} {o : A × B × C × D} {a : A} {b : B} {c : C} {d : D} (h : o = (a, b, c, d)) : o.2.1 = b := by
  subst h
  rfl
theorem part3 {A B C D : Type} {o : A × B × C × D} {a : A} {b : B} {c : C} {d : D} (h : o = (a, b, c, d)) : o.2.2.1 = c := by
  subst h
  rfl
theorem part4 {A B C D : Type} {o : A × B × C × D} {a : A} {b : B} {c : C} {d : D} (h : o = (a, b, c, d)) : o.2.2.2 = d := by
  subst h
  rfl

theorem left_first (t : Fin cfg0.N) (h : t.val % 4 = 0) : Left m c t := by
  have hco := coeffs m c t (fun _ => 0) (fun j l => by
    unfold inp
    rw [dif_neg (by omega)])
  have e : ∀ (l : Fin 256) (n : ℕ), scan
      (fun i => factor (ax m c) (acw m c) (acb m c) (awg m c) (abg m c) (alam m c) (pr t) (ch t) l (t.val % 4 * 512 + i))
      (fun i => add (ax m c) (acw m c) (acb m c) (awg m c) (abg m c) (alam m c) (pr t) (ch t) l (t.val % 4 * 512 + i)) 0 n
        = st m c (pr t) (ch t) l (t.val % 4 * 512 + n) := fun l n => by
    rw [h]
    simp only [Nat.zero_mul, Nat.zero_add]
    rfl
  unfold Left
  refine ⟨fun r l => Eq.trans ?_ (congrArg (· * _) (e l _)), fun l => Eq.trans ?_ (e l _), fun r l => ?_, fun r l => Eq.trans ?_ (e l _)⟩
  · rw [congrFun (part1 (outsAt0_A m c t h)) (ix2 r l)]
    exact first_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) scM0_3 (Memref.isWhole_whole _)
      (X0_0 m c t) (X0_1 m c t) (iblk m c 2 t) (iblk m c 3 t) (iblk m c 4 t) (iblk m c 5 t) (iblk m c 6 t) (iblk m c 7 t)
      _ _  ((hcond0_0 t).mpr h) hco r l
  · rw [congrFun (part2 (outsAt0_A m c t h)) (ix3 0 0 l)]
    exact first_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) scM0_3 (Memref.isWhole_whole _)
      (X0_0 m c t) (X0_1 m c t) (iblk m c 2 t) (iblk m c 3 t) (iblk m c 4 t) (iblk m c 5 t) (iblk m c 6 t) (iblk m c 7 t)
      _ _  ((hcond0_0 t).mpr h) hco l
  · rw [congrFun (part3 (outsAt0_A m c t h)) (ix2 r l)]
    exact first_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) scM0_3 (Memref.isWhole_whole _)
      (X0_0 m c t) (X0_1 m c t) (iblk m c 2 t) (iblk m c 3 t) (iblk m c 4 t) (iblk m c 5 t) (iblk m c 6 t) (iblk m c 7 t)
      ((hcond0_0 t).mpr h) r l
  · rw [congrFun (part4 (outsAt0_A m c t h)) (ix2 r l)]
    exact first_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) scM0_3 (Memref.isWhole_whole _)
      (X0_0 m c t) (X0_1 m c t) (iblk m c 2 t) (iblk m c 3 t) (iblk m c 4 t) (iblk m c 5 t) (iblk m c 6 t) (iblk m c 7 t)
      _ _  ((hcond0_0 t).mpr h) hco r l

theorem left_later (t : Fin cfg0.N) (h : ¬t.val % 4 = 0) (ih : Left m c ⟨t.val - 1, lt_of_le_of_lt (Nat.sub_le _ _) t.isLt⟩) : Left m c t := by
  have ht : t.val - 1 < cfg0.N := lt_of_le_of_lt (Nat.sub_le _ _) t.isLt
  have hpr : pr ⟨t.val - 1, ht⟩ = pr t := Fin.ext (by dsimp only; omega)
  have hch : ch ⟨t.val - 1, ht⟩ = ch t := Fin.ext (by dsimp only; omega)
  have hk : (⟨t.val - 1, ht⟩ : Fin cfg0.N).val % 4 * 512 + 512 = t.val % 4 * 512 := by dsimp only; omega
  obtain ⟨-, -, hx, hs⟩ := ih
  have hco := coeffs m c t (outsAt0 m c (t.val - 1) ht).2.2.1 (fun j l => by
    refine (hx ⟨5 + j.val, by omega⟩ l).trans ((blk_row m c _ _ l).trans ?_)
    refine Eq.trans ?_ (congrArg₂ (fun b q => inp (ax m c) b (t.val % 4 * 512 + j.val) ⟨(q : Fin 16).val * 256 + l.val, by omega⟩) hpr hch)
    exact congrArg (fun k => inp (ax m c) _ k _) (by dsimp only; omega))
  have hη : ∀ (r : Fin 8) (l : Fin 256), (outsAt0 m c (t.val - 1) ht).2.2.2 (ix2 r l) = st m c (pr t) (ch t) l (t.val % 4 * 512) := fun r l =>
    (hs r l).trans ((congrArg (st m c _ _ l) hk).trans (congrArg₂ (fun b q => st m c b q l _) hpr hch))
  have e : ∀ (l : Fin 256) (n : ℕ), scan
      (fun i => factor (ax m c) (acw m c) (acb m c) (awg m c) (abg m c) (alam m c) (pr t) (ch t) l (t.val % 4 * 512 + i))
      (fun i => add (ax m c) (acw m c) (acb m c) (awg m c) (abg m c) (alam m c) (pr t) (ch t) l (t.val % 4 * 512 + i))
      (st m c (pr t) (ch t) l (t.val % 4 * 512)) n = st m c (pr t) (ch t) l (t.val % 4 * 512 + n) := fun l n => scan_add _ _ _ _ _
  unfold Left
  refine ⟨fun r l => Eq.trans ?_ (congrArg (· * _) (e l _)), fun l => Eq.trans ?_ (e l _), fun r l => ?_, fun r l => Eq.trans ?_ (e l _)⟩
  · rw [congrFun (part1 (outsAt0_B m c t h)) (ix2 r l)]
    exact later_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) scM0_3 (Memref.isWhole_whole _)
      (X0_0 m c t) (X0_1 m c t) (iblk m c 2 t) (iblk m c 3 t) (iblk m c 4 t) (iblk m c 5 t) (iblk m c 6 t) (iblk m c 7 t) (outsAt0 m c (t.val - 1) ht).2.2.1 (outsAt0 m c (t.val - 1) ht).2.2.2
      _ _ _ (fun hc => h ((hcond0_0 t).mp hc)) hco hη r l
  · rw [congrFun (part2 (outsAt0_B m c t h)) (ix3 0 0 l)]
    exact later_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) scM0_3 (Memref.isWhole_whole _)
      (X0_0 m c t) (X0_1 m c t) (iblk m c 2 t) (iblk m c 3 t) (iblk m c 4 t) (iblk m c 5 t) (iblk m c 6 t) (iblk m c 7 t) (outsAt0 m c (t.val - 1) ht).2.2.1 (outsAt0 m c (t.val - 1) ht).2.2.2
      _ _ _ (fun hc => h ((hcond0_0 t).mp hc)) hco hη l
  · rw [congrFun (part3 (outsAt0_B m c t h)) (ix2 r l)]
    exact later_rows c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) scM0_3 (Memref.isWhole_whole _)
      (X0_0 m c t) (X0_1 m c t) (iblk m c 2 t) (iblk m c 3 t) (iblk m c 4 t) (iblk m c 5 t) (iblk m c 6 t) (iblk m c 7 t) (outsAt0 m c (t.val - 1) ht).2.2.1 (outsAt0 m c (t.val - 1) ht).2.2.2
      (fun hc => h ((hcond0_0 t).mp hc)) r l
  · rw [congrFun (part4 (outsAt0_B m c t h)) (ix2 r l)]
    exact later_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) scM0_3 (Memref.isWhole_whole _)
      (X0_0 m c t) (X0_1 m c t) (iblk m c 2 t) (iblk m c 3 t) (iblk m c 4 t) (iblk m c 5 t) (iblk m c 6 t) (iblk m c 7 t) (outsAt0 m c (t.val - 1) ht).2.2.1 (outsAt0 m c (t.val - 1) ht).2.2.2
      _ _ _ (fun hc => h ((hcond0_0 t).mp hc)) hco hη r l

theorem left (c : Dev nD) : ∀ (n : ℕ) (hn : n < cfg0.N), Left m c ⟨n, hn⟩
  | 0, hn => left_first m c ⟨0, hn⟩ rfl
  | n + 1, hn => by
    by_cases h : (n + 1) % 4 = 0
    · exact left_first m c ⟨n + 1, hn⟩ h
    · exact left_later m c ⟨n + 1, hn⟩ h (left c n _)

end Points

/-! ## The arrays the kernel leaves -/

theorem lanes (y : S512x256.Idx) : ∃ (r : Fin 512) (l : Fin 256), ix2 r l = y := ⟨y 0, y 1, by pointwise⟩
theorem lanes3 (y : S1x1x256.Idx) : ∃ l : Fin 256, ix3 0 0 l = y := ⟨y 2, by blk_ext⟩

theorem state_congr (x : S8320x8192.Idx → EReal) (cw : S4x4096.Idx → EReal) (cb : S4096.Idx → EReal) (wg : S16x256x512.Idx → EReal)
    (bg : S8192.Idx → EReal) (lam : S4096.Idx → EReal) {b b' : Fin 4} {q q' : Fin 16} {l l' : Fin 256} {k k' : ℕ} (hb : b = b') (hq : q = q')
    (hl : l = l') (hk : k = k') : state x cw cb wg bg lam b q l k = state x cw cb wg bg lam b' q' l' k' := by
  subst hb hq hl hk
  rfl

theorem outs_ix (x : S8320x8192.Idx → EReal) (cw : S4x4096.Idx → EReal) (cb : S4096.Idx → EReal) (wg : S16x256x512.Idx → EReal)
    (bg : S8192.Idx → EReal) (lam : S4096.Idx → EReal) (b : Fin 4) (k : Fin 2048) (q : Fin 16) (l : Fin 256) :
    outs x cw cb wg bg lam (ix2 ⟨b.val * 2048 + k.val, by omega⟩ ⟨q.val * 256 + l.val, by omega⟩)
      = state x cw cb wg bg lam b q l (k.val + 1) * gelu (x (ix2 ⟨b.val * 2048 + k.val, by omega⟩ ⟨4096 + (q.val * 256 + l.val), by omega⟩)) := by
  refine congrArg (· * _) (state_congr _ _ _ _ _ _ (Fin.ext ?_) (Fin.ext ?_) (Fin.ext ?_) (congrArg (· + 1) ?_))
  · show (b.val * 2048 + k.val) / 2048 = b.val
    omega
  · show (q.val * 256 + l.val) / 256 = q.val
    omega
  · show (q.val * 256 + l.val) % 256 = l.val
    omega
  · show (b.val * 2048 + k.val) % 2048 = k.val
    omega

theorem lasts_ix (x : S8320x8192.Idx → EReal) (cw : S4x4096.Idx → EReal) (cb : S4096.Idx → EReal) (wg : S16x256x512.Idx → EReal)
    (bg : S8192.Idx → EReal) (lam : S4096.Idx → EReal) (b : Fin 4) (q : Fin 16) (l : Fin 256) :
    lasts x cw cb wg bg lam (ix3 b 0 ⟨q.val * 256 + l.val, by omega⟩) = state x cw cb wg bg lam b q l 2048 := by
  refine state_congr _ _ _ _ _ _ rfl (Fin.ext ?_) (Fin.ext ?_) rfl
  · show (q.val * 256 + l.val) / 256 = q.val
    omega
  · show (q.val * 256 + l.val) % 256 = l.val
    omega

/-- The gated states, -/
theorem final_outs (c : Dev nD) : (dats m 0 c).arrAt 8 cfg0.N = outs (ax m c) (acw m c) (acb m c) (awg m c) (abg m c) (alam m c) := by
  refine (dats m 0 c).arrAt_eq_of_covers 8 _ (by decide +kernel) fun t hf y => ?_
  blk_simp
  rw [after0_8]; frame_out
  obtain ⟨r, l, rfl⟩ := lanes y
  have he : ((View.whole main_v5_0).slice (win0_8.rect t)).emb (ix2 r l)
      = (ix2 ⟨(pr t).val * 2048 + (⟨t.val % 4 * 512 + r.val, by omega⟩ : Fin 2048).val, by omega⟩ ⟨(ch t).val * 256 + l.val, by omega⟩ : S8192x4096.Idx) := by
    blk_ext [idx t]
  rw [he, outs_ix]
  exact ((left m c t.val t.isLt).1 r l).trans (congrArg (fun u => _ * gelu u) (blk_y m c t r l))

/-- and the last states. -/
theorem final_lasts (c : Dev nD) : (dats m 0 c).arrAt 9 cfg0.N = lasts (ax m c) (acw m c) (acb m c) (awg m c) (abg m c) (alam m c) := by
  refine (dats m 0 c).arrAt_eq_of_covers 9 _ (by decide +kernel) fun t hf y => ?_
  have h3 : t.val % 4 = 3 := (flush0_9 t).mp hf
  blk_simp
  rw [after0_9]; frame_out
  obtain ⟨l, rfl⟩ := lanes3 y
  have he : ((View.whole main_v5_1).slice (win0_9.rect t)).emb (ix3 0 0 l)
      = (ix3 (pr t) 0 ⟨(ch t).val * 256 + l.val, by omega⟩ : S4x1x4096.Idx) := by
    blk_ext [idx t]
  rw [he, lasts_ix]
  refine ((left m c t.val t.isLt).2.1 l).trans (congrArg (st m c (pr t) (ch t) l) ?_)
  dsimp only
  omega

/-- The run, read. -/
theorem run (ρ : Dev nD → PrngReg) : θ_run defs (onTc (τ := τ) (main (F := Ideal))) ⟨m, fun _ => 0, ρ⟩ fun r => ∀ c : Dev nD,
      r.2.mem ((c : Thread nD τ).loc main_v5_0) = outs (ax m c) (acw m c) (acb m c) (awg m c) (abg m c) (alam m c)
      ∧ r.2.mem ((c : Thread nD τ).loc main_v5_1) = lasts (ax m c) (acw m c) (acb m c) (awg m c) (abg m c) (alam m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 8).trans (final_outs m c), ((h c).1 9).trans (final_lasts m c),
    ((h c).1 1).trans (((dats m 0 c).arrAt_in 1 rfl _).trans ((A_eq m c 1).trans (V_main_arg0 m c))),
    ((h c).1 2).trans (((dats m 0 c).arrAt_in 2 rfl _).trans ((A_eq m c 2).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ)

end Cert.LruPrompt

end
-- ==== Proof.LruPromptRef.lean ====
module

public import proofs.«01_k».proof.Proof.LruPromptSpec
public import proofs.«01_k».proof.Proof.Gen.Reference8Ideal.Step
public import Idealize.ShloMosaic.Lib.Pointwise
public import Idealize.ShloMosaic.Lib.WordCmp

@[expose] public section

noncomputable section

open Idealize.ShloMosaic
open scoped NNReal

/-! # The gated linear recurrence over the four prompts: what the reference's operations are at an index -/

namespace Cert.LruPrompt

open Cert.Reference8Ideal Cert.Reference8Ideal.Step Cert.Scalars

variable (x0 : S8320x8192.Idx → EReal) (x1 : S4x4096.Idx → EReal) (x2 : S4096.Idx → EReal) (x3 : S16x256x512.Idx → EReal)
  (x4 : S8192.Idx → EReal) (x5 : S4096.Idx → EReal)

/-! ## Before the loop -/

theorem ref_row (b : Fin 4) (t : Fin 2051) (n : Fin 4096) :
    A_main_v3 (F := Ideal) x0 x1 x2 x3 x4 x5 (ix3 b t n) = inp x0 b t.val n := by
  pointwise [A_main_v0, A_main_v1, A_main_v3, K_main_v2, K_main_cst, inp]
  by_cases h : t.val < 3
  · rw [dif_pos h, dif_neg (by omega)]
  · rw [dif_neg h, dif_pos (by omega)]

theorem ref_conv (b : Fin 4) (t : Fin 2048) (n : Fin 4096) :
    A_main_v33 (F := Ideal) x0 x1 x2 x3 x4 x5 (ix3 b t n) = conv x0 x1 x2 b t.val n := by
  pointwise [A_main_v4, A_main_v5, A_main_v6, A_main_v7, A_main_v8, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, ref_row, conv]
  rw [Nat.add_comm 1 t.val, Nat.add_comm 2 t.val, Nat.add_comm 3 t.val]

theorem ref_gate (b : Fin 4) (t : Fin 2048) (q : Fin 16) (o : Fin 512) :
    A_main_v36 (F := Ideal) x0 x1 x2 x3 x4 x5 (ix4 b t q o) = gate x0 x1 x2 x3 b t.val q o := by
  pointwise [A_main_v34, A_main_v35, A_main_v36, ref_conv, gate]
  exact Finset.sum_congr rfl fun k _ => mul_comm _ _

theorem ref_softplus (n : Fin 4096) : A_main_v64 (F := Ideal) x0 x1 x2 x3 x4 x5 (ix1 n) = softplus (-(x5 (ix1 n))) := by
  pointwise [A_main_v63, A_main_v64, K_main_call0_cst, K_main_call0_v0, A_main_call0_v1, K_main_call0_v2, A_main_call0_v3, A_main_call0_v4, K_main_call0_v5, A_main_call0_v6, A_main_call0_v7, A_main_call0_v8, A_main_call0_v9, A_main_call0_v10, A_main_call0_v11, softplus]
  rw [if_neg (by simp)]
  rfl

theorem ref_decay (b : Fin 4) (t : Fin 2048) (n : Fin 4096) :
    A_main_v67 (F := Ideal) x0 x1 x2 x3 x4 x5 (ix3 b t n)
      = decay x0 x1 x2 x3 x4 x5 b t.val ⟨n.val / 256, by omega⟩ ⟨n.val % 256, by omega⟩ := by
  pointwise [A_main_v37, A_main_v38, A_main_v39, A_main_v40, A_main_v41, A_main_v42, A_main_v43, A_main_v44, K_main_cst_0, K_main_cst_1, K_main_cst_4, K_main_v45, K_main_v47, K_main_v61, A_main_v46, A_main_v48, A_main_v62, A_main_v65, A_main_v66, A_main_v67, ref_gate, ref_softplus, decay, logDecay, sigm]
  simp only [Nat.div_add_mod', Fin.eta]

theorem ref_inGate (b : Fin 4) (t : Fin 2048) (n : Fin 4096) :
    A_main_v60 (F := Ideal) x0 x1 x2 x3 x4 x5 (ix3 b t n)
      = inGate x0 x1 x2 x3 x4 b t.val ⟨n.val / 256, by omega⟩ ⟨n.val % 256, by omega⟩ := by
  pointwise [K_main_cst_2, K_main_cst_3, K_main_v57, K_main_v59, A_main_v49, A_main_v50, A_main_v51, A_main_v52, A_main_v53, A_main_v54, A_main_v55, A_main_v56, A_main_v58, A_main_v60, ref_gate, inGate, sigm]
  simp only [Nat.div_add_mod', Fin.eta]

/-- The factors, row by row, -/
theorem ref_factor (t : Fin 2048) (b : Fin 4) (n : Fin 4096) :
    A_main_v77 (F := Ideal) x0 x1 x2 x3 x4 x5 (ix3 t b n)
      = ((factor x0 x1 x2 x3 x4 x5 b ⟨n.val / 256, by omega⟩ ⟨n.val % 256, by omega⟩ t.val : ℝ) : EReal) := by
  rw [← factor_eq, ← ref_decay]
  pointwise [A_main_v68, A_main_v77]

/-- and what the rows add. -/
theorem ref_add (t : Fin 2048) (b : Fin 4) (n : Fin 4096) :
    A_main_v78 (F := Ideal) x0 x1 x2 x3 x4 x5 (ix3 t b n)
      = add x0 x1 x2 x3 x4 x5 b ⟨n.val / 256, by omega⟩ ⟨n.val % 256, by omega⟩ t.val := by
  pointwise [K_main_v69, K_main_cst_5, A_main_v70, A_main_v71, A_main_v72, A_main_v73, A_main_v74, A_main_v75, A_main_v78, ref_decay, ref_inGate, ref_conv, add]
  simp only [Nat.div_add_mod', Fin.eta, two_bits]
  rfl

/-! ## The loop -/

theorem word (j : ℕ) (hj : j < 2048) : (BitVec.ofNat 32 j).toInt = j := by
  rw [BitVec.toInt_eq_toNat_of_lt (by rw [BitVec.toNat_ofNat]; omega), BitVec.toNat_ofNat, Nat.mod_eq_of_lt (by omega)]

variable (s : State Ideal) (j : ℕ) (hj : j < 2048)
include hj

/-- A trip's row fits in the rows, -/
theorem row_fits : S2048x4x4096.Slices ![j, 0, 0] S1x4x4096 :=
  ⟨rfl, fun a => by fin_cases a <;> simp <;> omega⟩

/-- and the trip's number is where it starts. -/
theorem row_start (a : Fin 3) :
    ((![(constantI S_ 32 (BitVec.ofNat 32 j) : S_.Idx → BitVec 32), constantI S_ 32 0#32, constantI S_ 32 0#32] : Fin 3 → S_.Idx → BitVec 32) a
      (Shape.Idx.first Gen.h_S_)).toInt = ((![j, 0, 0] : Fin 3 → ℕ) a : ℤ) := by
  fin_cases a
  · exact word j hj
  · rfl
  · rfl

theorem trip_factor (b : Fin 4) (n : Fin 4096) : b3 j s (ix2 b n) = s.main_v80_0 (ix3 ⟨j, hj⟩ b n) := by
  unfold b3 b2 b1 b0
  rw [WordCmp.dynamicSlice_eq_extract _ _ _ _ ![j, 0, 0] (row_fits j hj) (row_start j hj)]
  pointwise

theorem trip_add (b : Fin 4) (n : Fin 4096) : b7 j s (ix2 b n) = s.main_v80_1 (ix3 ⟨j, hj⟩ b n) := by
  unfold b7 b6 b5 b4
  rw [WordCmp.dynamicSlice_eq_extract _ _ _ _ ![j, 0, 0] (row_fits j hj) (row_start j hj)]
  pointwise

theorem trip_state (b : Fin 4) (n : Fin 4096) :
    b9 j s (ix2 b n) = s.main_v80_0 (ix3 ⟨j, hj⟩ b n) * s.main_v80_3 (ix2 b n) + s.main_v80_1 (ix3 ⟨j, hj⟩ b n) := by
  rw [← trip_factor s j hj, ← trip_add s j hj]
  pointwise [b8, b9]

theorem trip_outs (t : Fin 2048) (b : Fin 4) (n : Fin 4096) :
    b13 j s (ix3 t b n) = if t.val = j then b9 j s (ix2 b n) else s.main_v80_4 (ix3 t b n) := by
  unfold b13 b12 b11 b10
  rw [WordCmp.dynamicUpdateSlice_eq_update _ _ _ _ ![j, 0, 0] (row_fits j hj) (row_start j hj)]
  pointwise
  by_cases h : t.val = j
  · rw [dif_pos (by omega), if_pos h]
  · rw [dif_neg (by omega), if_neg h]

end Cert.LruPrompt

end
-- ==== Proof.LruPromptRefRun.lean ====
module

public import proofs.«01_k».proof.Proof.Gen.Reference8Ideal.Run
public import proofs.«01_k».proof.Proof.Gen.Reference8Ideal.Step

@[expose] public section

/-! # The reference of the prompts' recurrence, run

A valuation holds a state when the carried buffers, the loop's constants and the trip's number agree with it. One trip of the loop
keeps it holding with the state's step applied, so the results are those of the step iterated from the initial state. -/

noncomputable section

namespace Cert.LruPrompt.Reference

open Idealize.ShloMosaic Idealize.ShloMosaic.TcCoe Idealize.SL.Sem Idealize.ShloMosaic.StableHlo
open Cert.Reference8Ideal Cert.Reference8Ideal.Gen Cert.Reference8Ideal.Value
open Cert.Reference8Ideal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v80_3) = s.main_v80_3
  f_4 : V0 (Proc.devRef .tc main_v80_4) = s.main_v80_4
  f_0 : V0 (Proc.devRef .tc main_v80_0) = s.main_v80_0
  f_1 : V0 (Proc.devRef .tc main_v80_1) = s.main_v80_1
  n_2 : V0 (Proc.devRef .tc main_v80_2) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.Reference8Ideal.Step.b0 j s := by
  unfold Cert.Reference8Ideal.Step.b0
  rfl
set_option maxRecDepth 8192 in
theorem al_1 (h : Holds V0 s j) : (constantI S_ 32 0#32 : (Proc.devRef .tc main_while0b_call1_c_0 : DevRef τ sig).ty.Contents (Elt F)) = Cert.Reference8Ideal.Step.b1 j s := by
  unfold Cert.Reference8Ideal.Step.b1
  rfl
set_option maxRecDepth 8192 in
theorem al_2 (h : Holds V0 s j) : (Host.dynamicSlice S1x4x4096 (V0 (Proc.devRef .tc main_v80_0)) (fun k => (((![V0 (Proc.devRef .tc main_v80_2), constantI S_ 32 0#32, constantI S_ 32 0#32] : Fin 3 → (⟨S_, .i32⟩ : BufTy).Contents (Elt F))) k (Shape.Idx.first h_S_)).toInt) sliceFits_S2048x4x4096_S1x4x4096 : (Proc.devRef .tc main_while0b_call1_v0 : DevRef τ sig).ty.Contents (Elt F)) = Cert.Reference8Ideal.Step.b2 j s := by
  unfold Cert.Reference8Ideal.Step.b2
  rw [← al_0 h, ← al_1 h, h.f_0, h.n_2]
  try rfl
set_option maxRecDepth 8192 in
theorem al_3 (h : Holds V0 s j) : (shapeCast S4x4096 (Host.dynamicSlice S1x4x4096 (V0 (Proc.devRef .tc main_v80_0)) (fun k => (((![V0 (Proc.devRef .tc main_v80_2), constantI S_ 32 0#32, constantI S_ 32 0#32] : Fin 3 → (⟨S_, .i32⟩ : BufTy).Contents (Elt F))) k (Shape.Idx.first h_S_)).toInt) sliceFits_S2048x4x4096_S1x4x4096) shapeCasts_S1x4x4096_S4x4096 : (Proc.devRef .tc main_while0b_v100 : DevRef τ sig).ty.Contents (Elt F)) = Cert.Reference8Ideal.Step.b3 j s := by
  unfold Cert.Reference8Ideal.Step.b3
  rw [← al_2 h]
  try rfl
set_option maxRecDepth 8192 in
theorem al_4 (h : Holds V0 s j) : (constantI S_ 32 0#32 : (Proc.devRef .tc main_while0b_call2_c : DevRef τ sig).ty.Contents (Elt F)) = Cert.Reference8Ideal.Step.b4 j s := by
  unfold Cert.Reference8Ideal.Step.b4
  rfl
set_option maxRecDepth 8192 in
theorem al_5 (h : Holds V0 s j) : (constantI S_ 32 0#32 : (Proc.devRef .tc main_while0b_call2_c_0 : DevRef τ sig).ty.Contents (Elt F)) = Cert.Reference8Ideal.Step.b5 j s := by
  unfold Cert.Reference8Ideal.Step.b5
  rfl
set_option maxRecDepth 8192 in
theorem al_6 (h : Holds V0 s j) : (Host.dynamicSlice S1x4x4096 (V0 (Proc.devRef .tc main_v80_1)) (fun k => (((![V0 (Proc.devRef .tc main_v80_2), constantI S_ 32 0#32, constantI S_ 32 0#32] : Fin 3 → (⟨S_, .i32⟩ : BufTy).Contents (Elt F))) k (Shape.Idx.first h_S_)).toInt) sliceFits_S2048x4x4096_S1x4x4096 : (Proc.devRef .tc main_while0b_call2_v0 : DevRef τ sig).ty.Contents (Elt F)) = Cert.Reference8Ideal.Step.b6 j s := by
  unfold Cert.Reference8Ideal.Step.b6
  rw [← al_4 h, ← al_5 h, h.f_1, h.n_2]
  try rfl
set_option maxRecDepth 8192 in
theorem al_7 (h : Holds V0 s j) : (shapeCast S4x4096 (Host.dynamicSlice S1x4x4096 (V0 (Proc.devRef .tc main_v80_1)) (fun k => (((![V0 (Proc.devRef .tc main_v80_2), constantI S_ 32 0#32, constantI S_ 32 0#32] : Fin 3 → (⟨S_, .i32⟩ : BufTy).Contents (Elt F))) k (Shape.Idx.first h_S_)).toInt) sliceFits_S2048x4x4096_S1x4x4096) shapeCasts_S1x4x4096_S4x4096 : (Proc.devRef .tc main_while0b_v101 : DevRef τ sig).ty.Contents (Elt F)) = Cert.Reference8Ideal.Step.b7 j s := by
  unfold Cert.Reference8Ideal.Step.b7
  rw [← al_6 h]
  try rfl
set_option maxRecDepth 8192 in
theorem al_8 (h : Holds V0 s j) : (mulf (shapeCast S4x4096 (Host.dynamicSlice S1x4x4096 (V0 (Proc.devRef .tc main_v80_0)) (fun k => (((![V0 (Proc.devRef .tc main_v80_2), constantI S_ 32 0#32, constantI S_ 32 0#32] : Fin 3 → (⟨S_, .i32⟩ : BufTy).Contents (Elt F))) k (Shape.Idx.first h_S_)).toInt) sliceFits_S2048x4x4096_S1x4x4096) shapeCasts_S1x4x4096_S4x4096) (V0 (Proc.devRef .tc main_v80_3)) : (Proc.devRef .tc main_while0b_v102 : DevRef τ sig).ty.Contents (Elt F)) = Cert.Reference8Ideal.Step.b8 j s := by
  unfold Cert.Reference8Ideal.Step.b8
  rw [← al_3 h, h.f_3]
  try rfl
set_option maxRecDepth 8192 in
theorem al_9 (h : Holds V0 s j) : (res_main_while0b_v103 V0 : (Proc.devRef .tc main_while0b_v103 : DevRef τ sig).ty.Contents (Elt F)) = Cert.Reference8Ideal.Step.b9 j s := by
  unfold res_main_while0b_v103 Cert.Reference8Ideal.Step.b9
  rw [← al_8 h, ← al_7 h]
  try rfl
set_option maxRecDepth 8192 in
theorem al_10 (h : Holds V0 s j) : (broadcastInDim S1x4x4096 ![1, 2] bcast_S4x4096_S1x4x4096_1_2 (res_main_while0b_v103 V0) : (Proc.devRef .tc main_while0b_call3_v0 : DevRef τ sig).ty.Contents (Elt F)) = Cert.Reference8Ideal.Step.b10 j s := by
  unfold Cert.Reference8Ideal.Step.b10
  rw [← al_9 h]
  try rfl
set_option maxRecDepth 8192 in
theorem al_11 (h : Holds V0 s j) : (constantI S_ 32 0#32 : (Proc.devRef .tc main_while0b_call3_c : DevRef τ sig).ty.Contents (Elt F)) = Cert.Reference8Ideal.Step.b11 j s := by
  unfold Cert.Reference8Ideal.Step.b11
  rfl
set_option maxRecDepth 8192 in
theorem al_12 (h : Holds V0 s j) : (constantI S_ 32 0#32 : (Proc.devRef .tc main_while0b_call3_c_0 : DevRef τ sig).ty.Contents (Elt F)) = Cert.Reference8Ideal.Step.b12 j s := by
  unfold Cert.Reference8Ideal.Step.b12
  rfl
set_option maxRecDepth 8192 in
theorem al_13 (h : Holds V0 s j) : (Host.dynamicUpdateSlice (V0 (Proc.devRef .tc main_v80_4)) (broadcastInDim S1x4x4096 ![1, 2] bcast_S4x4096_S1x4x4096_1_2 (res_main_while0b_v103 V0)) (fun k => (((![V0 (Proc.devRef .tc main_v80_2), constantI S_ 32 0#32, constantI S_ 32 0#32] : Fin 3 → (⟨S_, .i32⟩ : BufTy).Contents (Elt F))) k (Shape.Idx.first h_S_)).toInt) updateFits_S2048x4x4096_S1x4x4096 : (Proc.devRef .tc main_while0b_v104 : DevRef τ sig).ty.Contents (Elt F)) = Cert.Reference8Ideal.Step.b13 j s := by
  unfold Cert.Reference8Ideal.Step.b13
  rw [← al_10 h, ← al_11 h, ← al_12 h, h.f_4, h.n_2]
  try rfl

/-! One trip's step of the carried values is `step`, field by field; a counter steps to the next number. -/

theorem step_3 (h : Holds V0 s j) : step_main_v80_3 V0 = (step j s).main_v80_3 := by
  unfold step_main_v80_3 Cert.Reference8Ideal.Step.step
  show id (res_main_while0b_v103 V0) = _
  rw [al_9 h]
  try rfl
theorem step_4 (h : Holds V0 s j) : step_main_v80_4 V0 = (step j s).main_v80_4 := by
  unfold step_main_v80_4 Cert.Reference8Ideal.Step.step
  exact al_13 h
theorem step_2 (h : Holds V0 s j) : step_main_v80_2 V0 = constantI S_ 32 (BitVec.ofNat 32 (j + 1)) := by
  unfold step_main_v80_2
  rw [h.n_2]
  funext i
  show BitVec.ofNat 32 j + 1#32 = BitVec.ofNat 32 (j + 1)
  simp only [BitVec.ofNat_add]

set_option maxRecDepth 8192 in
theorem out_main_v98_holds (h : Holds V0 s j) {x_main_arg0 : (⟨S8320x8192, .f32⟩ : BufTy).Contents (Elt F)} (h_main_arg0 : V0 (Proc.devRef .tc main_arg0) = x_main_arg0) : out_main_v98 V0 = Cert.Reference8Ideal.Step.R_main_v98 s x_main_arg0 := by
  unfold out_main_v98 Cert.Reference8Ideal.Step.R_main_v98
  rw [h.f_4, h_main_arg0]
  try rfl

set_option maxRecDepth 8192 in
theorem out_main_v99_holds (h : Holds V0 s j) : out_main_v99 V0 = Cert.Reference8Ideal.Step.R_main_v99 s := by
  unfold out_main_v99 Cert.Reference8Ideal.Step.R_main_v99
  rw [h.f_3]
  try rfl

/-- One trip keeps the valuation holding: `step` of the state, the same set-up values, the next number. -/
theorem holds_step (h : Holds V0 s j) : Holds (STEP V0) (step j s) (j + 1) where
  f_3 := (STEP_main_v80_3 V0).trans (step_3 h)
  f_4 := (STEP_main_v80_4 V0).trans (step_4 h)
  n_2 := (STEP_main_v80_2 V0).trans (step_2 h)
  f_0 := (STEP_main_v80_0 V0).trans h.f_0
  f_1 := (STEP_main_v80_1 V0).trans h.f_1

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- The results as `step` iterated: every weakly fair execution of `Reference8Ideal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v98) = Cert.Reference8Ideal.Step.R_main_v98 (it c 2048) (m ((c.tc : Thread nD τ).loc main_arg0))
      ∧ r.2.mem ((c.tc : Thread nD τ).loc main_v99) = Cert.Reference8Ideal.Step.R_main_v99 (it c 2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 2048
    ⟨(h c).1.trans (out_main_v98_holds hk (iter_main_arg0 m c 2048)), (h c).2.1.trans (out_main_v99_holds hk), (h c).2.2.1, (h c).2.2.2.1, (h c).2.2.2.2.1, (h c).2.2.2.2.2.1, (h c).2.2.2.2.2.2.1, (h c).2.2.2.2.2.2.2⟩) (Value.run m ρ)

end Cert.LruPrompt.Reference

end
-- ==== Proof.LruPrompt.lean ====
module

public import proofs.«01_k».proof.Defs
public import proofs.«01_k».proof.Proof.LruPromptRun
public import proofs.«01_k».proof.Proof.LruPromptPoints
public import proofs.«01_k».proof.Proof.LruPromptRef
public import proofs.«01_k».proof.Proof.LruPromptRefRun
public import Idealize.ShloMosaic.Lib.Quiescent

@[expose] public section

noncomputable section

open Idealize.ShloMosaic Idealize.ShloMosaic.TcCoe Idealize.SL.Sem
open scoped NNReal

/-! # The gated linear recurrence over the four prompts: the kernel is the reference -/

namespace Cert.LruPrompt

open Cert.Reference8Ideal Cert.Reference8Ideal.Step Cert.Scalars

section Ref

variable (x0 : S8320x8192.Idx → EReal) (x1 : S4x4096.Idx → EReal) (x2 : S4096.Idx → EReal) (x3 : S16x256x512.Idx → EReal)
  (x4 : S8192.Idx → EReal) (x5 : S4096.Idx → EReal)

/-- The reference's loop, trip by trip. -/
def trips : ℕ → State Ideal
  | 0 => init (F := Ideal) x0 x1 x2 x3 x4 x5
  | n + 1 => step n (trips n)

/-- The loop reads the same factors and addends at every trip; -/
theorem trips_fixed : ∀ k, (trips x0 x1 x2 x3 x4 x5 k).main_v80_0 = A_main_v77 (F := Ideal) x0 x1 x2 x3 x4 x5
    ∧ (trips x0 x1 x2 x3 x4 x5 k).main_v80_1 = A_main_v78 (F := Ideal) x0 x1 x2 x3 x4 x5
  | 0 => ⟨rfl, rfl⟩
  | k + 1 => trips_fixed k

/-- it carries the state, -/
theorem trips_state (b : Fin 4) (n : Fin 4096) : ∀ k, k ≤ 2048 → (trips x0 x1 x2 x3 x4 x5 k).main_v80_3 (ix2 b n)
    = state x0 x1 x2 x3 x4 x5 b ⟨n.val / 256, by omega⟩ ⟨n.val % 256, by omega⟩ k
  | 0, _ => by
    show K_main_v76 (F := Ideal) (ix2 b n) = 0
    pointwise [K_main_v76, K_main_cst_6]
  | k + 1, hk => by
    refine (trip_state (trips x0 x1 x2 x3 x4 x5 k) k hk b n).trans ?_
    rw [(trips_fixed x0 x1 x2 x3 x4 x5 k).1, (trips_fixed x0 x1 x2 x3 x4 x5 k).2, ref_factor, ref_add, trips_state b n k (by omega)]
    rfl

/-- and it collects the states. -/
theorem trips_rows (t : Fin 2048) (b : Fin 4) (n : Fin 4096) : ∀ k, k ≤ 2048 → t.val < k → (trips x0 x1 x2 x3 x4 x5 k).main_v80_4 (ix3 t b n)
    = state x0 x1 x2 x3 x4 x5 b ⟨n.val / 256, by omega⟩ ⟨n.val % 256, by omega⟩ (t.val + 1)
  | 0, _, h => absurd h (Nat.not_lt_zero _)
  | k + 1, hk, h => by
    refine (trip_outs (trips x0 x1 x2 x3 x4 x5 k) k hk t b n).trans ?_
    by_cases e : t.val = k
    · rw [if_pos e, e]
      exact trips_state x0 x1 x2 x3 x4 x5 b n (k + 1) hk
    · rw [if_neg e]
      exact trips_rows t b n k (by omega) (by omega)

theorem ref_lasts : R_main_v99 (trips x0 x1 x2 x3 x4 x5 2048) = lasts x0 x1 x2 x3 x4 x5 := by
  funext i
  obtain ⟨b, n, rfl⟩ : ∃ (b : Fin 4) (n : Fin 4096), i = ix3 b 0 n := ⟨i 0, i 2, by blk_ext⟩
  unfold R_main_v99
  pointwise [trips_state x0 x1 x2 x3 x4 x5 _ _ 2048 le_rfl, lasts]

theorem ref_outs : R_main_v98 (trips x0 x1 x2 x3 x4 x5 2048) x0 = outs x0 x1 x2 x3 x4 x5 := by
  funext i
  obtain ⟨r, n, rfl⟩ : ∃ (r : Fin 8192) (n : Fin 4096), i = ix2 r n := ⟨i 0, i 1, by blk_ext⟩
  unfold R_main_v98
  pointwise [trips_rows x0 x1 x2 x3 x4 x5 _ _ _ 2048 le_rfl (Fin.isLt _), outs, gelu]

end Ref

/-! ## The claims -/

/-- The frames: each program runs and leaves its arguments and its semaphores as they were. -/
theorem frame : Cert.quiescent_Kernel8 := fun m ρ _ => Float.frame m ρ
theorem frame_ideal : Cert.quiescent_Kernel8Ideal := fun m ρ _ => Ideal.frame m ρ
theorem frame_ref : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The ideal pass rewrote nothing. -/
theorem preserves : Cert.preserves_Kernel8_Kernel8Ideal := trivial

/-- The kernel computes the reference's outputs and last states. -/
theorem algebraic : Cert.algebraic_Kernel8Ideal_Reference8Ideal := by
  intro m ρ m' ρ' _ hagree
  refine ⟨fun c => outs (ax m c) (acw m c) (acb m c) (awg m c) (abg m c) (alam m c),
    fun c => lasts (ax m c) (acw m c) (acb m c) (awg m c) (abg m c) (alam m c), run m ρ,
    (θ_run Cert.Reference8Ideal.defs _ _).mono (fun _ h c => ⟨(h c).1.trans ?_, (h c).2.1.trans ?_, (h c).2.2⟩)
      (Reference.run_iter (F := Ideal) m' ρ'
        (fun c => trips (m' ((c.tc : Thread nD τ).loc main_arg0)) (m' ((c.tc : Thread nD τ).loc main_arg1)) (m' ((c.tc : Thread nD τ).loc main_arg2))
          (m' ((c.tc : Thread nD τ).loc main_arg3)) (m' ((c.tc : Thread nD τ).loc main_arg4)) (m' ((c.tc : Thread nD τ).loc main_arg5)))
        (fun _ => rfl) (fun _ _ => rfl))⟩
  all_goals obtain ⟨e0, e1, e2, e3, e4, e5⟩ := hagree c
  · rw [e0, e1, e2, e3, e4, e5]
    exact ref_outs _ _ _ _ _ _
  · rw [e0, e1, e2, e3, e4, e5]
    exact ref_lasts _ _ _ _ _ _

end Cert.LruPrompt

end
-- ==== Proof.FfnStep.lean ====
module

public import proofs.«01_k».proof.Defs
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Scalars
public import Idealize.ShloMosaic.Lib.Pipeline.ValueKit
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

/-! # One decode step of the channel mixer's gated convolution

The kernel computes 5504 columns a grid point: the convolution of the two kept gate rows and the new one, the exact Gaussian
gate written by the error function, and the product with the value columns. -/

namespace Cert.FfnStep

open Cert.Kernel9Ideal Cert.Kernel9Ideal.Gen Cert.Scalars

/-! ## The step, column by column -/

/-- The exact Gaussian gate, by the error function. -/
def exactGelu (x : EReal) : EReal :=
  Ideal.ofBits .f32 0x3F000000#32 * x * (1 + Ideal.erf (x * Ideal.ofBits .f32 0x3F3504F3#32))

/-- The same gate by the complementary error function of the negated argument. -/
theorem exactGelu_erfc (x : EReal) :
    Ideal.ofBits .f32 0x3F000000#32 * x * Ideal.erfc (-x * Ideal.ofBits .f32 0x3F3504F3#32) = exactGelu x := by
  rw [EReal.neg_mul, Ideal.erfc_neg, exactGelu]

section Spec

variable (x : S8320x22016.Idx → EReal) (cs : S128x2x11008.Idx → EReal) (cw : S3x11008.Idx → EReal) (cb : S11008.Idx → EReal)

/-- The convolved gate: the two kept rows and the new one, each under its tap, and the bias. -/
def conv (b : Fin 128) (n : Fin 11008) : EReal :=
  cs (ix3 b 0 n) * cw (ix2 0 n) + cs (ix3 b 1 n) * cw (ix2 1 n) + x (ix2 ⟨8192 + b.val, by omega⟩ ⟨n.val, by omega⟩) * cw (ix2 2 n)
    + cb (ix1 n)

/-- The gated values. -/
def outs : S128x11008.Idx → EReal := fun i =>
  exactGelu (conv x cs cw cb (i 0) (i 1)) * x (ix2 ⟨8192 + (i 0).val, by idx_bounds i; omega⟩ ⟨11008 + (i 1).val, by idx_bounds i; omega⟩)

end Spec

/-- The body's value at an index, from the vectors it loads. -/
theorem pay1_at (v0 : Vec Ideal S128x5504 .f32) (v1 : Vec Ideal S3x5504 .f32) (v2 v7 : Vec Ideal S1x128x5504 .f32)
    (v17 : Vec Ideal S1x5504 .f32) (v29 : Vec Ideal S128x5504 .f32) (y : S128x5504.Idx) :
    k0_pay1 (F := Ideal) v0 v1 v2 v7 v17 v29 y
      = exactGelu (v2 (ix3 0 (y 0) (y 1)) * v1 (ix2 0 (y 1)) + v7 (ix3 0 (y 0) (y 1)) * v1 (ix2 1 (y 1)) + v0 y * v1 (ix2 2 (y 1))
          + v17 (ix2 0 (y 1))) * v29 y := by
  pointwise [k0_pay1]
  simp only [one_bits, exactGelu]
  rfl

/-! ## The run -/

variable (m : (ℓ : Loc nD τ sig) → Buf (Elt Ideal) ℓ)

/-- The block indices of the windows at every grid point. -/
theorem idx : ∀ t : Fin cfg0.N,
    win0_0.index t = ![64, t.val] ∧ win0_1.index t = ![64, 2 + t.val] ∧ win0_2.index t = ![0, 0, t.val] ∧ win0_3.index t = ![0, t.val]
      ∧ win0_4.index t = ![0, t.val] ∧ win0_5.index t = ![0, t.val] := by
  show ∀ t : Fin grid0.N, _
  decide +kernel

/-- The buffers the host fills before the region, read. -/
theorem entry_cs (c : Dev nD) (i : S2x128x11008.Idx) : V m c main_v0 i = m ((c : Thread nD τ).loc main_arg1) (ix3 (i 1) (i 0) (i 2)) := by
  show StableHlo.after (List.flatten [hostOps0]) (fun b => m (c, b)) (Proc.devRef .tc main_v0) i = _
  simp only [List.flatten_cons, List.flatten_nil, List.append_nil]
  after_results
  pointwise

theorem entry_cb (c : Dev nD) (i : S1x11008.Idx) : V m c main_v1 i = m ((c : Thread nD τ).loc main_arg3) (ix1 (i 1)) := by
  show StableHlo.after (List.flatten [hostOps0]) (fun b => m (c, b)) (Proc.devRef .tc main_v1) i = _
  simp only [List.flatten_cons, List.flatten_nil, List.append_nil]
  after_results
  pointwise

section Blocks

variable (c : Dev nD) (t : Fin cfg0.N)

theorem lt2 (t : Fin cfg0.N) : t.val < 2 := lt_of_lt_of_eq t.isLt N_0

theorem blk_g (y : S128x5504.Idx) : iblk m c 0 t y = m ((c : Thread nD τ).loc main_arg0)
    (ix2 ⟨8192 + (y 0).val, by idx_bounds y; omega⟩ ⟨t.val * 5504 + (y 1).val, by have := lt2 t; idx_bounds y; omega⟩) := by
  blk_ext [iblk, idx t]

theorem blk_v (y : S128x5504.Idx) : iblk m c 1 t y = m ((c : Thread nD τ).loc main_arg0)
    (ix2 ⟨8192 + (y 0).val, by idx_bounds y; omega⟩ ⟨11008 + (t.val * 5504 + (y 1).val), by have := lt2 t; idx_bounds y; omega⟩) := by
  blk_ext [iblk, idx t]

theorem blk_cs (y : S2x128x5504.Idx) : iblk m c 2 t y = m ((c : Thread nD τ).loc main_arg1)
    (ix3 (y 1) (y 0) ⟨t.val * 5504 + (y 2).val, by have := lt2 t; idx_bounds y; omega⟩) := by
  refine (entry_cs m c _).trans ?_
  blk_ext [idx t]

theorem blk_cw (y : S3x5504.Idx) : iblk m c 3 t y = m ((c : Thread nD τ).loc main_arg2)
    (ix2 (y 0) ⟨t.val * 5504 + (y 1).val, by have := lt2 t; idx_bounds y; omega⟩) := by
  blk_ext [iblk, idx t]

theorem blk_cb (y : S1x5504.Idx) : iblk m c 4 t y = m ((c : Thread nD τ).loc main_arg3)
    (ix1 ⟨t.val * 5504 + (y 1).val, by have := lt2 t; idx_bounds y; omega⟩) := by
  refine (entry_cb m c _).trans ?_
  blk_ext [idx t]

/-- The body's value at an index of its block. -/
theorem pay_at (b : Fin 128) (l : Fin 5504) :
    k0_pay1 (F := Ideal) (iblk m c 0 t) (iblk m c 3 t) (View.ld (iblk m c 2 t) r0_2) (View.ld (iblk m c 2 t) r0_3) (iblk m c 4 t)
        (iblk m c 1 t) (ix2 b l)
      = outs (m ((c : Thread nD τ).loc main_arg0)) (m ((c : Thread nD τ).loc main_arg1)) (m ((c : Thread nD τ).loc main_arg2)) (m ((c : Thread nD τ).loc main_arg3))
          (ix2 b ⟨t.val * 5504 + l.val, by have := lt2 t; omega⟩) := by
  rw [pay1_at]
  pointwise [outs, conv, blk_g, blk_v, blk_cs, blk_cw, blk_cb]

end Blocks

theorem lanes (y : S128x5504.Idx) : ∃ (b : Fin 128) (l : Fin 5504), y = ix2 b l := ⟨y 0, y 1, by blk_ext⟩

/-- The outputs after the run. -/
theorem final_outs (c : Dev nD) : (dats m 0 c).arrAt 5 cfg0.N
    = outs (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]; frame_out
  obtain ⟨b, l, rfl⟩ := lanes y
  have he : ((View.whole main_v2).slice (win0_5.rect t)).emb (ix2 b l)
      = (ix2 b ⟨t.val * 5504 + l.val, by have := lt2 t; omega⟩ : S128x11008.Idx) := by blk_ext [idx t]
  rw [he]
  exact pay_at m c t b l

/-- The run, read. -/
theorem run (ρ : Dev nD → PrngReg) : θ_run defs (onTc (τ := τ) (main (F := Ideal))) ⟨m, fun _ => 0, ρ⟩ fun r => ∀ c : Dev nD,
      r.2.mem ((c : Thread nD τ).loc main_v2)
        = outs (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_outs m c), (h c).2⟩) (Value.run_blocks m ρ)

/-! ## The reference's values at an index -/

section Ref

open Cert.Reference9Ideal.Read

variable (x0 : S8320x22016.Idx → EReal) (x1 : S128x2x11008.Idx → EReal) (x2 : S3x11008.Idx → EReal) (x3 : S11008.Idx → EReal)

theorem ref_conv (b : Fin 128) (n : Fin 11008) : val_main_v29 (F := Ideal) x0 x1 x2 x3 (ix2 b n) = conv x0 x1 x2 x3 b n := by
  pointwise [val_main_v0, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, conv]

theorem rows (i : S128x11008.Idx) : ∃ (b : Fin 128) (n : Fin 11008), i = ix2 b n := ⟨i 0, i 1, by blk_ext⟩

theorem ref_outs : val_main_v38 (F := Ideal) x0 x1 x2 x3 = outs x0 x1 x2 x3 := by
  funext i
  obtain ⟨b, n, rfl⟩ := rows i
  pointwise [val_main_v1, val_main_v30, val_main_v31, val_main_v32, val_main_v33, val_main_v34, val_main_v35, val_main_v36, val_main_v37, val_main_v38, val_main_cst, val_main_cst_0, ref_conv, outs]
  exact congrArg (· * _) (exactGelu_erfc _)

end Ref

/-! ## The claims -/

/-- The frames: each program runs and leaves its arguments and its semaphores as they were. -/
theorem frame : Cert.quiescent_Kernel9 := fun m ρ _ => Cert.Kernel9.Gen.frame m ρ
theorem frame_ideal : Cert.quiescent_Kernel9Ideal := fun m ρ _ => Cert.Kernel9Ideal.Gen.frame m ρ
theorem frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The ideal pass rewrote nothing. -/
theorem preserves : Cert.preserves_Kernel9_Kernel9Ideal := trivial

/-- The kernel computes the reference's outputs. -/
theorem algebraic : Cert.algebraic_Kernel9Ideal_Reference9Ideal := by
  intro m ρ m' ρ' _ hagree
  refine ⟨fun c => outs (m ((c.tc : Thread Cert.Kernel9Ideal.nD Cert.Kernel9Ideal.τ).loc Cert.Kernel9Ideal.main_arg0))
      (m ((c.tc : Thread Cert.Kernel9Ideal.nD Cert.Kernel9Ideal.τ).loc Cert.Kernel9Ideal.main_arg1))
      (m ((c.tc : Thread Cert.Kernel9Ideal.nD Cert.Kernel9Ideal.τ).loc Cert.Kernel9Ideal.main_arg2))
      (m ((c.tc : Thread Cert.Kernel9Ideal.nD Cert.Kernel9Ideal.τ).loc Cert.Kernel9Ideal.main_arg3)), run m ρ,
    (θ_run Cert.Reference9Ideal.defs _ _).mono (fun _ h c => ⟨(h c).1.trans ?_, (h c).2⟩)
      (Cert.Reference9Ideal.Value.run (F := Ideal) m' ρ')⟩
  obtain ⟨e0, e1, e2, e3⟩ := hagree c
  rw [Cert.Reference9Ideal.Read.val_main_v38_eq, e0, e1, e2, e3]
  exact ref_outs _ _ _ _

end Cert.FfnStep

end
-- ==== Proof.FfnPrompt.lean ====
module

public import proofs.«01_k».proof.Defs
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Scalars
public import Idealize.ShloMosaic.Lib.Pipeline.ValueKit
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

/-! # The channel mixer's gated convolution over the prompts

A grid point is one prompt, 5504 columns and 256 rows. The eight row blocks of a prompt follow one another, and each hands on its
last eight gate rows. -/

namespace Cert.FfnPrompt

open Cert.Kernel11Ideal Cert.Kernel11Ideal.Gen Cert.Scalars

/-! ## The gated rows -/

/-- The exact Gaussian gate, by the error function. -/
def exactGelu (x : EReal) : EReal :=
  Ideal.ofBits .f32 0x3F000000#32 * x * (1 + Ideal.erf (x * Ideal.ofBits .f32 0x3F3504F3#32))

/-- The same gate by the complementary error function of the negated argument. -/
theorem exactGelu_erfc (x : EReal) :
    Ideal.ofBits .f32 0x3F000000#32 * x * Ideal.erfc (-x * Ideal.ofBits .f32 0x3F3504F3#32) = exactGelu x := by
  rw [EReal.neg_mul, Ideal.erfc_neg, exactGelu]

section Spec

variable (x : S8320x22016.Idx → EReal) (cw : S3x11008.Idx → EReal) (cb : S11008.Idx → EReal)

/-- Gate row `k` of a prompt, behind two zero rows. -/
def inp (b : Fin 4) (k : ℕ) (n : Fin 11008) : EReal :=
  if h : 2 ≤ k ∧ k < 2050 then x (ix2 ⟨b.val * 2048 + (k - 2), by omega⟩ ⟨n.val, by omega⟩) else 0

/-- The convolved gate: the two rows before and the row itself, each under its tap, and the bias. -/
def conv (b : Fin 4) (k : ℕ) (n : Fin 11008) : EReal :=
  inp x b k n * cw (ix2 0 n) + inp x b (k + 1) n * cw (ix2 1 n) + inp x b (k + 2) n * cw (ix2 2 n) + cb (ix1 n)

/-- The gated values. -/
def outs : S8192x11008.Idx → EReal := fun i =>
  exactGelu (conv x cw cb ⟨(i 0).val / 2048, by idx_bounds i; omega⟩ ((i 0).val % 2048) (i 1))
    * x (ix2 ⟨(i 0).val, by idx_bounds i; omega⟩ ⟨11008 + (i 1).val, by idx_bounds i; omega⟩)

end Spec

/-! ## The body's values at an index -/

theorem pay1_at (v36 v37 : Vec Ideal S256x5504 .f32) (y : S256x5504.Idx) : k0_pay1 (F := Ideal) v36 v37 y = v36 y * v37 y := by
  pointwise [k0_pay1]

theorem pay2_at (y : S8x5504.Idx) : k0_pay2 (F := Ideal) y = 0 := by
  pointwise [k0_pay2]

theorem pay3_at (v3 : Vec Ideal S256x5504 .f32) (r : Fin 8) (l : Fin 5504) :
    k0_pay3 (F := Ideal) v3 (ix2 r l) = v3 (ix2 ⟨248 + r.val, by omega⟩ l) := by
  pointwise [k0_pay3]

/-- The row at offset `o` behind the carried rows: one of them, or one of the block's. -/
def behind (v3 : Vec Ideal S256x5504 .f32) (p : Vec Ideal S8x5504 .f32) (o : ℕ) (ho : o ≤ 8) (r : Fin 256) (l : Fin 5504) : EReal :=
  if h : o + r.val < 8 then p (ix2 ⟨o + r.val, h⟩ l) else v3 (ix2 ⟨o + r.val - 8, by omega⟩ l)

theorem pay4_at (v3 : Vec Ideal S256x5504 .f32) (p : Vec Ideal S8x5504 .f32) (v5 : Vec Ideal S3x5504 .f32) (v21 : Vec Ideal S1x5504 .f32)
    (r : Fin 256) (l : Fin 5504) : k0_pay4 (F := Ideal) v3 p v5 v21 (ix2 r l)
      = exactGelu (behind v3 p 6 (by decide) r l * v5 (ix2 0 l) + behind v3 p 7 (by decide) r l * v5 (ix2 1 l)
          + v3 (ix2 r l) * v5 (ix2 2 l) + v21 (ix2 0 l)) := by
  pointwise [k0_pay4, behind]
  simp only [one_bits, exactGelu]
  rfl

/-! ## The blocks -/

variable (m : (ℓ : Loc nD τ sig) → Buf (Elt Ideal) ℓ)

/-- The block indices of the windows at every grid point: point `t` is prompt `t / 16`, columns `t / 8 % 2`, rows `t % 8`. -/
theorem idx : ∀ t : Fin cfg0.N,
    win0_0.index t = ![t.val / 16 * 8 + t.val % 8, t.val / 8 % 2] ∧ win0_1.index t = ![t.val / 16 * 8 + t.val % 8, 2 + t.val / 8 % 2]
      ∧ win0_2.index t = ![0, t.val / 8 % 2] ∧ win0_3.index t = ![0, t.val / 8 % 2]
      ∧ win0_4.index t = ![t.val / 16 * 8 + t.val % 8, t.val / 8 % 2] := by
  show ∀ t : Fin grid0.N, _
  decide +kernel

/-- The buffer the host fills before the region, read. -/
theorem entry_cb (c : Dev nD) (i : S1x11008.Idx) : V m c main_v0 i = m ((c : Thread nD τ).loc main_arg2) (ix1 (i 1)) := by
  show StableHlo.after (List.flatten [hostOps0]) (fun b => m (c, b)) (Proc.devRef .tc main_v0) i = _
  simp only [List.flatten_cons, List.flatten_nil, List.append_nil]
  after_results
  pointwise

section Blocks

variable (c : Dev nD) (t : Fin cfg0.N)

theorem lt64 (t : Fin cfg0.N) : t.val < 64 := lt_of_lt_of_eq t.isLt N_0

/-- A point's prompt and its columns. -/
abbrev pr (t : Fin cfg0.N) : Fin 4 := ⟨t.val / 16, by have := lt64 t; omega⟩
abbrev col (t : Fin cfg0.N) (l : Fin 5504) : Fin 11008 := ⟨t.val / 8 % 2 * 5504 + l.val, by omega⟩

theorem blk_g (r : Fin 256) (l : Fin 5504) : X0_0 m c t (ix2 r l : S256x5504.Idx) = m ((c : Thread nD τ).loc main_arg0)
    (ix2 ⟨t.val / 16 * 2048 + (t.val % 8 * 256 + r.val), by have := lt64 t; omega⟩ ⟨t.val / 8 % 2 * 5504 + l.val, by omega⟩) := by
  unfold X0_0 Pipeline.Window.fill
  rw [dif_pos (moved0_0 t _)]
  blk_ext [iblk, idx t]

theorem blk_v (r : Fin 256) (l : Fin 5504) : X0_1 m c t (ix2 r l : S256x5504.Idx) = m ((c : Thread nD τ).loc main_arg0)
    (ix2 ⟨t.val / 16 * 2048 + (t.val % 8 * 256 + r.val), by have := lt64 t; omega⟩ ⟨11008 + (t.val / 8 % 2 * 5504 + l.val), by omega⟩) := by
  unfold X0_1 Pipeline.Window.fill
  rw [dif_pos (moved0_1 t _)]
  blk_ext [iblk, idx t]

theorem blk_cw (y : S3x5504.Idx) : iblk m c 2 t y = m ((c : Thread nD τ).loc main_arg1)
    (ix2 (y 0) ⟨t.val / 8 % 2 * 5504 + (y 1).val, by idx_bounds y; omega⟩) := by
  blk_ext [iblk, idx t]

theorem blk_cb (y : S1x5504.Idx) : iblk m c 3 t y = m ((c : Thread nD τ).loc main_arg2)
    (ix1 ⟨t.val / 8 % 2 * 5504 + (y 1).val, by idx_bounds y; omega⟩) := by
  refine (entry_cb m c _).trans ?_
  blk_ext [idx t]

/-- The arrays of a device's memory. -/
abbrev ax : S8320x22016.Idx → EReal := m ((c : Thread nD τ).loc main_arg0)
abbrev acw : S3x11008.Idx → EReal := m ((c : Thread nD τ).loc main_arg1)
abbrev acb : S11008.Idx → EReal := m ((c : Thread nD τ).loc main_arg2)

/-- A row of the block is a row of the prompt, behind the two zero rows. -/
theorem blk_row (r : Fin 256) (l : Fin 5504) : X0_0 m c t (ix2 r l : S256x5504.Idx)
    = inp (ax m c) (pr t) (t.val % 8 * 256 + r.val + 2) (col t l) := by
  refine (blk_g m c t r l).trans ?_
  unfold inp
  rw [dif_pos ⟨by omega, by omega⟩]
  rfl

section Point

variable (p : Vec Ideal S8x5504 .f32) (hp : ∀ (j : Fin 2) (l : Fin 5504), p (ix2 ⟨6 + j.val, by omega⟩ l)
  = inp (ax m c) (pr t) (t.val % 8 * 256 + j.val) (col t l))
include hp

/-- The row `j` behind row `r`, from the carried rows or from the block. -/
theorem tap (j o : ℕ) (ho : o = 6 + j) (hj : j < 2) (r : Fin 256) (l : Fin 5504) :
    behind (X0_0 m c t) p o (by omega) r l = inp (ax m c) (pr t) (t.val % 8 * 256 + r.val + j) (col t l) := by
  subst ho
  unfold behind
  by_cases h : 6 + j + r.val < 8
  · rw [dif_pos h]
    have e : (⟨6 + j + r.val, h⟩ : Fin 8) = ⟨6 + (⟨j + r.val, by omega⟩ : Fin 2).val, by dsimp only; omega⟩ := Fin.ext (by dsimp only; omega)
    rw [e, hp]
    exact congrArg (fun k => inp (ax m c) (pr t) k _) (by dsimp only; omega)
  · rw [dif_neg h, blk_row]
    exact congrArg (fun k => inp (ax m c) (pr t) k _) (by dsimp only; omega)

/-- What a point writes, from the rows carried to it. -/
theorem point (r : Fin 256) (l : Fin 5504) :
    k0_pay1 (F := Ideal) (k0_pay4 (F := Ideal) (X0_0 m c t) p (iblk m c 2 t) (iblk m c 3 t)) (X0_1 m c t) (ix2 r l)
      = outs (ax m c) (acw m c) (acb m c)
          (ix2 ⟨t.val / 16 * 2048 + (t.val % 8 * 256 + r.val), by have := lt64 t; omega⟩ (col t l)) := by
  have e1 : (t.val / 16 * 2048 + (t.val % 8 * 256 + r.val)) / 2048 = t.val / 16 := by omega
  have e2 : (t.val / 16 * 2048 + (t.val % 8 * 256 + r.val)) % 2048 = t.val % 8 * 256 + r.val := by omega
  have h : outs (ax m c) (acw m c) (acb m c) (ix2 ⟨t.val / 16 * 2048 + (t.val % 8 * 256 + r.val), by have := lt64 t; omega⟩ (col t l))
      = exactGelu (conv (ax m c) (acw m c) (acb m c) (pr t) (t.val % 8 * 256 + r.val) (col t l)) * ax m c
        (ix2 ⟨t.val / 16 * 2048 + (t.val % 8 * 256 + r.val), by have := lt64 t; omega⟩ ⟨11008 + (t.val / 8 % 2 * 5504 + l.val), by omega⟩) := by
    refine congrArg (fun u => exactGelu u * _) ?_
    exact congrArg₂ (fun b k => conv (ax m c) (acw m c) (acb m c) b k (col t l)) (Fin.ext e1) e2
  rw [h]
  refine (pay1_at _ _ _).trans (congrArg₂ (· * ·) ((pay4_at _ _ _ _ r l).trans (congrArg exactGelu ?_)) (blk_v m c t r l))
  unfold conv
  exact congrArg₂ (· + ·) (congrArg₂ (· + ·) (congrArg₂ (· + ·)
    (congrArg₂ (· * ·) (tap m c t p hp 0 6 rfl (by decide) r l) (blk_cw m c t (ix2 0 l)))
    (congrArg₂ (· * ·) (tap m c t p hp 1 7 rfl (by decide) r l) (blk_cw m c t (ix2 1 l))))
    (congrArg₂ (· * ·) (blk_row m c t r l) (blk_cw m c t (ix2 2 l)))) (blk_cb m c t (ix2 0 l))

end Point

/-- The parts of a pair known to be equal to a pair. -/
theorem part1 {A B : Type} {o : A × B} {a : A} {b : B} (h : o = (a, b)) : o.1 = a := by
  subst h
  rfl
theorem part2 {A B : Type} {o : A × B} {a : A} {b : B} (h : o = (a, b)) : o.2 = b := by
  subst h
  rfl

/-- Every point hands on the last eight rows of its block. -/
theorem carried (r : Fin 8) (l : Fin 5504) :
    (outsAt0 m c t.val t.isLt).2 (ix2 r l) = X0_0 m c t (ix2 ⟨248 + r.val, by omega⟩ l : S256x5504.Idx) := by
  by_cases h : t.val % 8 = 0
  · rw [congrFun (part2 (outsAt0_A m c t h)) (ix2 r l)]
    frame_out
    exact pay3_at _ r l
  · rw [congrFun (part2 (outsAt0_B m c t h)) (ix2 r l)]
    frame_out
    exact pay3_at _ r l

/-- What a point leaves. -/
theorem left (r : Fin 256) (l : Fin 5504) : (outsAt0 m c t.val t.isLt).1 (ix2 r l)
    = outs (ax m c) (acw m c) (acb m c)
          (ix2 ⟨t.val / 16 * 2048 + (t.val % 8 * 256 + r.val), by have := lt64 t; omega⟩ (col t l)) := by
  by_cases h : t.val % 8 = 0
  · rw [congrFun (part1 (outsAt0_A m c t h)) (ix2 r l)]
    frame_out
    exact point m c t _ (fun j l => (pay2_at _).trans (by
      unfold inp
      rw [dif_neg (by omega)])) r l
  · have ht : t.val - 1 < cfg0.N := lt_of_le_of_lt (Nat.sub_le _ _) t.isLt
    rw [congrFun (part1 (outsAt0_B m c t h)) (ix2 r l)]
    frame_out
    erw [Memref.IsWhole.read_unread]
    refine point m c t _ (fun j l => ?_) r l
    refine (carried m c ⟨t.val - 1, ht⟩ ⟨6 + j.val, by omega⟩ l).trans ((blk_row m c _ _ l).trans ?_)
    have hpr : pr ⟨t.val - 1, ht⟩ = pr t := Fin.ext (by dsimp only; omega)
    have hco : col ⟨t.val - 1, ht⟩ l = col t l := Fin.ext (by dsimp only; omega)
    rw [hpr, hco]
    exact congrArg (fun k => inp (ax m c) _ k _) (by dsimp only; omega)

end Blocks

/-! ## The run -/

theorem lanes (y : S256x5504.Idx) : ∃ (r : Fin 256) (l : Fin 5504), y = ix2 r l := ⟨y 0, y 1, by blk_ext⟩

/-- The outputs after the run. -/
theorem final_outs (c : Dev nD) : (dats m 0 c).arrAt 4 cfg0.N = outs (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  obtain ⟨r, l, rfl⟩ := lanes y
  have he : ((View.whole main_v1).slice (win0_4.rect t)).emb (ix2 r l)
      = (ix2 ⟨t.val / 16 * 2048 + (t.val % 8 * 256 + r.val), by have := lt64 t; omega⟩ ⟨t.val / 8 % 2 * 5504 + l.val, by omega⟩
        : S8192x11008.Idx) := by blk_ext [idx t]
  rw [he]
  exact left m c t r l

/-- The run, read. -/
theorem run (ρ : Dev nD → PrngReg) : θ_run defs (onTc (τ := τ) (main (F := Ideal))) ⟨m, fun _ => 0, ρ⟩ fun r => ∀ c : Dev nD,
      r.2.mem ((c : Thread nD τ).loc main_v1)
        = outs (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_outs m c), (h c).2⟩) (Value.run_blocks m ρ)

/-! ## The reference's values at an index -/

section Ref

open Cert.Reference11Ideal.Read

variable (x0 : S8320x22016.Idx → EReal) (x1 : S3x11008.Idx → EReal) (x2 : S11008.Idx → EReal)

theorem ref_row (b : Fin 4) (k : Fin 2050) (n : Fin 11008) : val_main_v5 (F := Ideal) x0 (ix3 b k n) = inp x0 b k.val n := by
  pointwise [val_main_v0, val_main_v1, val_main_v4, val_main_v5, val_main_cst, inp]
  by_cases h : k.val < 2
  · rw [dif_pos h, dif_neg (by omega)]
  · rw [dif_neg h, dif_pos (by omega)]

theorem ref_conv (b : Fin 4) (k : Fin 2048) (n : Fin 11008) : val_main_v28 (F := Ideal) x0 x1 x2 (ix3 b k n) = conv x0 x1 x2 b k.val n := by
  pointwise [val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, ref_row, conv]
  rw [Nat.add_comm 1 k.val, Nat.add_comm 2 k.val]

theorem rows (i : S8192x11008.Idx) : ∃ (b : Fin 8192) (n : Fin 11008), i = ix2 b n := ⟨i 0, i 1, by blk_ext⟩

theorem ref_outs : val_main_v38 (F := Ideal) x0 x1 x2 = outs x0 x1 x2 := by
  funext i
  obtain ⟨r, n, rfl⟩ := rows i
  pointwise [val_main_v2, val_main_v3, val_main_v29, val_main_v30, val_main_v31, val_main_v32, val_main_v33, val_main_v34, val_main_v35, val_main_v36, val_main_v37, val_main_v38, val_main_cst_0, val_main_cst_1, ref_conv, outs]
  exact congrArg (· * _) (exactGelu_erfc _)

end Ref

/-! ## The claims -/

/-- The frames: each program runs and leaves its arguments and its semaphores as they were. -/
theorem frame : Cert.quiescent_Kernel11 := fun m ρ _ => Cert.Kernel11.Gen.frame m ρ
theorem frame_ideal : Cert.quiescent_Kernel11Ideal := fun m ρ _ => Cert.Kernel11Ideal.Gen.frame m ρ
theorem frame_ref : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The ideal pass rewrote nothing. -/
theorem preserves : Cert.preserves_Kernel11_Kernel11Ideal := trivial

/-- The kernel computes the reference's outputs. -/
theorem algebraic : Cert.algebraic_Kernel11Ideal_Reference11Ideal := by
  intro m ρ m' ρ' _ hagree
  refine ⟨fun c => outs (m ((c.tc : Thread Cert.Kernel11Ideal.nD Cert.Kernel11Ideal.τ).loc Cert.Kernel11Ideal.main_arg0))
      (m ((c.tc : Thread Cert.Kernel11Ideal.nD Cert.Kernel11Ideal.τ).loc Cert.Kernel11Ideal.main_arg1))
      (m ((c.tc : Thread Cert.Kernel11Ideal.nD Cert.Kernel11Ideal.τ).loc Cert.Kernel11Ideal.main_arg2)), run m ρ,
    (θ_run Cert.Reference11Ideal.defs _ _).mono (fun _ h c => ⟨(h c).1.trans ?_, (h c).2⟩)
      (Cert.Reference11Ideal.Value.run (F := Ideal) m' ρ')⟩
  obtain ⟨e0, e1, e2⟩ := hagree c
  rw [Cert.Reference11Ideal.Read.val_main_v38_eq, e0, e1, e2]
  exact ref_outs _ _ _

end Cert.FfnPrompt

end
-- ==== Proof.Heads.lean ====
module

public import Idealize.ShloMosaic.Lib.Pointwise
public import Idealize.ShloMosaic.Lib.Routing.OpsOne

@[expose] public section

noncomputable section

open Idealize.ShloMosaic Idealize.ShloMosaic.Routing

/-! # Columns spread over heads: the padded parameter rows and the one-hot products -/

namespace Cert.Heads

/-- A product with a column that holds one 1 and zeros picks the entry at the 1, whatever the other entries are. -/
theorem pick {n : ℕ} (f : Fin n → EReal) (h : Fin n) : ∑ k : Fin n, f k * (if k = h then 1 else 0) = f h := by
  rw [Finset.sum_eq_single h (fun k _ hk => by rw [if_neg hk, mul_zero]) (fun hk => absurd (Finset.mem_univ h) hk), if_pos rfl, mul_one]

/-- `x.at[0, :U].set(v)` as it prints, read at an entry of row 0 it writes. -/
theorem row_set {α : Type} {C U w : ℕ} (d : ScatterDims (shape2 1 C) (shape1 2) (shape1 U)) (hiw : d.insertedWindowDims = [0])
    (hsd : d.scatterDimsToOperandDims = [0, 1]) (hivd : d.indexVectorDim = 0) (x0 : (shape2 1 C).Idx → α) (idx : IVec (shape1 2) w)
    (h0 : (idx (ValueIdx.ix1 (0 : Fin 2))).toInt = 0) (h1 : (idx (ValueIdx.ix1 (1 : Fin 2))).toInt = 0) (upd : (shape1 U).Idx → α) (r : Fin 1) (c : Fin C) (hc : c.val < U) :
    Host.scatter d (fun _ b => b) x0 idx upd (ValueIdx.ix2 r c) = upd (ValueIdx.ix1 ⟨c.val, hc⟩) := by
  have hk : d.sKept = [1] := by
    show (shape2 1 C).kept d.insertedWindowDims = _
    rw [hiw]
    rfl
  have hwin1 : ∀ k : Fin U, d.window (ValueIdx.ix1 k) 1 = k.val := fun k => by
    unfold ScatterDims.window
    rw [dif_pos (by rw [hk]; simp)]
    exact congrArg (fun t => ((ValueIdx.ix1 k : (shape1 U).Idx) t).val) (Subsingleton.elim (α := Fin 1) _ 0)
  have hwin0 : ∀ k : Fin U, d.window (ValueIdx.ix1 k) 0 = 0 := fun k => by
    unfold ScatterDims.window
    rw [dif_neg fun h => (of_decide_eq_true (List.mem_filter.1 h).2) (by rw [hiw]; simp)]
  have lands : ∀ k : Fin U, d.resultIdx? (ValueIdx.ix1 k) idx = some (ValueIdx.ix2 r c) ↔ k.val = c.val := fun k => by
    rw [resultIdx?_ix2, start_pair d hsd hivd, start_pair d hsd hivd, hwin0, hwin1, h0, h1]
    have := r.isLt
    omega
  refine scatter_set_hit d x0 idx upd _ _ (fun k' hk' => ?_) (ValueIdx.ix1 ⟨c.val, hc⟩) ((lands _).2 rfl)
  have q := (lands (k' 0)).1 ((congrArg (fun t => d.resultIdx? t idx) (ValueIdx.eq_ix1 k').symm).trans hk')
  rw [ValueIdx.eq_ix1 k']
  exact congrArg (fun e => upd (ValueIdx.ix1 e)) (Fin.ext q)

/-- The sign of a word, read signed. -/
def sign (x : BitVec 32) : BitVec 32 := if x = 0 then 0 else if x.msb then -1 else 1

/-- `j // 128` as it prints, on a word. -/
def floorDiv (x : BitVec 32) : BitVec 32 :=
  Scalar.select (IntOp.andi (IntOp.cmpi .ne (sign x) (sign 128#32)) (IntOp.cmpi .ne (IntOp.remsi .host x 128#32) 0#32))
    (IntOp.subi (IntOp.divsi .host x 128#32) 1#32) (IntOp.divsi .host x 128#32)

theorem floorDiv_eq : ∀ j : Fin 4096, floorDiv (BitVec.ofNat 32 j.val) = BitVec.ofNat 32 (j.val / 128) := by
  decide +kernel

/-- The table of ones at an entry: 1 where the row is the column's head. -/
theorem ones_at (k : Fin 128) (j : Fin 4096) :
    FloatOps.uitofp (F := Ideal) .f32 (IntOp.cmpi .eq (BitVec.ofNat 32 k.val) (floorDiv (BitVec.ofNat 32 j.val)))
      = if k = ⟨j.val / 128, by omega⟩ then (1 : EReal) else 0 := by
  rw [floorDiv_eq]
  by_cases e : k = ⟨j.val / 128, by omega⟩
  · rw [if_pos e, e, IntOp.cmpi_eq_self]
    simp [FloatOps.uitofp]
  · have hw : BitVec.ofNat 32 k.val ≠ BitVec.ofNat 32 (j.val / 128) := fun h => e (Fin.ext (by
      have := congrArg BitVec.toNat h
      simp only [BitVec.toNat_ofNat] at this
      show k.val = j.val / 128
      omega))
    have hc : IntOp.cmpi .eq (BitVec.ofNat 32 k.val) (BitVec.ofNat 32 (j.val / 128)) = 0#1 := by
      show BitVec.ofBool (BitVec.ofNat 32 k.val == BitVec.ofNat 32 (j.val / 128)) = 0#1
      rw [beq_eq_false_iff_ne.2 hw]
      rfl
    rw [if_neg e, hc]
    simp [FloatOps.uitofp]

/-! ## Sums over a chunk of 64 rows -/

/-- A fold of additions is the sum. -/
theorem foldl_add {ι : Type} (f : ι → EReal) (l : List ι) (a : EReal) : l.foldl (fun r n => r + f n) a = a + (l.map f).sum := by
  induction l generalizing a with
  | nil => simp
  | cons n l ih => rw [List.foldl_cons, ih, List.map_cons, List.sum_cons, add_assoc]

/-- The shape of the running sum's window. -/
abbrev Win : Shape := ⟨3, ![1, 64, 1]⟩

theorem win_numel : Win.numel = 64 := by decide +kernel

theorem win_pos : ∀ n : Fin Win.numel,
    (Win.rowMajor.symm n 0).val = 0 ∧ (Win.rowMajor.symm n 1).val = n.val ∧ (Win.rowMajor.symm n 2).val = 0 := by
  decide +kernel

/-- A window's positions from 63 rows above row `i` are the rows up to `i`. -/
theorem shift (i : Fin 64) (g : Fin 64 → EReal) :
    ∑ n : Fin 64, (if h : 63 ≤ i.val + n.val then g ⟨i.val + n.val - 63, by omega⟩ else 0) = ∑ k : Fin 64, if k.val ≤ i.val then g k else 0 := by
  have e : ∀ n : Fin 64, (if h : 63 ≤ i.val + n.val then g ⟨i.val + n.val - 63, by omega⟩ else 0)
      = if 63 ≤ i.val + n.val then g ⟨i.val + n.val - 63, by omega⟩ else 0 := fun n => by split <;> rfl
  rw [Finset.sum_congr rfl fun n _ => e n, ← Finset.sum_filter, ← Finset.sum_filter]
  refine Finset.sum_nbij' (fun n => ⟨i.val + n.val - 63, by omega⟩) (fun k => ⟨(k.val + 63 - i.val) % 64, by omega⟩) ?_ ?_ ?_ ?_ ?_
  · intro n hn
    simp only [Finset.mem_filter, Finset.mem_univ, true_and] at hn ⊢
    omega
  · intro k hk
    simp only [Finset.mem_filter, Finset.mem_univ, true_and] at hk ⊢
    omega
  · intro n hn
    simp only [Finset.mem_filter, Finset.mem_univ, true_and] at hn
    refine Fin.ext ?_
    show (i.val + n.val - 63 + 63 - i.val) % 64 = n.val
    omega
  · intro k hk
    simp only [Finset.mem_filter, Finset.mem_univ, true_and] at hk
    refine Fin.ext ?_
    show i.val + (k.val + 63 - i.val) % 64 - 63 = k.val
    omega
  · intro n hn
    rfl

/-- `jnp.cumsum` along the middle axis of an `[A, 64, C]` array, read at an entry: the sum of the entries up to it. -/
theorem cumsum_at {A C : ℕ} {u : Shape} (x : (⟨3, ![A, 64, C]⟩ : Shape).Idx → EReal) (init : u.Idx → EReal)
    (h : (⟨3, ![A, 64, C]⟩ : Shape).ReduceWindows ![1, 64, 1] ![1, 1, 1] ![0, 63, 0] ![0, 0, 0] (⟨3, ![A, 64, C]⟩ : Shape))
    (hu : 0 < u.numel) (h0 : ∀ i, init i = 0) (a : Fin A) (i : Fin 64) (c : Fin C) :
    Host.reduceWindowAdd (F := Ideal) (φ := .f32) ![1, 64, 1] ![1, 1, 1] ![0, 63, 0] ![0, 0, 0] x init h hu (ix3 a i c)
      = ∑ k : Fin 64, if k.val ≤ i.val then x (ix3 a k c) else 0 := by
  refine Eq.trans ?_ (shift i fun k => x (ix3 a k c))
  unfold Host.reduceWindowAdd
  rw [Ideal.hostReduceWindowAdd_def]
  unfold Ideal.hostReduceWindowAdd Host.reduceWindow
  dsimp only
  rw [foldl_add, h0, zero_add, ← Fin.sum_univ_def]
  refine Fintype.sum_equiv (finCongr win_numel) _ _ fun n => ?_
  obtain ⟨p0, p1, p2⟩ := win_pos n
  have q0 := a.isLt
  have q2 := c.isLt
  have q1 : n.val < 64 := lt_of_lt_of_eq n.isLt win_numel
  by_cases hc : 63 ≤ i.val + n.val
  · rw [dif_pos (show 63 ≤ i.val + (finCongr win_numel n).val from hc)]
    have hin : ∀ d : Fin 3, (![0, 63, 0] : Fin 3 → ℕ) d ≤ (ix3 a i c d).val * (![1, 1, 1] : Fin 3 → ℕ) d + (Win.rowMajor.symm n d).val
        ∧ (ix3 a i c d).val * (![1, 1, 1] : Fin 3 → ℕ) d + (Win.rowMajor.symm n d).val - (![0, 63, 0] : Fin 3 → ℕ) d < (![A, 64, C] : Fin 3 → ℕ) d := by
      intro d
      match d with
      | ⟨0, _⟩ =>
        show 0 ≤ a.val * 1 + (Win.rowMajor.symm n 0).val ∧ a.val * 1 + (Win.rowMajor.symm n 0).val - 0 < A
        omega
      | ⟨1, _⟩ =>
        show 63 ≤ i.val * 1 + (Win.rowMajor.symm n 1).val ∧ i.val * 1 + (Win.rowMajor.symm n 1).val - 63 < 64
        omega
      | ⟨2, _⟩ =>
        show 0 ≤ c.val * 1 + (Win.rowMajor.symm n 2).val ∧ c.val * 1 + (Win.rowMajor.symm n 2).val - 0 < C
        omega
    refine (dif_pos hin).trans (congrArg x (funext fun d => Fin.ext ?_))
    match d with
    | ⟨0, _⟩ =>
      show a.val * 1 + (Win.rowMajor.symm n 0).val - 0 = a.val
      omega
    | ⟨1, _⟩ =>
      show i.val * 1 + (Win.rowMajor.symm n 1).val - 63 = i.val + n.val - 63
      omega
    | ⟨2, _⟩ =>
      show c.val * 1 + (Win.rowMajor.symm n 2).val - 0 = c.val
      omega
  · rw [dif_neg (show ¬ 63 ≤ i.val + (finCongr win_numel n).val from hc)]
    refine dif_neg fun hin => hc ?_
    have := (hin 1).1
    have e : 63 ≤ i.val * 1 + (Win.rowMajor.symm n 1).val := this
    omega

end Cert.Heads

end
-- ==== Proof.GateStep.lean ====
module

public import proofs.«01_k».proof.Defs
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Scalars
public import proofs.«01_k».proof.Proof.Heads
public import Idealize.ShloMosaic.Lib.Pipeline.ValueKit
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

/-! # The delta rule's decays and strengths, one decode step

The kernel computes the two rows of 32 heads in blocks of 1024 of the 4096 columns, each head's value spread over its 128 columns
by a product with a table of ones. -/

namespace Cert.GateStep

open Cert.Kernel12Ideal Cert.Kernel12Ideal.Gen Cert.Scalars

section Spec

variable (x : S8320x256.Idx → EReal) (al dt : S32.Idx → EReal)

/-- A head's log decay at a row of the projections. -/
def decay (r : Fin 8320) (h : Fin 32) : EReal := -Ideal.exp (al (ix1 h)) * softplus (x (ix2 r ⟨h.val, by omega⟩) + dt (ix1 h))

/-- A head's strength at a row. -/
def strength (r : Fin 8320) (h : Fin 32) : EReal := sigm (x (ix2 r ⟨128 + h.val, by omega⟩))

/-- The decays of the decode rows, each on its head's columns. -/
def decays : S128x4096.Idx → EReal := fun i =>
  decay x al dt ⟨8192 + (i 0).val, by idx_bounds i; omega⟩ ⟨(i 1).val / 128, by idx_bounds i; omega⟩

/-- The strengths of the decode rows. -/
def strengths : S128x4096.Idx → EReal := fun i =>
  strength x ⟨8192 + (i 0).val, by idx_bounds i; omega⟩ ⟨(i 1).val / 128, by idx_bounds i; omega⟩

end Spec

/-! ## The kernel's values at an index -/

theorem pay2_at (v0 : Vec Ideal S1x128 .f32) (v5 : Vec Ideal S128x128 .f32) (v6 : Vec Ideal S1x128 .f32) (v28 : Vec Ideal S128x1024 .f32) (y : S128x1024.Idx) :
    k0_pay2 (F := Ideal) v0 v5 v6 v28 y
      = ∑ k : Fin 128, (-Ideal.exp (v0 (ix2 0 k)) * softplus (v5 (ix2 (y 0) k) + v6 (ix2 0 k))) * v28 (ix2 k (y 1)) := by
  pointwise [k0_pay2, k0_pay1]
  simp only [zero_sub, softplus]
  rfl

theorem pay3_at (v20 : Vec Ideal S128x128 .f32) (v28 : Vec Ideal S128x1024 .f32) (y : S128x1024.Idx) :
    k0_pay3 (F := Ideal) v20 v28 y = ∑ k : Fin 128, sigm (v20 (ix2 (y 0) k)) * v28 (ix2 k (y 1)) := by
  pointwise [k0_pay3, k0_pay1]
  simp only [zero_sub, one_bits, sigm]

/-! ## The run -/

variable (m : (ℓ : Loc nD τ sig) → Buf (Elt Ideal) ℓ)

/-- The block indices of the windows at every grid point. -/
theorem idx : ∀ t : Fin cfg0.N,
    win0_0.index t = ![64, 0] ∧ win0_1.index t = ![64, 1] ∧ win0_2.index t = ![0, 0] ∧ win0_3.index t = ![0, 0]
      ∧ win0_4.index t = ![0, t.val] ∧ win0_5.index t = ![0, t.val] ∧ win0_6.index t = ![0, t.val] := by
  show ∀ t : Fin grid0.N, _
  decide +kernel

/-- The parameter rows the host pads to 128 columns, read at a head. -/
theorem entry_al (c : Dev nD) (r : Fin 1) (k : Fin 128) (hk : k.val < 32) :
    V m c main_v13 (ix2 r k) = m ((c : Thread nD τ).loc main_arg1) (ix1 ⟨k.val, hk⟩) := by
  show StableHlo.after (List.flatten [hostOps0, hostOps0_1, hostOps0_2]) (fun b => m (c, b)) (Proc.devRef .tc main_v13) (ix2 r k) = _
  simp only [List.flatten_cons, List.flatten_nil, List.append_nil, List.cons_append, List.nil_append]
  after_results
  exact Heads.row_set _ rfl rfl rfl _ _ (by decide) (by decide) _ r k hk

theorem entry_dt (c : Dev nD) (r : Fin 1) (k : Fin 128) (hk : k.val < 32) :
    V m c main_v18 (ix2 r k) = m ((c : Thread nD τ).loc main_arg2) (ix1 ⟨k.val, hk⟩) := by
  show StableHlo.after (List.flatten [hostOps0, hostOps0_1, hostOps0_2]) (fun b => m (c, b)) (Proc.devRef .tc main_v18) (ix2 r k) = _
  simp only [List.flatten_cons, List.flatten_nil, List.append_nil, List.cons_append, List.nil_append]
  after_results
  exact Heads.row_set _ rfl rfl rfl _ _ (by decide) (by decide) _ r k hk

/-- The table of ones: head `k` on its 128 columns. -/
theorem entry_ones (c : Dev nD) (k : Fin 128) (j : Fin 4096) :
    V m c main_v8 (ix2 k j) = if k = ⟨j.val / 128, by omega⟩ then (1 : EReal) else 0 := by
  show StableHlo.after (List.flatten [hostOps0, hostOps0_1, hostOps0_2]) (fun b => m (c, b)) (Proc.devRef .tc main_v8) (ix2 k j) = _
  simp only [List.flatten_cons, List.flatten_nil, List.append_nil, List.cons_append, List.nil_append]
  after_results
  simp only [StableHlo.TRef.ofBuf_toBuf, id]
  simp only [StableHlo.TRef.ofBuf, StableHlo.TRef.toBuf, cast_eq]
  pointwise
  exact Heads.ones_at k j

section Blocks

variable (c : Dev nD) (t : Fin cfg0.N)

theorem lt4 (t : Fin cfg0.N) : t.val < 4 := lt_of_lt_of_eq t.isLt N_0

theorem blk_a (y : S128x128.Idx) : iblk m c 0 t y = m ((c : Thread nD τ).loc main_arg0)
    (ix2 ⟨8192 + (y 0).val, by idx_bounds y; omega⟩ ⟨(y 1).val, by idx_bounds y; omega⟩) := by
  blk_ext [iblk, idx t]

theorem blk_b (y : S128x128.Idx) : iblk m c 1 t y = m ((c : Thread nD τ).loc main_arg0)
    (ix2 ⟨8192 + (y 0).val, by idx_bounds y; omega⟩ ⟨128 + (y 1).val, by idx_bounds y; omega⟩) := by
  blk_ext [iblk, idx t]

theorem blk_al (r : Fin 1) (k : Fin 128) (hk : k.val < 32) :
    iblk m c 2 t (ix2 r k) = m ((c : Thread nD τ).loc main_arg1) (ix1 ⟨k.val, hk⟩) := by
  refine Eq.trans ?_ (entry_al m c r k hk)
  show V m c main_v13 _ = _
  blk_ext [idx t]

theorem blk_dt (r : Fin 1) (k : Fin 128) (hk : k.val < 32) :
    iblk m c 3 t (ix2 r k) = m ((c : Thread nD τ).loc main_arg2) (ix1 ⟨k.val, hk⟩) := by
  refine Eq.trans ?_ (entry_dt m c r k hk)
  show V m c main_v18 _ = _
  blk_ext [idx t]

theorem blk_ones (k : Fin 128) (l : Fin 1024) : iblk m c 4 t (ix2 k l)
    = if k = ⟨(t.val * 1024 + l.val) / 128, by have := lt4 t; omega⟩ then (1 : EReal) else 0 := by
  refine Eq.trans ?_ (entry_ones m c k ⟨t.val * 1024 + l.val, by have := lt4 t; omega⟩)
  show V m c main_v8 _ = _
  blk_ext [idx t]

theorem head_lt (t : Fin cfg0.N) (l : Fin 1024) : (t.val * 1024 + l.val) / 128 < 32 := by have := lt4 t; omega

/-- The decays of a block. -/
theorem decay_at (r : Fin 128) (l : Fin 1024) :
    k0_pay2 (F := Ideal) (iblk m c 2 t) (iblk m c 0 t) (iblk m c 3 t) (iblk m c 4 t) (ix2 r l)
      = decays (m ((c : Thread nD τ).loc main_arg0)) (m ((c : Thread nD τ).loc main_arg1)) (m ((c : Thread nD τ).loc main_arg2))
          (ix2 r ⟨t.val * 1024 + l.val, by have := lt4 t; omega⟩) := by
  rw [pay2_at]
  refine (Finset.sum_congr rfl fun k _ => congrArg (_ * ·) (blk_ones m c t k l)).trans ?_
  refine (Heads.pick _ _).trans ?_
  rw [blk_al m c t 0 _ (head_lt t l), blk_dt m c t 0 _ (head_lt t l), blk_a]
  rfl

/-- The strengths of a block. -/
theorem strength_at (r : Fin 128) (l : Fin 1024) :
    k0_pay3 (F := Ideal) (iblk m c 1 t) (iblk m c 4 t) (ix2 r l)
      = strengths (m ((c : Thread nD τ).loc main_arg0)) (ix2 r ⟨t.val * 1024 + l.val, by have := lt4 t; omega⟩) := by
  rw [pay3_at]
  refine (Finset.sum_congr rfl fun k _ => congrArg (_ * ·) (blk_ones m c t k l)).trans ?_
  refine (Heads.pick _ _).trans ?_
  rw [blk_b]
  rfl

end Blocks

theorem lanes (y : S128x1024.Idx) : ∃ (r : Fin 128) (l : Fin 1024), y = ix2 r l := ⟨y 0, y 1, by blk_ext⟩

/-- The decays after the run. -/
theorem final_decays (c : Dev nD) : (dats m 0 c).arrAt 5 cfg0.N
    = decays (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; frame_out
  obtain ⟨r, l, rfl⟩ := lanes y
  have he : ((View.whole main_v19_0).slice (win0_5.rect t)).emb (ix2 r l)
      = (ix2 r ⟨t.val * 1024 + l.val, by have := lt4 t; omega⟩ : S128x4096.Idx) := by blk_ext [idx t]
  rw [he]
  exact decay_at m c t r l

/-- The strengths after the run. -/
theorem final_strengths (c : Dev nD) : (dats m 0 c).arrAt 6 cfg0.N = strengths (m ((c : Thread nD τ).loc main_arg0)) := by
  refine (dats m 0 c).arrAt_eq_of_covers 6 _ (by decide +kernel) fun t hf y => ?_
  blk_simp
  rw [after0_6]; frame_out
  obtain ⟨r, l, rfl⟩ := lanes y
  have he : ((View.whole main_v19_1).slice (win0_6.rect t)).emb (ix2 r l)
      = (ix2 r ⟨t.val * 1024 + l.val, by have := lt4 t; omega⟩ : S128x4096.Idx) := by blk_ext [idx t]
  rw [he]
  exact strength_at m c t r l

/-- The run, read. -/
theorem run (ρ : Dev nD → PrngReg) : θ_run defs (onTc (τ := τ) (main (F := Ideal))) ⟨m, fun _ => 0, ρ⟩ fun r => ∀ c : Dev nD,
      r.2.mem ((c : Thread nD τ).loc main_v19_0)
        = decays (m ((c : Thread nD τ).loc main_arg0)) (m ((c : Thread nD τ).loc main_arg1)) (m ((c : Thread nD τ).loc main_arg2))
      ∧ r.2.mem ((c : Thread nD τ).loc main_v19_1) = strengths (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_decays m c), (h c).2.1.trans (final_strengths m c), (h c).2.2⟩)
    (Value.run_blocks m ρ)

/-! ## The reference's values at an index -/

section Ref

open Cert.Reference12Ideal.Read

variable (x0 : S8320x256.Idx → EReal) (x1 x2 : S32.Idx → EReal)

theorem ref_softplus (r : Fin 128) (h : Fin 32) : val_main_v7 (F := Ideal) x0 x2 (ix2 r h)
    = softplus (x0 (ix2 ⟨8192 + r.val, by omega⟩ ⟨h.val, by omega⟩) + x2 (ix1 h)) := by
  pointwise [val_main_v0, val_main_v4, val_main_v5, val_main_v6, val_main_v7, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, softplus]
  rw [if_neg (by simp)]
  rfl

theorem rows (i : S128x4096.Idx) : ∃ (b : Fin 128) (n : Fin 4096), i = ix2 b n := ⟨i 0, i 1, by blk_ext⟩

theorem ref_decays : val_main_v19 (F := Ideal) x0 x1 x2 = decays x0 x1 x2 := by
  funext i
  obtain ⟨b, n, rfl⟩ := rows i
  pointwise [val_main_v2, val_main_v3, val_main_v8, val_main_v9, val_main_v10, val_main_v17, val_main_v18, val_main_v19, ref_softplus, decays, decay]

theorem ref_strengths : val_main_v22 (F := Ideal) x0 = strengths x0 := by
  funext i
  obtain ⟨b, n, rfl⟩ := rows i
  pointwise [val_main_v1, val_main_v11, val_main_v12, val_main_cst, val_main_v13, val_main_v14, val_main_cst_0, val_main_v15, val_main_v16, val_main_v20, val_main_v21, val_main_v22, strengths, strength, sigm]

end Ref

/-! ## The claims -/

/-- The frames: each program runs and leaves its arguments and its semaphores as they were. -/
theorem frame : Cert.quiescent_Kernel12 := fun m ρ _ => Cert.Kernel12.Gen.frame m ρ
theorem frame_ideal : Cert.quiescent_Kernel12Ideal := fun m ρ _ => Cert.Kernel12Ideal.Gen.frame m ρ
theorem frame_ref : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- The ideal pass rewrote nothing. -/
theorem preserves : Cert.preserves_Kernel12_Kernel12Ideal := trivial

/-- The kernel computes the reference's decays and strengths. -/
theorem algebraic : Cert.algebraic_Kernel12Ideal_Reference12Ideal := by
  intro m ρ m' ρ' _ hagree
  refine ⟨fun c => decays (m ((c.tc : Thread Cert.Kernel12Ideal.nD Cert.Kernel12Ideal.τ).loc Cert.Kernel12Ideal.main_arg0))
      (m ((c.tc : Thread Cert.Kernel12Ideal.nD Cert.Kernel12Ideal.τ).loc Cert.Kernel12Ideal.main_arg1))
      (m ((c.tc : Thread Cert.Kernel12Ideal.nD Cert.Kernel12Ideal.τ).loc Cert.Kernel12Ideal.main_arg2)),
    fun c => strengths (m ((c.tc : Thread Cert.Kernel12Ideal.nD Cert.Kernel12Ideal.τ).loc Cert.Kernel12Ideal.main_arg0)), run m ρ,
    (θ_run Cert.Reference12Ideal.defs _ _).mono (fun _ h c => ⟨(h c).1.trans ?_, (h c).2.1.trans ?_, (h c).2.2⟩)
      (Cert.Reference12Ideal.Value.run (F := Ideal) m' ρ')⟩
  · obtain ⟨e0, e1, e2⟩ := hagree c
    rw [Cert.Reference12Ideal.Read.val_main_v19_eq, e0, e1, e2]
    exact ref_decays _ _ _
  · obtain ⟨e0, e1, e2⟩ := hagree c
    rw [Cert.Reference12Ideal.Read.val_main_v22_eq, e0]
    exact ref_strengths _

end Cert.GateStep

end
-- ==== Proof.GatePrompt.lean ====
module

public import proofs.«01_k».proof.Defs
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Scalars
public import proofs.«01_k».proof.Proof.Heads
public import Idealize.ShloMosaic.Lib.Pipeline.ValueKit
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

/-! # The delta rule's decays and strengths over the prompts

A grid point computes 256 rows and 1024 of the 4096 columns. The decays are summed within each chunk of 64 rows by a product with a
triangular table, and each head's value is spread over its 128 columns by a product with a table of ones. -/

namespace Cert.GatePrompt

open Cert.Kernel13Ideal Cert.Kernel13Ideal.Gen Cert.Scalars

section Spec

variable (x : S8320x256.Idx → EReal) (al dt : S32.Idx → EReal)

/-- A head's log decay at a row of the projections. -/
def decay (r : Fin 8320) (h : Fin 32) : EReal := -Ideal.exp (al (ix1 h)) * softplus (x (ix2 r ⟨h.val, by omega⟩) + dt (ix1 h))

/-- A head's strength at a row. -/
def strength (r : Fin 8320) (h : Fin 32) : EReal := sigm (x (ix2 r ⟨128 + h.val, by omega⟩))

/-- Row `k` of the chunk of 64 rows that holds row `r`. -/
def mate (r : Fin 8192) (k : Fin 64) : Fin 8320 := ⟨r.val / 64 * 64 + k.val, by omega⟩

/-- The head of a column. -/
def head (n : Fin 4096) : Fin 32 := ⟨n.val / 128, by omega⟩

/-- The decays summed from the start of the row's chunk, each on its head's columns. -/
def cums : S8192x4096.Idx → EReal := fun i => ∑ k : Fin 64, if k.val ≤ (i 0).val % 64 then decay x al dt (mate (i 0) k) (head (i 1)) else 0

/-- The decays summed over the row's chunk. -/
def totals : S8192x4096.Idx → EReal := fun i => ∑ k : Fin 64, decay x al dt (mate (i 0) k) (head (i 1))

/-- The strengths of the prompts' rows. -/
def strengths : S8192x4096.Idx → EReal := fun i => strength x ⟨(i 0).val, by idx_bounds i; omega⟩ (head (i 1))

end Spec

/-! ## The kernel's values at an index -/

theorem tri_word : ∀ i j : Fin 64, BitVec.setWidth 32 (IntOp.cmpi .sge (BitVec.ofNat 32 i.val) (BitVec.ofNat 32 j.val))
    = if j.val ≤ i.val then 1#32 else 0#32 := by
  decide +kernel

theorem pay10_at (i j : Fin 64) : k0_pay10 (F := Ideal) (ix2 i j) = if j.val ≤ i.val then (1 : EReal) else 0 := by
  pointwise [k0_pay10]
  rw [tri_word]
  split <;> simp [FloatOps.sitofp]

theorem pay11_at (i j : Fin 64) : k0_pay11 (F := Ideal) (ix2 i j) = (1 : EReal) := by
  pointwise [k0_pay11]

theorem pay7_at (v0 : Vec Ideal S1x128 .f32) (v5 : Vec Ideal S256x128 .f32) (v6 : Vec Ideal S1x128 .f32) (r : Fin 256) (k : Fin 128) :
    k0_pay7 (F := Ideal) v0 v5 v6 (ix2 r k) = -Ideal.exp (v0 (ix2 0 k)) * softplus (v5 (ix2 r k) + v6 (ix2 0 k)) := by
  pointwise [k0_pay7]
  simp only [zero_sub, softplus]
  rfl

/-- The product of a 64-row table with the rows of each of the four chunks, read at a row. -/
def chunkSum (w : FVec Ideal S64x64 .f32) (g : FVec Ideal S256x128 .f32) (r : Fin 256) (k : Fin 128) : EReal :=
  ∑ j : Fin 64, w (ix2 ⟨r.val % 64, by omega⟩ j) * g (ix2 ⟨r.val / 64 * 64 + j.val, by omega⟩ k)

theorem chunkSum_of (w : FVec Ideal S64x64 .f32) (g : FVec Ideal S256x128 .f32) (r : Fin 256) (k : Fin 128) (a : Fin 64) (f : Fin 64 → Fin 256)
    (ha : a.val = r.val % 64) (hf : ∀ j, (f j).val = r.val / 64 * 64 + j.val) : ∑ j : Fin 64, w (ix2 a j) * g (ix2 (f j) k) = chunkSum w g r k := by
  have e : a = ⟨r.val % 64, by omega⟩ := Fin.ext ha
  have e' : f = fun j => ⟨r.val / 64 * 64 + j.val, by omega⟩ := funext fun j => Fin.ext (hf j)
  rw [e, e']
  rfl

theorem pay4_at (g : FVec Ideal S256x128 .f32) (e : FVec Ideal S128x1024 .f32) (w : FVec Ideal S64x64 .f32) (f : FVec Ideal S64x128 .f32)
    (hf : ∀ i k, f (ix2 i k) = ∑ j : Fin 64, w (ix2 i j) * g (ix2 ⟨j.val, by omega⟩ k)) (r : Fin 256) (l : Fin 1024) :
    k0_pay4 (F := Ideal) g e w f (ix2 r l) = ∑ k : Fin 128, chunkSum w g r k * e (ix2 k l) := by
  pointwise [k0_pay4, k0_pay1, k0_pay2, k0_pay3]
  refine Finset.sum_congr rfl fun k _ => congrArg (· * _) ?_
  have hr := r.isLt
  split
  · rw [hf]
    exact chunkSum_of w g r k _ _ (by show r.val = _; omega) (fun j => by show j.val = _; omega)
  · split
    · exact chunkSum_of w g r k _ _ (by show r.val - 64 = _; omega) (fun j => by show 64 + j.val = _; omega)
    · split
      · exact chunkSum_of w g r k _ _ (by show r.val - 64 - 64 = _; omega) (fun j => by show 128 + j.val = _; omega)
      · exact chunkSum_of w g r k _ _ (by show r.val - 64 - 64 - 64 = _; omega) (fun j => by show 192 + j.val = _; omega)

theorem pay5_at (g : FVec Ideal S256x128 .f32) (e : FVec Ideal S128x1024 .f32) (w : FVec Ideal S64x64 .f32) (f : FVec Ideal S64x128 .f32)
    (hf : ∀ i k, f (ix2 i k) = ∑ j : Fin 64, w (ix2 i j) * g (ix2 ⟨j.val, by omega⟩ k)) (r : Fin 256) (l : Fin 1024) :
    k0_pay5 (F := Ideal) g e w f (ix2 r l) = ∑ k : Fin 128, chunkSum w g r k * e (ix2 k l) := by
  unfold k0_pay5
  exact pay4_at g e w f hf r l

theorem pay13_at (v0 : Vec Ideal S1x128 .f32) (v5 : Vec Ideal S256x128 .f32) (v6 : Vec Ideal S1x128 .f32) (i : Fin 64) (k : Fin 128) :
    k0_pay13 (F := Ideal) v0 v5 v6 (ix2 i k)
      = ∑ j : Fin 64, k0_pay10 (F := Ideal) (ix2 i j) * k0_pay7 (F := Ideal) v0 v5 v6 (ix2 ⟨j.val, by omega⟩ k) := by
  pointwise [k0_pay13, k0_pay12]

theorem pay14_at (v0 : Vec Ideal S1x128 .f32) (v5 : Vec Ideal S256x128 .f32) (v6 : Vec Ideal S1x128 .f32) (i : Fin 64) (k : Fin 128) :
    k0_pay14 (F := Ideal) v0 v5 v6 (ix2 i k)
      = ∑ j : Fin 64, k0_pay11 (F := Ideal) (ix2 i j) * k0_pay7 (F := Ideal) v0 v5 v6 (ix2 ⟨j.val, by omega⟩ k) := by
  pointwise [k0_pay14, k0_pay12]

theorem pay9_at (e : Vec Ideal S128x1024 .f32) (k : Fin 128) (l : Fin 1024) : k0_pay9 (F := Ideal) e (ix2 k l) = e (ix2 k l) := by
  pointwise [k0_pay9]

theorem pay6_at (v20 : Vec Ideal S256x128 .f32) (e : FVec Ideal S128x1024 .f32) (r : Fin 256) (l : Fin 1024) :
    k0_pay6 (F := Ideal) (k0_pay8 (F := Ideal) v20) e (ix2 r l) = ∑ k : Fin 128, sigm (v20 (ix2 r k)) * e (ix2 k l) := by
  pointwise [k0_pay6, k0_pay8]
  simp only [zero_sub, one_bits, sigm]

/-! ## The run -/

variable (m : (ℓ : Loc nD τ sig) → Buf (Elt Ideal) ℓ)

/-- The block indices of the windows at every grid point. -/
theorem idx : ∀ t : Fin cfg0.N,
    win0_0.index t = ![t.val / 4, 0] ∧ win0_1.index t = ![t.val / 4, 1] ∧ win0_2.index t = ![0, 0] ∧ win0_3.index t = ![0, 0]
      ∧ win0_4.index t = ![0, t.val % 4] ∧ win0_5.index t = ![t.val / 4, t.val % 4] ∧ win0_6.index t = ![t.val / 4, t.val % 4]
      ∧ win0_7.index t = ![t.val / 4, t.val % 4] := by
  show ∀ t : Fin grid0.N, _
  decide +kernel

/-- The parameter rows the host pads to 128 columns, read at a head. -/
theorem entry_al (c : Dev nD) (r : Fin 1) (k : Fin 128) (hk : k.val < 32) :
    V m c main_v13 (ix2 r k) = m ((c : Thread nD τ).loc main_arg1) (ix1 ⟨k.val, hk⟩) := by
  show StableHlo.after (List.flatten [hostOps0, hostOps0_1, hostOps0_2]) (fun b => m (c, b)) (Proc.devRef .tc main_v13) (ix2 r k) = _
  simp only [List.flatten_cons, List.flatten_nil, List.append_nil, List.cons_append, List.nil_append]
  after_results
  exact Heads.row_set _ rfl rfl rfl _ _ (by decide) (by decide) _ r k hk

theorem entry_dt (c : Dev nD) (r : Fin 1) (k : Fin 128) (hk : k.val < 32) :
    V m c main_v18 (ix2 r k) = m ((c : Thread nD τ).loc main_arg2) (ix1 ⟨k.val, hk⟩) := by
  show StableHlo.after (List.flatten [hostOps0, hostOps0_1, hostOps0_2]) (fun b => m (c, b)) (Proc.devRef .tc main_v18) (ix2 r k) = _
  simp only [List.flatten_cons, List.flatten_nil, List.append_nil, List.cons_append, List.nil_append]
  after_results
  exact Heads.row_set _ rfl rfl rfl _ _ (by decide) (by decide) _ r k hk

/-- The table of ones: head `k` on its 128 columns. -/
theorem entry_ones (c : Dev nD) (k : Fin 128) (j : Fin 4096) :
    V m c main_v8 (ix2 k j) = if k = ⟨j.val / 128, by omega⟩ then (1 : EReal) else 0 := by
  show StableHlo.after (List.flatten [hostOps0, hostOps0_1, hostOps0_2]) (fun b => m (c, b)) (Proc.devRef .tc main_v8) (ix2 k j) = _
  simp only [List.flatten_cons, List.flatten_nil, List.append_nil, List.cons_append, List.nil_append]
  after_results
  simp only [StableHlo.TRef.ofBuf_toBuf, id]
  simp only [StableHlo.TRef.ofBuf, StableHlo.TRef.toBuf, cast_eq]
  pointwise
  exact Heads.ones_at k j

section Blocks

variable (c : Dev nD) (t : Fin cfg0.N)

theorem lt128 (t : Fin cfg0.N) : t.val < 128 := lt_of_lt_of_eq t.isLt N_0

theorem blk_a (y : S256x128.Idx) : X0_0 m c t y = m ((c : Thread nD τ).loc main_arg0)
    (ix2 ⟨t.val / 4 * 256 + (y 0).val, by have := lt128 t; idx_bounds y; omega⟩ ⟨(y 1).val, by idx_bounds y; omega⟩) := by
  unfold X0_0 Pipeline.Window.fill
  rw [dif_pos (moved0_0 t _)]
  blk_ext [iblk, idx t]

theorem blk_b (y : S256x128.Idx) : X0_1 m c t y = m ((c : Thread nD τ).loc main_arg0)
    (ix2 ⟨t.val / 4 * 256 + (y 0).val, by have := lt128 t; idx_bounds y; omega⟩ ⟨128 + (y 1).val, by idx_bounds y; omega⟩) := by
  unfold X0_1 Pipeline.Window.fill
  rw [dif_pos (moved0_1 t _)]
  blk_ext [iblk, idx t]

theorem blk_al (r : Fin 1) (k : Fin 128) (hk : k.val < 32) :
    iblk m c 2 t (ix2 r k) = m ((c : Thread nD τ).loc main_arg1) (ix1 ⟨k.val, hk⟩) := by
  refine Eq.trans ?_ (entry_al m c r k hk)
  show V m c main_v13 _ = _
  blk_ext [idx t]

theorem blk_dt (r : Fin 1) (k : Fin 128) (hk : k.val < 32) :
    iblk m c 3 t (ix2 r k) = m ((c : Thread nD τ).loc main_arg2) (ix1 ⟨k.val, hk⟩) := by
  refine Eq.trans ?_ (entry_dt m c r k hk)
  show V m c main_v18 _ = _
  blk_ext [idx t]

/-- A column of the block's four, in the whole array. -/
def col (t : Fin cfg0.N) (l : Fin 1024) : Fin 4096 := ⟨t.val % 4 * 1024 + l.val, by omega⟩

/-- A row of the block, in the whole array. -/
def row (t : Fin cfg0.N) (r : Fin 256) : Fin 8192 := ⟨t.val / 4 * 256 + r.val, by have := lt128 t; omega⟩

theorem blk_ones (k : Fin 128) (l : Fin 1024) : iblk m c 4 t (ix2 k l)
    = if k = ⟨(col t l).val / 128, by have := (col t l).isLt; omega⟩ then (1 : EReal) else 0 := by
  refine Eq.trans ?_ (entry_ones m c k (col t l))
  show V m c main_v8 _ = _
  blk_ext [idx t, col]

theorem head_lt (t : Fin cfg0.N) (l : Fin 1024) : (col t l).val / 128 < 32 := by have := (col t l).isLt; omega

/-- The decays of a block's rows. -/
theorem decay_at (r : Fin 256) (l : Fin 1024) (s : Fin 8320) (hs : s.val = t.val / 4 * 256 + r.val) :
    k0_pay7 (F := Ideal) (iblk m c 2 t) (X0_0 m c t) (iblk m c 3 t) (ix2 r ⟨(col t l).val / 128, by have := head_lt t l; omega⟩)
      = decay (m ((c : Thread nD τ).loc main_arg0)) (m ((c : Thread nD τ).loc main_arg1)) (m ((c : Thread nD τ).loc main_arg2)) s (head (col t l)) := by
  have e : s = ⟨t.val / 4 * 256 + r.val, by have := lt128 t; omega⟩ := Fin.ext hs
  rw [e, pay7_at, blk_al m c t 0 _ (head_lt t l), blk_dt m c t 0 _ (head_lt t l), blk_a]
  rfl

theorem mate_val (r : Fin 256) (j : Fin 64) : (mate (row t r) j).val = t.val / 4 * 256 + (r.val / 64 * 64 + j.val) := by
  show (t.val / 4 * 256 + r.val) / 64 * 64 + j.val = _
  omega

/-- The decays summed along a block's chunks. -/
theorem cum_at (r : Fin 256) (l : Fin 1024) :
    k0_pay4 (F := Ideal) (k0_pay7 (F := Ideal) (iblk m c 2 t) (X0_0 m c t) (iblk m c 3 t)) (k0_pay9 (F := Ideal) (iblk m c 4 t))
        (k0_pay10 (F := Ideal)) (k0_pay13 (F := Ideal) (iblk m c 2 t) (X0_0 m c t) (iblk m c 3 t)) (ix2 r l)
      = cums (m ((c : Thread nD τ).loc main_arg0)) (m ((c : Thread nD τ).loc main_arg1)) (m ((c : Thread nD τ).loc main_arg2)) (ix2 (row t r) (col t l)) := by
  refine (pay4_at _ _ _ _ (pay13_at _ _ _) r l).trans ?_
  refine (Finset.sum_congr rfl fun k _ => congrArg (_ * ·) ((pay9_at _ k l).trans (blk_ones m c t k l))).trans ?_
  refine (Heads.pick _ _).trans ?_
  refine Finset.sum_congr rfl fun j _ => ?_
  rw [pay10_at, decay_at m c t _ l (mate (row t r) j) (mate_val t r j), ite_mul, one_mul, zero_mul]
  refine if_congr ?_ rfl rfl
  show j.val ≤ r.val % 64 ↔ j.val ≤ (t.val / 4 * 256 + r.val) % 64
  omega

/-- The decays summed over a block's chunks. -/
theorem total_at (r : Fin 256) (l : Fin 1024) :
    k0_pay5 (F := Ideal) (k0_pay7 (F := Ideal) (iblk m c 2 t) (X0_0 m c t) (iblk m c 3 t)) (k0_pay9 (F := Ideal) (iblk m c 4 t))
        (k0_pay11 (F := Ideal)) (k0_pay14 (F := Ideal) (iblk m c 2 t) (X0_0 m c t) (iblk m c 3 t)) (ix2 r l)
      = totals (m ((c : Thread nD τ).loc main_arg0)) (m ((c : Thread nD τ).loc main_arg1)) (m ((c : Thread nD τ).loc main_arg2)) (ix2 (row t r) (col t l)) := by
  refine (pay5_at _ _ _ _ (pay14_at _ _ _) r l).trans ?_
  refine (Finset.sum_congr rfl fun k _ => congrArg (_ * ·) ((pay9_at _ k l).trans (blk_ones m c t k l))).trans ?_
  refine (Heads.pick _ _).trans ?_
  refine Finset.sum_congr rfl fun j _ => ?_
  rw [pay11_at, decay_at m c t _ l (mate (row t r) j) (mate_val t r j), one_mul]
  rfl

/-- The strengths of a block. -/
theorem strength_at (r : Fin 256) (l : Fin 1024) :
    k0_pay6 (F := Ideal) (k0_pay8 (F := Ideal) (X0_1 m c t)) (k0_pay9 (F := Ideal) (iblk m c 4 t)) (ix2 r l)
      = strengths (m ((c : Thread nD τ).loc main_arg0)) (ix2 (row t r) (col t l)) := by
  rw [pay6_at]
  refine (Finset.sum_congr rfl fun k _ => congrArg (_ * ·) ((pay9_at _ k l).trans (blk_ones m c t k l))).trans ?_
  refine (Heads.pick _ _).trans ?_
  rw [blk_b]
  rfl

end Blocks

theorem lanes (y : S256x1024.Idx) : ∃ (r : Fin 256) (l : Fin 1024), y = ix2 r l := ⟨y 0, y 1, by blk_ext⟩

/-- The running sums after the run. -/
theorem final_cums (c : Dev nD) : (dats m 0 c).arrAt 5 cfg0.N = cums (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  dsimp only
  frame_out
  obtain ⟨r, l, rfl⟩ := lanes y
  have he : ((View.whole main_v19_0).slice (win0_5.rect t)).emb (ix2 r l) = (ix2 (row t r) (col t l) : S8192x4096.Idx) := by
    blk_ext [idx t, row, col]
  rw [he]
  exact cum_at m c t r l

/-- The chunks' sums after the run. -/
theorem final_totals (c : Dev nD) : (dats m 0 c).arrAt 6 cfg0.N = totals (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold outsAt0
  dsimp only
  frame_out
  obtain ⟨r, l, rfl⟩ := lanes y
  have he : ((View.whole main_v19_1).slice (win0_6.rect t)).emb (ix2 r l) = (ix2 (row t r) (col t l) : S8192x4096.Idx) := by
    blk_ext [idx t, row, col]
  rw [he]
  exact total_at m c t r l

/-- The strengths after the run. -/
theorem final_strengths (c : Dev nD) : (dats m 0 c).arrAt 7 cfg0.N = strengths (m ((c : Thread nD τ).loc main_arg0)) := by
  refine (dats m 0 c).arrAt_eq_of_covers 7 _ (by decide +kernel) fun t hf y => ?_
  blk_simp
  rw [after0_7]
  unfold outsAt0
  dsimp only
  frame_out
  obtain ⟨r, l, rfl⟩ := lanes y
  have he : ((View.whole main_v19_2).slice (win0_7.rect t)).emb (ix2 r l) = (ix2 (row t r) (col t l) : S8192x4096.Idx) := by
    blk_ext [idx t, row, col]
  rw [he]
  exact strength_at m c t r l

/-- The run, read. -/
theorem run (ρ : Dev nD → PrngReg) : θ_run defs (onTc (τ := τ) (main (F := Ideal))) ⟨m, fun _ => 0, ρ⟩ fun r => ∀ c : Dev nD,
      r.2.mem ((c : Thread nD τ).loc main_v19_0) = cums (m ((c : Thread nD τ).loc main_arg0)) (m ((c : Thread nD τ).loc main_arg1)) (m ((c : Thread nD τ).loc main_arg2))
      ∧ r.2.mem ((c : Thread nD τ).loc main_v19_1) = totals (m ((c : Thread nD τ).loc main_arg0)) (m ((c : Thread nD τ).loc main_arg1)) (m ((c : Thread nD τ).loc main_arg2))
      ∧ r.2.mem ((c : Thread nD τ).loc main_v19_2) = strengths (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_cums m c), (h c).2.1.trans (final_totals m c),
      (h c).2.2.1.trans (final_strengths m c), (h c).2.2.2⟩)
    (Value.run_blocks m ρ)

/-! ## The reference's values at an index -/

section Ref

open Cert.Reference13Ideal.Read

variable (x0 : S8320x256.Idx → EReal) (x1 x2 : S32.Idx → EReal)

theorem ref_softplus (r : Fin 8192) (h : Fin 32) : val_main_v7 (F := Ideal) x0 x2 (ix2 r h)
    = softplus (x0 (ix2 ⟨r.val, by omega⟩ ⟨h.val, by omega⟩) + x2 (ix1 h)) := by
  pointwise [val_main_v0, val_main_v4, val_main_v5, val_main_v6, val_main_v7, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, softplus]
  rw [if_neg (by simp)]
  rfl

theorem ref_decay (r : Fin 8192) (h : Fin 32) : val_main_v10 (F := Ideal) x0 x1 x2 (ix2 r h) = decay x0 x1 x2 ⟨r.val, by omega⟩ h := by
  pointwise [val_main_v2, val_main_v3, val_main_v8, val_main_v9, val_main_v10, ref_softplus, decay]

theorem ref_cum (a : Fin 128) (i : Fin 64) (h : Fin 32) : val_main_v18 (F := Ideal) x0 x1 x2 (ix3 a i h)
    = ∑ k : Fin 64, if k.val ≤ i.val then decay x0 x1 x2 ⟨a.val * 64 + k.val, by omega⟩ h else 0 := by
  unfold val_main_v18
  refine (Heads.cumsum_at _ _ _ _ (fun i => ?_) a i h).trans ?_
  · pointwise [val_main_call1_call0_v0, val_main_call1_call0_cst]
  · refine Finset.sum_congr rfl fun k _ => if_congr Iff.rfl ?_ rfl
    pointwise [val_main_v17, ref_decay]

theorem rows (i : S8192x4096.Idx) : ∃ (b : Fin 8192) (n : Fin 4096), i = ix2 b n := ⟨i 0, i 1, by blk_ext⟩

theorem ref_cums : val_main_v21 (F := Ideal) x0 x1 x2 = cums x0 x1 x2 := by
  funext i
  obtain ⟨b, n, rfl⟩ := rows i
  pointwise [val_main_v19, val_main_v20, val_main_v21]
  exact ref_cum x0 x1 x2 _ _ _

theorem ref_totals : val_main_v26 (F := Ideal) x0 x1 x2 = totals x0 x1 x2 := by
  funext i
  obtain ⟨b, n, rfl⟩ := rows i
  pointwise [val_main_v22, val_main_v23, val_main_v24, val_main_v25, val_main_v26]
  refine (ref_cum x0 x1 x2 _ _ _).trans (Finset.sum_congr rfl fun k _ => (if_pos ?_).trans rfl)
  show k.val ≤ 63
  omega

theorem ref_strengths : val_main_v30 (F := Ideal) x0 = strengths x0 := by
  funext i
  obtain ⟨b, n, rfl⟩ := rows i
  pointwise [val_main_v1, val_main_v11, val_main_v12, val_main_cst, val_main_v13, val_main_v14, val_main_cst_0, val_main_v15, val_main_v16, val_main_v27, val_main_v28, val_main_v29, val_main_v30, strengths, strength, sigm, head]

end Ref

/-! ## The claims -/

/-- The frames: each program runs and leaves its arguments and its semaphores as they were. -/
theorem frame : Cert.quiescent_Kernel13 := fun m ρ _ => Cert.Kernel13.Gen.frame m ρ
theorem frame_ideal : Cert.quiescent_Kernel13Ideal := fun m ρ _ => Cert.Kernel13Ideal.Gen.frame m ρ
theorem frame_ref : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run (F := Ideal) m ρ)

/-- The ideal pass rewrote nothing. -/
theorem preserves : Cert.preserves_Kernel13_Kernel13Ideal := trivial

/-- The kernel computes the reference's running sums, chunk sums and strengths. -/
theorem algebraic : Cert.algebraic_Kernel13Ideal_Reference13Ideal := by
  intro m ρ m' ρ' _ hagree
  refine ⟨fun c => cums (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1))
      (m ((c.tc : Thread Cert.Kernel13Ideal.nD Cert.Kernel13Ideal.τ).loc Cert.Kernel13Ideal.main_arg2)),
    fun c => totals (m ((c.tc : Thread Cert.Kernel13Ideal.nD Cert.Kernel13Ideal.τ).loc Cert.Kernel13Ideal.main_arg0))
      (m ((c.tc : Thread Cert.Kernel13Ideal.nD Cert.Kernel13Ideal.τ).loc Cert.Kernel13Ideal.main_arg1))
      (m ((c.tc : Thread Cert.Kernel13Ideal.nD Cert.Kernel13Ideal.τ).loc Cert.Kernel13Ideal.main_arg2)),
    fun c => strengths (m ((c.tc : Thread Cert.Kernel13Ideal.nD Cert.Kernel13Ideal.τ).loc Cert.Kernel13Ideal.main_arg0)), run m ρ,
    (θ_run Cert.Reference13Ideal.defs _ _).mono (fun _ h c => ⟨(h c).1.trans ?_, (h c).2.1.trans ?_, (h c).2.2.1.trans ?_, (h c).2.2.2⟩)
      (Cert.Reference13Ideal.Value.run (F := Ideal) m' ρ')⟩
  · obtain ⟨e0, e1, e2⟩ := hagree c
    rw [Cert.Reference13Ideal.Read.val_main_v21_eq, e0, e1, e2]
    exact ref_cums _ _ _
  · obtain ⟨e0, e1, e2⟩ := hagree c
    rw [Cert.Reference13Ideal.Read.val_main_v26_eq, e0, e1, e2]
    exact ref_totals _ _ _
  · obtain ⟨e0, e1, e2⟩ := hagree c
    rw [Cert.Reference13Ideal.Read.val_main_v30_eq, e0]
    exact ref_strengths _

end Cert.GatePrompt

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel5
public import proofs.«01_k».proof.Proof.Gen.Kernel5Ideal
public import proofs.«01_k».proof.Proof.Gen.Reference5Ideal
public import proofs.«01_k».proof.Proof.Gen.Kernel7
public import proofs.«01_k».proof.Proof.Gen.Kernel7Ideal
public import proofs.«01_k».proof.Proof.Gen.Reference7Ideal
public import proofs.«01_k».proof.Proof.Gen.Kernel6
public import proofs.«01_k».proof.Proof.Gen.Kernel6Ideal
public import proofs.«01_k».proof.Proof.Gen.Reference6Ideal
public import proofs.«01_k».proof.Proof.Gen.Kernel4
public import proofs.«01_k».proof.Proof.Gen.Kernel4Ideal
public import proofs.«01_k».proof.Proof.Gen.Reference4Ideal
public import proofs.«01_k».proof.Proof.Gen.Kernel10
public import proofs.«01_k».proof.Proof.Gen.Kernel10Ideal
public import proofs.«01_k».proof.Proof.Gen.Reference10Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.LruStep
public import proofs.«01_k».proof.Proof.GdnStep
public import proofs.«01_k».proof.Proof.FfnIn
public import proofs.«01_k».proof.Proof.GdnIn
public import proofs.«01_k».proof.Proof.LruIn
public import proofs.«01_k».proof.Proof.OutProj
public import proofs.«01_k».proof.Proof.FfnOut
public import proofs.«01_k».proof.Proof.FinalNorm
public import proofs.«01_k».proof.Proof.LruPrompt
public import proofs.«01_k».proof.Proof.FfnStep
public import proofs.«01_k».proof.Proof.FfnPrompt
public import proofs.«01_k».proof.Proof.GateStep
public import proofs.«01_k».proof.Proof.GatePrompt

@[expose] public section

noncomputable section

/-! # The certificate

Per call: its three frames, the ideal pass's rewriting (none), and its value, each proved in the call's own module. -/

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel5.Gen.facts,
    Cert.Kernel5Ideal.Gen.facts,
    Cert.Reference5Ideal.Gen.facts,
    Cert.Kernel7.Gen.facts,
    Cert.Kernel7Ideal.Gen.facts,
    Cert.Reference7Ideal.Gen.facts,
    Cert.Kernel6.Gen.facts,
    Cert.Kernel6Ideal.Gen.facts,
    Cert.Reference6Ideal.Gen.facts,
    Cert.Kernel4.Gen.facts,
    Cert.Kernel4Ideal.Gen.facts,
    Cert.Reference4Ideal.Gen.facts,
    Cert.Kernel10.Gen.facts,
    Cert.Kernel10Ideal.Gen.facts,
    Cert.Reference10Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.LruStep.frame, Cert.LruStep.frame_ideal, Cert.LruStep.frame_ref,
    Cert.GdnStep.frame, Cert.GdnStep.frame_ideal, Cert.GdnStep.frame_ref,
    Cert.FfnIn.frame, Cert.FfnIn.frame_ideal, Cert.FfnIn.frame_ref,
    Cert.GdnIn.frame, Cert.GdnIn.frame_ideal, Cert.GdnIn.frame_ref,
    Cert.LruIn.frame, Cert.LruIn.frame_ideal, Cert.LruIn.frame_ref,
    Cert.OutProj.frame, Cert.OutProj.frame_ideal, Cert.OutProj.frame_ref,
    Cert.FfnOut.frame, Cert.FfnOut.frame_ideal, Cert.FfnOut.frame_ref,
    Cert.FinalNorm.frame, Cert.FinalNorm.frame_ideal, Cert.FinalNorm.frame_ref,
    Cert.LruPrompt.frame, Cert.LruPrompt.frame_ideal, Cert.LruPrompt.frame_ref,
    Cert.FfnStep.frame, Cert.FfnStep.frame_ideal, Cert.FfnStep.frame_ref,
    Cert.FfnPrompt.frame, Cert.FfnPrompt.frame_ideal, Cert.FfnPrompt.frame_ref,
    Cert.GateStep.frame, Cert.GateStep.frame_ideal, Cert.GateStep.frame_ref,
    Cert.GatePrompt.frame, Cert.GatePrompt.frame_ideal, Cert.GatePrompt.frame_ref,
    Cert.LruStep.preserves, Cert.LruStep.algebraic,
    Cert.GdnStep.preserves, Cert.GdnStep.algebraic,
    Cert.FfnIn.preserves, Cert.FfnIn.algebraic,
    Cert.GdnIn.preserves, Cert.GdnIn.algebraic,
    Cert.LruIn.preserves, Cert.LruIn.algebraic,
    Cert.OutProj.preserves, Cert.OutProj.algebraic,
    Cert.FfnOut.preserves, Cert.FfnOut.algebraic,
    Cert.FinalNorm.preserves, Cert.FinalNorm.algebraic,
    Cert.LruPrompt.preserves, Cert.LruPrompt.algebraic,
    Cert.FfnStep.preserves, Cert.FfnStep.algebraic,
    Cert.FfnPrompt.preserves, Cert.FfnPrompt.algebraic,
    Cert.GateStep.preserves, Cert.GateStep.algebraic,
    Cert.GatePrompt.preserves, Cert.GatePrompt.algebraic⟩

end Cert.Proof

end
